-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)) (v6 : (c : Dev Cert.Kernel2Ideal.nD) → Buf (Elt Ideal) ((c.tc : Thread Cert.Kernel2Ideal.nD Cert.Kernel2Ideal.τ).loc Cert.Kernel2Ideal.main_v2_6)) (v7 : (c : Dev Cert.Kernel2Ideal.nD) → Buf (Elt Ideal) ((c.tc : Thread Cert.Kernel2Ideal.nD Cert.Kernel2Ideal.τ).loc Cert.Kernel2Ideal.main_v2_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_v2_6) = v6 c
          ∧ r.2.mem ((c.tc : Thread Cert.Kernel2Ideal.nD Cert.Kernel2Ideal.τ).loc Cert.Kernel2Ideal.main_v2_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_v36) = v6 c
          ∧ r.2.mem ((c.tc : Thread Cert.Reference2Ideal.nD Cert.Reference2Ideal.τ).loc Cert.Reference2Ideal.main_v28) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_v69) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
-- ==== Pre_finite.lean ====
abbrev S8x4096x1024 : Shape := ⟨3, ![8, 4096, 1024]⟩
abbrev S8x1x8x512x128 : Shape := ⟨5, ![8, 1, 8, 512, 128]⟩
abbrev S1x4x64 : Shape := ⟨3, ![1, 4, 64]⟩
abbrev S1x128 : Shape := ⟨2, ![1, 128]⟩
abbrev S_ : Shape := ⟨0, ![]⟩

class Facts : Prop where
  bcast_S_S8x4096x1024 : S_.BroadcastsInDim S8x4096x1024 (![] : Fin 0 → Fin S8x4096x1024.rank)
  bcast_S_S8x1x8x512x128 : S_.BroadcastsInDim S8x1x8x512x128 (![] : Fin 0 → Fin S8x1x8x512x128.rank)
  bcast_S_S1x4x64 : S_.BroadcastsInDim S1x4x64 (![] : Fin 0 → Fin S1x4x64.rank)

variable [Facts]

def fn {F : FTy → Type} [FloatOps F] (main_arg0 : FVec F S8x4096x1024 .f32) (main_arg1 : FVec F S8x4096x1024 .f32) (main_arg2 : FVec F S8x4096x1024 .f32) (main_arg3 : FVec F S8x4096x1024 .f32) (main_arg4 : FVec F S8x1x8x512x128 .f32) (main_arg5 : FVec F S8x1x8x512x128 .f32) (main_arg6 : FVec F S1x4x64 .f32) (main_arg7 : FVec F S1x128 .f32) : IVec S8x4096x1024 1 × IVec S8x4096x1024 1 × IVec S8x4096x1024 1 × IVec S8x1x8x512x128 1 × IVec S8x1x8x512x128 1 × IVec S1x4x64 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x1024 .f32 := Host.absf main_arg1
  let main_cst_0 : FVec F S_ .f32 := constant S_ .f32 0x7F800000#32
  let main_v4 : FVec F S8x4096x1024 .f32 := broadcastInDim S8x4096x1024 ![] bcast_S_S8x4096x1024 main_cst_0
  let main_v5 : IVec S8x4096x1024 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S8x1x8x512x128 .f32 := Host.absf main_arg4
  let main_cst_2 : FVec F S_ .f32 := constant S_ .f32 0x7F800000#32
  let main_v10 : FVec F S8x1x8x512x128 .f32 := broadcastInDim S8x1x8x512x128 ![] bcast_S_S8x1x8x512x128 main_cst_2
  let main_v11 : IVec S8x1x8x512x128 1 := cmpf .olt main_v9 main_v10
  let main_v12 : FVec F S8x1x8x512x128 .f32 := Host.absf main_arg5
  let main_cst_3 : FVec F S_ .f32 := constant S_ .f32 0x7F800000#32
  let main_v13 : FVec F S8x1x8x512x128 .f32 := broadcastInDim S8x1x8x512x128 ![] bcast_S_S8x1x8x512x128 main_cst_3
  let main_v14 : IVec S8x1x8x512x128 1 := cmpf .olt main_v12 main_v13
  let main_v15 : FVec F S1x4x64 .f32 := Host.absf main_arg6
  let main_cst_4 : FVec F S_ .f32 := constant S_ .f32 0x7F800000#32
  let main_v16 : FVec F S1x4x64 .f32 := broadcastInDim S1x4x64 ![] bcast_S_S1x4x64 main_cst_4
  let main_v17 : IVec S1x4x64 1 := cmpf .olt main_v15 main_v16
  (main_v2, main_v5, main_v8, main_v11, main_v14, main_v17)
-- ==== Pre_finite6.lean ====
abbrev S8x4096x1024 : Shape := ⟨3, ![8, 4096, 1024]⟩
abbrev S8x1x3072 : Shape := ⟨3, ![8, 1, 3072]⟩
abbrev S1x4x256x256 : Shape := ⟨4, ![1, 4, 256, 256]⟩
abbrev S1x1024 : Shape := ⟨2, ![1, 1024]⟩
abbrev S1x2048x1024 : Shape := ⟨3, ![1, 2048, 1024]⟩
abbrev S_ : Shape := ⟨0, ![]⟩

class Facts : Prop where
  bcast_S_S8x4096x1024 : S_.BroadcastsInDim S8x4096x1024 (![] : Fin 0 → Fin S8x4096x1024.rank)

variable [Facts]

def fn {F : FTy → Type} [FloatOps F] (main_arg0 : FVec F S8x4096x1024 .bf16) (main_arg1 : FVec F S8x4096x1024 .f32) (main_arg2 : FVec F S8x4096x1024 .f32) (main_arg3 : FVec F S8x4096x1024 .f32) (main_arg4 : FVec F S8x1x3072 .f32) (main_arg5 : FVec F S1x4x256x256 .f32) (main_arg6 : FVec F S1x1024 .f32) (main_arg7 : FVec F S1x2048x1024 .f32) : IVec S8x4096x1024 1 :=
  let main_v0 : FVec F S8x4096x1024 .f32 := Host.absf main_arg1
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  main_v2
-- ==== Kernel.lean ====
abbrev S8x4096x1024 : Shape := ⟨3, ![8, 4096, 1024]⟩
abbrev S8x1x8x512x128 : Shape := ⟨5, ![8, 1, 8, 512, 128]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S8x8x512x128 : Shape := ⟨4, ![8, 8, 512, 128]⟩
abbrev S1x1024x128 : Shape := ⟨3, ![1, 1024, 128]⟩
abbrev S1x4096x128 : Shape := ⟨3, ![1, 4096, 128]⟩
abbrev S1x1x512x128 : Shape := ⟨4, ![1, 1, 512, 128]⟩
abbrev S1x4608x128 : Shape := ⟨3, ![1, 4608, 128]⟩
abbrev S1x4608x256 : Shape := ⟨3, ![1, 4608, 256]⟩
abbrev S4096x128 : Shape := ⟨2, ![4096, 128]⟩
abbrev S512x128 : Shape := ⟨2, ![512, 128]⟩
abbrev S1x512x128 : Shape := ⟨3, ![1, 512, 128]⟩
abbrev S4608x128 : Shape := ⟨2, ![4608, 128]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S1x128x128 : Shape := ⟨3, ![1, 128, 128]⟩
abbrev S256x128 : Shape := ⟨2, ![256, 128]⟩
abbrev S256x4608 : Shape := ⟨2, ![256, 4608]⟩
abbrev S256 : Shape := ⟨1, ![256]⟩
abbrev S256x1 : Shape := ⟨2, ![256, 1]⟩
abbrev S4608x256 : Shape := ⟨2, ![4608, 256]⟩
abbrev S256x256 : Shape := ⟨2, ![256, 256]⟩
abbrev S128x1 : Shape := ⟨2, ![128, 1]⟩

abbrev nBuf : Space → Nat
  | .hbm => 18
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x1x8x512x128, .f32⟩
  | .hbm, ⟨5, _⟩ => ⟨S8x1x8x512x128, .f32⟩
  | .hbm, ⟨6, _⟩ => ⟨S1x4x64, .f32⟩
  | .hbm, ⟨7, _⟩ => ⟨S1x128, .f32⟩
  | .hbm, ⟨8, _⟩ => ⟨S8x4096x1024, .bf16⟩
  | .hbm, ⟨9, _⟩ => ⟨S8x4096x1024, .bf16⟩
  | .hbm, ⟨10, _⟩ => ⟨S4x64, .f32⟩
  | .hbm, ⟨11, _⟩ => ⟨S128, .f32⟩
  | .hbm, ⟨12, _⟩ => ⟨S1x128, .f32⟩
  | .hbm, ⟨13, _⟩ => ⟨S8x8x512x128, .f32⟩
  | .hbm, ⟨14, _⟩ => ⟨S8x8x512x128, .bf16⟩
  | .hbm, ⟨15, _⟩ => ⟨S8x8x512x128, .f32⟩
  | .hbm, ⟨16, _⟩ => ⟨S8x8x512x128, .bf16⟩
  | .hbm, ⟨17, _⟩ => ⟨S8x4096x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x512x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x1024x128, .f32⟩
  | .local _ .vmem, ⟨11, _⟩ => ⟨S1x1024x128, .f32⟩
  | .local _ .vmem, ⟨12, _⟩ => ⟨S4x64, .f32⟩
  | .local _ .vmem, ⟨13, _⟩ => ⟨S1x128, .f32⟩
  | .local _ .vmem, ⟨14, _⟩ => ⟨S1x1024x128, .bf16⟩
  | .local _ .vmem, ⟨15, _⟩ => ⟨S1x1024x128, .bf16⟩
  | .local _ .vmem, ⟨16, _⟩ => ⟨S1x4608x128, .bf16⟩
  | .local _ .vmem, ⟨17, _⟩ => ⟨S1x4608x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S8x4096x1024 : Shape := ⟨3, ![8, 4096, 1024]⟩
abbrev S8x1x8x512x128 : Shape := ⟨5, ![8, 1, 8, 512, 128]⟩
abbrev S1x4x64 : Shape := ⟨3, ![1, 4, 64]⟩
abbrev S1x128 : Shape := ⟨2, ![1, 128]⟩
abbrev S8x4096x8x2x64 : Shape := ⟨5, ![8, 4096, 8, 2, 64]⟩
abbrev S8x8x2x4096x64 : Shape := ⟨5, ![8, 8, 2, 4096, 64]⟩
abbrev S8x4096x8x128 : Shape := ⟨4, ![8, 4096, 8, 128]⟩
abbrev S8x8x4096x128 : Shape := ⟨4, ![8, 8, 4096, 128]⟩
abbrev S8x8x512x128 : Shape := ⟨4, ![8, 8, 512, 128]⟩
abbrev S8x8x512x2x64 : Shape := ⟨5, ![8, 8, 512, 2, 64]⟩
abbrev S8x8x2x512x64 : Shape := ⟨5, ![8, 8, 2, 512, 64]⟩
abbrev S8x8x2x4608x64 : Shape := ⟨5, ![8, 8, 2, 4608, 64]⟩
abbrev S8x8x4608x128 : Shape := ⟨4, ![8, 8, 4608, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S8x8x2x4096x4608 : Shape := ⟨5, ![8, 8, 2, 4096, 4608]⟩
abbrev S8x8x2x4096 : Shape := ⟨4, ![8, 8, 2, 4096]⟩
abbrev S8x8x2x4096x1 : Shape := ⟨5, ![8, 8, 2, 4096, 1]⟩
abbrev S8x8x1x4096x4608 : Shape := ⟨5, ![8, 8, 1, 4096, 4608]⟩
abbrev S8x8x4096x4608 : Shape := ⟨4, ![8, 8, 4096, 4608]⟩
abbrev S8x8x4096 : Shape := ⟨3, ![8, 8, 4096]⟩
abbrev S8x8x4096x1 : Shape := ⟨4, ![8, 8, 4096, 1]⟩
abbrev S128 : Shape := ⟨1, ![128]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x1x8x512x128, .f32⟩
  | .hbm, ⟨5, _⟩ => ⟨S8x1x8x512x128, .f32⟩
  | .hbm, ⟨6, _⟩ => ⟨S1x4x64, .f32⟩
  | .hbm, ⟨7, _⟩ => ⟨S1x128, .f32⟩
  | .hbm, ⟨8, _⟩ => ⟨S8x4096x8x2x64, .f32⟩
  | .hbm, ⟨9, _⟩ => ⟨S8x8x2x4096x64, .f32⟩
  | .hbm, ⟨10, _⟩ => ⟨S8x4096x8x2x64, .f32⟩
  | .hbm, ⟨11, _⟩ => ⟨S8x8x2x4096x64, .f32⟩
  | .hbm, ⟨12, _⟩ => ⟨S8x4096x8x128, .f32⟩
  | .hbm, ⟨13, _⟩ => ⟨S8x8x4096x128, .f32⟩
  | .hbm, ⟨14, _⟩ => ⟨S8x8x512x128, .f32⟩
  | .hbm, ⟨15, _⟩ => ⟨S8x8x512x128, .f32⟩
  | .hbm, ⟨16, _⟩ => ⟨S8x8x512x2x64, .f32⟩
  | .hbm, ⟨17, _⟩ => ⟨S8x8x2x512x64, .f32⟩
  | .hbm, ⟨18, _⟩ => ⟨S8x8x2x4608x64, .f32⟩
  | .hbm, ⟨19, _⟩ => ⟨S8x8x4608x128, .f32⟩
  | .hbm, ⟨20, _⟩ => ⟨S4x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x8x2x4096x4608, .f32⟩
  | .hbm, ⟨41, _⟩ => ⟨S_, .f32⟩
  | .hbm, ⟨42, _⟩ => ⟨S8x8x2x4096x4608, .f32⟩
  | .hbm, ⟨43, _⟩ => ⟨S8x8x2x4096x4608, .f32⟩
  | .hbm, ⟨44, _⟩ => ⟨S_, .f32⟩
  | .hbm, ⟨45, _⟩ => ⟨S8x8x2x4096, .f32⟩
  | .hbm, ⟨46, _⟩ => ⟨S_, .f32⟩
  | .hbm, ⟨47, _⟩ => ⟨S8x8x2x4096, .f32⟩
  | .hbm, ⟨48, _⟩ => ⟨S8x8x2x4096, .f32⟩
  | .hbm, ⟨49, _⟩ => ⟨S8x8x2x4096x1, .f32⟩
  | .hbm, ⟨50, _⟩ => ⟨S8x8x2x4096x4608, .f32⟩
  | .hbm, ⟨51, _⟩ => ⟨S8x8x2x4096x4608, .f32⟩
  | .hbm, ⟨52, _⟩ => ⟨S8x8x2x4096x4608, .f32⟩
  | .hbm, ⟨53, _⟩ => ⟨S_, .f32⟩
  | .hbm, ⟨54, _⟩ => ⟨S8x8x2x4096, .f32⟩
  | .hbm, ⟨55, _⟩ => ⟨S8x8x2x4096x1, .f32⟩
  | .hbm, ⟨56, _⟩ => ⟨S8x8x2x4096x4608, .f32⟩
  | .hbm, ⟨57, _⟩ => ⟨S8x8x2x4096x4608, .f32⟩
  | .hbm, ⟨58, _⟩ => ⟨S8x8x1x4096x4608, .f32⟩
  | .hbm, ⟨59, _⟩ => ⟨S8x8x4096x4608, .f32⟩
  | .hbm, ⟨60, _⟩ => ⟨S8x8x1x4096x4608, .f32⟩
  | .hbm, ⟨61, _⟩ => ⟨S8x8x4096x4608, .f32⟩
  | .hbm, ⟨62, _⟩ => ⟨S8x8x4096x4608, .f32⟩
  | .hbm, ⟨63, _⟩ => ⟨S8x8x4096x4608, .f32⟩
  | .hbm, ⟨64, _⟩ => ⟨S8x8x4096x4608, .f32⟩
  | .hbm, ⟨65, _⟩ => ⟨S8x8x4096x128, .f32⟩
  | .hbm, ⟨66, _⟩ => ⟨S8x8x4096x128, .f32⟩
  | .hbm, ⟨67, _⟩ => ⟨S_, .f32⟩
  | .hbm, ⟨68, _⟩ => ⟨S8x8x4096, .f32⟩
  | .hbm, ⟨69, _⟩ => ⟨S8x8x4096x1, .f32⟩
  | .hbm, ⟨70, _⟩ => ⟨S_, .f32⟩
  | .hbm, ⟨71, _⟩ => ⟨S8x8x4096x1, .f32⟩
  | .hbm, ⟨72, _⟩ => ⟨S8x8x4096x1, .f32⟩
  | .hbm, ⟨73, _⟩ => ⟨S_, .f32⟩
  | .hbm, ⟨74, _⟩ => ⟨S8x8x4096x1, .f32⟩
  | .hbm, ⟨75, _⟩ => ⟨S8x8x4096x1, .f32⟩
  | .hbm, ⟨76, _⟩ => ⟨S8x8x4096x1, .f32⟩
  | .hbm, ⟨77, _⟩ => ⟨S8x8x4096x128, .f32⟩
  | .hbm, ⟨78, _⟩ => ⟨S8x8x4096x128, .f32⟩
  | .hbm, ⟨79, _⟩ => ⟨S128, .f32⟩
  | .hbm, ⟨80, _⟩ => ⟨S1x1x1x128, .f32⟩
  | .hbm, ⟨81, _⟩ => ⟨S8x8x4096x128, .f32⟩
  | .hbm, ⟨82, _⟩ => ⟨S8x8x4096x128, .f32⟩
  | .hbm, ⟨83, _⟩ => ⟨S_, .f32⟩
  | .hbm, ⟨84, _⟩ => ⟨S8x8x4096x128, .f32⟩
  | .hbm, ⟨85, _⟩ => ⟨S8x8x4096x128, .f32⟩
  | .hbm, ⟨86, _⟩ => ⟨S8x4096x8x128, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S_, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel2.lean ====
abbrev S16x256x1024 : Shape := ⟨3, ![16, 256, 1024]⟩
abbrev S1x1x3072 : Shape := ⟨3, ![1, 1, 3072]⟩
abbrev S1x1024x6656 : Shape := ⟨3, ![1, 1024, 6656]⟩
abbrev S1024x6656 : Shape := ⟨2, ![1024, 6656]⟩
abbrev S16x8x256x128 : Shape := ⟨4, ![16, 8, 256, 128]⟩
abbrev S16x4x256x64 : Shape := ⟨4, ![16, 4, 256, 64]⟩
abbrev S1x256x1024 : Shape := ⟨3, ![1, 256, 1024]⟩
abbrev S1x8x256x128 : Shape := ⟨4, ![1, 8, 256, 128]⟩
abbrev S1x4x256x64 : Shape := ⟨4, ![1, 4, 256, 64]⟩
abbrev S256x1024 : Shape := ⟨2, ![256, 1024]⟩
abbrev S1x3072 : Shape := ⟨2, ![1, 3072]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩
abbrev S1x1x256x128 : Shape := ⟨4, ![1, 1, 256, 128]⟩
abbrev S1024x256 : Shape := ⟨2, ![1024, 256]⟩
abbrev S256x256 : Shape := ⟨2, ![256, 256]⟩
abbrev S256x64 : Shape := ⟨2, ![256, 64]⟩
abbrev S1x1x256x64 : Shape := ⟨4, ![1, 1, 256, 64]⟩

abbrev nBuf : Space → Nat
  | .hbm => 13
  | .vmem => 20
  | .smem => 0
  | _ => 0

abbrev bufTy : (tb : Table) → Fin (tcTables nBuf tb) → BufTy
  | .hbm, ⟨0, _⟩ => ⟨S16x256x1024, .f32⟩
  | .hbm, ⟨1, _⟩ => ⟨S1x1x3072, .f32⟩
  | .hbm, ⟨2, _⟩ => ⟨S1x1024x6656, .f32⟩
  | .hbm, ⟨3, _⟩ => ⟨S1024x6656, .f32⟩
  | .hbm, ⟨4, _⟩ => ⟨S1024x6656, .bf16⟩
  | .hbm, ⟨5, _⟩ => ⟨S16x256x1024, .f32⟩
  | .hbm, ⟨6, _⟩ => ⟨S16x8x256x128, .f32⟩
  | .hbm, ⟨7, _⟩ => ⟨S16x8x256x128, .f32⟩
  | .hbm, ⟨8, _⟩ => ⟨S16x256x1024, .f32⟩
  | .hbm, ⟨9, _⟩ => ⟨S16x256x1024, .f32⟩
  | .hbm, ⟨10, _⟩ => ⟨S16x4x256x64, .f32⟩
  | .hbm, ⟨11, _⟩ => ⟨S16x4x256x64, .f32⟩
  | .hbm, ⟨12, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1024x6656, .bf16⟩
  | .local _ .vmem, ⟨4, _⟩ => ⟨S1x256x1024, .f32⟩
  | .local _ .vmem, ⟨5, _⟩ => ⟨S1x256x1024, .f32⟩
  | .local _ .vmem, ⟨6, _⟩ => ⟨S1x8x256x128, .f32⟩
  | .local _ .vmem, ⟨7, _⟩ => ⟨S1x8x256x128, .f32⟩
  | .local _ .vmem, ⟨8, _⟩ => ⟨S1x8x256x128, .f32⟩
  | .local _ .vmem, ⟨9, _⟩ => ⟨S1x8x256x128, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x4x256x64, .f32⟩
  | .local _ .vmem, ⟨15, _⟩ => ⟨S1x4x256x64, .f32⟩
  | .local _ .vmem, ⟨16, _⟩ => ⟨S1x4x256x64, .f32⟩
  | .local _ .vmem, ⟨17, _⟩ => ⟨S1x4x256x64, .f32⟩
  | .local _ .vmem, ⟨18, _⟩ => ⟨S1x256x1024, .f32⟩
  | .local _ .vmem, ⟨19, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x256x1024 : Shape := ⟨3, ![16, 256, 1024]⟩
abbrev S1x1x3072 : Shape := ⟨3, ![1, 1, 3072]⟩
abbrev S1x1024x6656 : Shape := ⟨3, ![1, 1024, 6656]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1024x6656 : Shape := ⟨2, ![1024, 6656]⟩
abbrev S16x256x6656 : Shape := ⟨3, ![16, 256, 6656]⟩
abbrev S16x256x256 : Shape := ⟨3, ![16, 256, 256]⟩
abbrev S16x256x8x2x64 : Shape := ⟨5, ![16, 256, 8, 2, 64]⟩
abbrev S16x8x2x256x64 : Shape := ⟨5, ![16, 8, 2, 256, 64]⟩
abbrev S16x256x8x128 : Shape := ⟨4, ![16, 256, 8, 128]⟩
abbrev S16x8x256x128 : Shape := ⟨4, ![16, 8, 256, 128]⟩
abbrev S16x256x4x64 : Shape := ⟨4, ![16, 256, 4, 64]⟩
abbrev S16x4x256x64 : Shape := ⟨4, ![16, 4, 256, 64]⟩
abbrev S16x8x256x2x64 : Shape := ⟨5, ![16, 8, 256, 2, 64]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x3072, .f32⟩
  | .hbm, ⟨2, _⟩ => ⟨S1x1024x6656, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S_, .f32⟩
  | .hbm, ⟨20, _⟩ => ⟨S1x1x1024, .f32⟩
  | .hbm, ⟨21, _⟩ => ⟨S1x1x1024, .f32⟩
  | .hbm, ⟨22, _⟩ => ⟨S16x256x1024, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S1024x6656, .f32⟩
  | .hbm, ⟨27, _⟩ => ⟨S16x256x6656, .f32⟩
  | .hbm, ⟨28, _⟩ => ⟨S16x256x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x256, .f32⟩
  | .hbm, ⟨34, _⟩ => ⟨S16x256x256, .f32⟩
  | .hbm, ⟨35, _⟩ => ⟨S16x256x1024, .f32⟩
  | .hbm, ⟨36, _⟩ => ⟨S16x256x8x2x64, .f32⟩
  | .hbm, ⟨37, _⟩ => ⟨S16x8x2x256x64, .f32⟩
  | .hbm, ⟨38, _⟩ => ⟨S16x256x8x128, .f32⟩
  | .hbm, ⟨39, _⟩ => ⟨S16x8x256x128, .f32⟩
  | .hbm, ⟨40, _⟩ => ⟨S16x256x4x64, .f32⟩
  | .hbm, ⟨41, _⟩ => ⟨S16x4x256x64, .f32⟩
  | .hbm, ⟨42, _⟩ => ⟨S16x256x4x64, .f32⟩
  | .hbm, ⟨43, _⟩ => ⟨S16x4x256x64, .f32⟩
  | .hbm, ⟨44, _⟩ => ⟨S16x8x256x2x64, .f32⟩
  | .hbm, ⟨45, _⟩ => ⟨S16x8x256x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x3072 : Shape := ⟨3, ![8, 1, 3072]⟩
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x512x1024 : Shape := ⟨3, ![1, 512, 1024]⟩
abbrev S1x1x3072 : Shape := ⟨3, ![1, 1, 3072]⟩
abbrev S512x1024 : Shape := ⟨2, ![512, 1024]⟩
abbrev S1024x1024 : Shape := ⟨2, ![1024, 1024]⟩
abbrev S1x3072 : Shape := ⟨2, ![1, 3072]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .f32⟩
  | .hbm, ⟨3, _⟩ => ⟨S8x1x3072, .f32⟩
  | .hbm, ⟨4, _⟩ => ⟨S1x2048x1024, .f32⟩
  | .hbm, ⟨5, _⟩ => ⟨S1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x3072, .f32⟩
  | .local _ .vmem, ⟨7, _⟩ => ⟨S1x1x3072, .f32⟩
  | .local _ .vmem, ⟨8, _⟩ => ⟨S2048x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
abbrev S8x4096x1024 : Shape := ⟨3, ![8, 4096, 1024]⟩
abbrev S8x1x3072 : Shape := ⟨3, ![8, 1, 3072]⟩
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x512x1024 : Shape := ⟨3, ![1, 512, 1024]⟩
abbrev S1x1x3072 : Shape := ⟨3, ![1, 1, 3072]⟩
abbrev S512x1024 : Shape := ⟨2, ![512, 1024]⟩
abbrev S1024x1024 : Shape := ⟨2, ![1024, 1024]⟩
abbrev S1x3072 : Shape := ⟨2, ![1, 3072]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .f32⟩
  | .hbm, ⟨3, _⟩ => ⟨S8x1x3072, .f32⟩
  | .hbm, ⟨4, _⟩ => ⟨S1x2048x1024, .f32⟩
  | .hbm, ⟨5, _⟩ => ⟨S1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x3072, .f32⟩
  | .local _ .vmem, ⟨7, _⟩ => ⟨S1x1x3072, .f32⟩
  | .local _ .vmem, ⟨8, _⟩ => ⟨S2048x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x4096x1024 : Shape := ⟨3, ![8, 4096, 1024]⟩
abbrev S8x1x3072 : Shape := ⟨3, ![8, 1, 3072]⟩
abbrev S1x2048x1024 : Shape := ⟨3, ![1, 2048, 1024]⟩
abbrev S1024 : Shape := ⟨1, ![1024]⟩
abbrev S8x1x1024 : Shape := ⟨3, ![8, 1, 1024]⟩
abbrev S8x4096x2048 : Shape := ⟨3, ![8, 4096, 2048]⟩
abbrev S2048x1024 : Shape := ⟨2, ![2048, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .f32⟩
  | .hbm, ⟨3, _⟩ => ⟨S8x1x3072, .f32⟩
  | .hbm, ⟨4, _⟩ => ⟨S1x2048x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S8x4096x2048, .f32⟩
  | .hbm, ⟨12, _⟩ => ⟨S2048x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x3072 : Shape := ⟨3, ![8, 1, 3072]⟩
abbrev S1x1024x5152 : Shape := ⟨3, ![1, 1024, 5152]⟩
abbrev S1x5x2048 : Shape := ⟨3, ![1, 5, 2048]⟩
abbrev S1x2048 : Shape := ⟨2, ![1, 2048]⟩
abbrev S1024x5152 : Shape := ⟨2, ![1024, 5152]⟩
abbrev S1024x3072 : Shape := ⟨2, ![1024, 3072]⟩
abbrev S1024x2048 : Shape := ⟨2, ![1024, 2048]⟩
abbrev S1024x32 : Shape := ⟨2, ![1024, 32]⟩
abbrev S_ : Shape := ⟨0, ![]⟩
abbrev S1024x96 : Shape := ⟨2, ![1024, 96]⟩
abbrev S1024x5248 : Shape := ⟨2, ![1024, 5248]⟩
abbrev S5x2048 : Shape := ⟨2, ![5, 2048]⟩
abbrev S2048 : Shape := ⟨1, ![2048]⟩
abbrev S8x4096x2048 : Shape := ⟨3, ![8, 4096, 2048]⟩
abbrev S8x4096x128 : Shape := ⟨3, ![8, 4096, 128]⟩
abbrev S1x512x1024 : Shape := ⟨3, ![1, 512, 1024]⟩
abbrev S1x8x1024 : Shape := ⟨3, ![1, 8, 1024]⟩
abbrev S1x1x3072 : Shape := ⟨3, ![1, 1, 3072]⟩
abbrev S1x512x2048 : Shape := ⟨3, ![1, 512, 2048]⟩
abbrev S1x512x128 : Shape := ⟨3, ![1, 512, 128]⟩
abbrev S528x2048 : Shape := ⟨2, ![528, 2048]⟩
abbrev S1x3072 : Shape := ⟨2, ![1, 3072]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S512x128 : Shape := ⟨2, ![512, 128]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S512x2048 : Shape := ⟨2, ![512, 2048]⟩

abbrev nBuf : Space → Nat
  | .hbm => 21
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x1x3072, .f32⟩
  | .hbm, ⟨2, _⟩ => ⟨S1x1024x5152, .f32⟩
  | .hbm, ⟨3, _⟩ => ⟨S1x5x2048, .f32⟩
  | .hbm, ⟨4, _⟩ => ⟨S1x2048, .f32⟩
  | .hbm, ⟨5, _⟩ => ⟨S1024x5152, .f32⟩
  | .hbm, ⟨6, _⟩ => ⟨S1024x3072, .f32⟩
  | .hbm, ⟨7, _⟩ => ⟨S1024x2048, .f32⟩
  | .hbm, ⟨8, _⟩ => ⟨S1024x32, .f32⟩
  | .hbm, ⟨9, _⟩ => ⟨S_, .f32⟩
  | .hbm, ⟨10, _⟩ => ⟨S1024x96, .f32⟩
  | .hbm, ⟨11, _⟩ => ⟨S1024x5248, .f32⟩
  | .hbm, ⟨12, _⟩ => ⟨S1024x5248, .bf16⟩
  | .hbm, ⟨13, _⟩ => ⟨S5x2048, .f32⟩
  | .hbm, ⟨14, _⟩ => ⟨S2048, .f32⟩
  | .hbm, ⟨15, _⟩ => ⟨S1x2048, .f32⟩
  | .hbm, ⟨16, _⟩ => ⟨S8x4096x1024, .f32⟩
  | .hbm, ⟨17, _⟩ => ⟨S8x4096x2048, .f32⟩
  | .hbm, ⟨18, _⟩ => ⟨S8x4096x1024, .f32⟩
  | .hbm, ⟨19, _⟩ => ⟨S8x4096x1024, .f32⟩
  | .hbm, ⟨20, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x3072, .f32⟩
  | .local _ .vmem, ⟨7, _⟩ => ⟨S1x1x3072, .f32⟩
  | .local _ .vmem, ⟨8, _⟩ => ⟨S1024x5248, .bf16⟩
  | .local _ .vmem, ⟨9, _⟩ => ⟨S5x2048, .f32⟩
  | .local _ .vmem, ⟨10, _⟩ => ⟨S1x2048, .f32⟩
  | .local _ .vmem, ⟨11, _⟩ => ⟨S1x512x1024, .f32⟩
  | .local _ .vmem, ⟨12, _⟩ => ⟨S1x512x1024, .f32⟩
  | .local _ .vmem, ⟨13, _⟩ => ⟨S1x512x2048, .f32⟩
  | .local _ .vmem, ⟨14, _⟩ => ⟨S1x512x2048, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x128, .f32⟩
  | .local _ .vmem, ⟨20, _⟩ => ⟨S1x512x128, .f32⟩
  | .local _ .vmem, ⟨21, _⟩ => ⟨S528x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8x4096x1024 : Shape := ⟨3, ![8, 4096, 1024]⟩
abbrev S8x1x3072 : Shape := ⟨3, ![8, 1, 3072]⟩
abbrev S1x1024x5152 : Shape := ⟨3, ![1, 1024, 5152]⟩
abbrev S1x5x2048 : Shape := ⟨3, ![1, 5, 2048]⟩
abbrev S1x2048 : Shape := ⟨2, ![1, 2048]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1024x5152 : Shape := ⟨2, ![1024, 5152]⟩
abbrev S8x4096x5152 : Shape := ⟨3, ![8, 4096, 5152]⟩
abbrev S8x4096x2048 : Shape := ⟨3, ![8, 4096, 2048]⟩
abbrev S8x4096x32 : Shape := ⟨3, ![8, 4096, 32]⟩
abbrev S8x4100x2048 : Shape := ⟨3, ![8, 4100, 2048]⟩
abbrev S5x2048 : Shape := ⟨2, ![5, 2048]⟩
abbrev S2048 : Shape := ⟨1, ![2048]⟩
abbrev S1x1x2048 : Shape := ⟨3, ![1, 1, 2048]⟩
abbrev S8x4096x128 : Shape := ⟨3, ![8, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x3072, .f32⟩
  | .hbm, ⟨2, _⟩ => ⟨S1x1024x5152, .f32⟩
  | .hbm, ⟨3, _⟩ => ⟨S1x5x2048, .f32⟩
  | .hbm, ⟨4, _⟩ => ⟨S1x2048, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x5152, .f32⟩
  | .hbm, ⟨29, _⟩ => ⟨S8x4096x5152, .f32⟩
  | .hbm, ⟨30, _⟩ => ⟨S8x4096x1024, .f32⟩
  | .hbm, ⟨31, _⟩ => ⟨S8x4096x2048, .f32⟩
  | .hbm, ⟨32, _⟩ => ⟨S8x4096x32, .f32⟩
  | .hbm, ⟨33, _⟩ => ⟨S8x4096x1024, .f32⟩
  | .hbm, ⟨34, _⟩ => ⟨S8x4096x1024, .f32⟩
  | .hbm, ⟨35, _⟩ => ⟨S_, .i32⟩
  | .hbm, ⟨36, _⟩ => ⟨S_, .f32⟩
  | .hbm, ⟨37, _⟩ => ⟨S8x4100x2048, .f32⟩
  | .hbm, ⟨38, _⟩ => ⟨S5x2048, .f32⟩
  | .hbm, ⟨39, _⟩ => ⟨S8x4096x2048, .f32⟩
  | .hbm, ⟨40, _⟩ => ⟨S1x2048, .f32⟩
  | .hbm, ⟨41, _⟩ => ⟨S2048, .f32⟩
  | .hbm, ⟨42, _⟩ => ⟨S1x1x2048, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S8x4096x2048, .f32⟩
  | .hbm, ⟨53, _⟩ => ⟨S8x4096x2048, .f32⟩
  | .hbm, ⟨54, _⟩ => ⟨S8x4096x2048, .f32⟩
  | .hbm, ⟨55, _⟩ => ⟨S8x4096x2048, .f32⟩
  | .hbm, ⟨56, _⟩ => ⟨S1x2048, .f32⟩
  | .hbm, ⟨57, _⟩ => ⟨S2048, .f32⟩
  | .hbm, ⟨58, _⟩ => ⟨S1x1x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S1x2048, .f32⟩
  | .hbm, ⟨64, _⟩ => ⟨S2048, .f32⟩
  | .hbm, ⟨65, _⟩ => ⟨S1x1x2048, .f32⟩
  | .hbm, ⟨66, _⟩ => ⟨S8x4096x2048, .f32⟩
  | .hbm, ⟨67, _⟩ => ⟨S8x4096x2048, .f32⟩
  | .hbm, ⟨68, _⟩ => ⟨S8x4096x2048, .f32⟩
  | .hbm, ⟨69, _⟩ => ⟨S8x4096x2048, .f32⟩
  | .hbm, ⟨70, _⟩ => ⟨S1x2048, .f32⟩
  | .hbm, ⟨71, _⟩ => ⟨S2048, .f32⟩
  | .hbm, ⟨72, _⟩ => ⟨S1x1x2048, .f32⟩
  | .hbm, ⟨73, _⟩ => ⟨S8x4096x2048, .f32⟩
  | .hbm, ⟨74, _⟩ => ⟨S8x4096x2048, .f32⟩
  | .hbm, ⟨75, _⟩ => ⟨S8x4096x2048, .f32⟩
  | .hbm, ⟨76, _⟩ => ⟨S2048, .f32⟩
  | .hbm, ⟨77, _⟩ => ⟨S1x1x2048, .f32⟩
  | .hbm, ⟨78, _⟩ => ⟨S8x4096x2048, .f32⟩
  | .hbm, ⟨79, _⟩ => ⟨S8x4096x2048, .f32⟩
  | .hbm, ⟨80, _⟩ => ⟨S8x4096x2048, .f32⟩
  | .hbm, ⟨81, _⟩ => ⟨S8x4096x2048, .f32⟩
  | .hbm, ⟨82, _⟩ => ⟨S_, .f32⟩
  | .hbm, ⟨83, _⟩ => ⟨S8x4096x2048, .f32⟩
  | .hbm, ⟨84, _⟩ => ⟨S8x4096x2048, .f32⟩
  | .hbm, ⟨85, _⟩ => ⟨S_, .f32⟩
  | .hbm, ⟨86, _⟩ => ⟨S8x4096x2048, .f32⟩
  | .hbm, ⟨87, _⟩ => ⟨S8x4096x2048, .f32⟩
  | .hbm, ⟨88, _⟩ => ⟨S8x4096x2048, .f32⟩
  | .hbm, ⟨89, _⟩ => ⟨S_, .i32⟩
  | .hbm, ⟨90, _⟩ => ⟨S_, .f32⟩
  | .hbm, ⟨91, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v68 : Ref sig .tc := ⟨.hbm, 88, rfl⟩
abbrev main_c_4 : Ref sig .tc := ⟨.hbm, 89, rfl⟩
abbrev main_call2_v0 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel5.lean ====
abbrev S16x256x1024 : Shape := ⟨3, ![16, 256, 1024]⟩
abbrev S1x1x3072 : Shape := ⟨3, ![1, 1, 3072]⟩
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1x256x1024 : Shape := ⟨3, ![1, 256, 1024]⟩
abbrev S256x1024 : Shape := ⟨2, ![256, 1024]⟩
abbrev S1024x1024 : Shape := ⟨2, ![1024, 1024]⟩
abbrev S1x3072 : Shape := ⟨2, ![1, 3072]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S16x256x1024, .f32⟩
  | .hbm, ⟨3, _⟩ => ⟨S1x1x3072, .f32⟩
  | .hbm, ⟨4, _⟩ => ⟨S1x2048x1024, .f32⟩
  | .hbm, ⟨5, _⟩ => ⟨S1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S16x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x3072, .f32⟩
  | .local _ .vmem, ⟨7, _⟩ => ⟨S2048x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16x256x1024 : Shape := ⟨3, ![16, 256, 1024]⟩
abbrev S1x1x3072 : Shape := ⟨3, ![1, 1, 3072]⟩
abbrev S1x2048x1024 : Shape := ⟨3, ![1, 2048, 1024]⟩
abbrev S1024 : Shape := ⟨1, ![1024]⟩
abbrev S1x1x1024 : Shape := ⟨3, ![1, 1, 1024]⟩
abbrev S16x256x2048 : Shape := ⟨3, ![16, 256, 2048]⟩
abbrev S2048x1024 : Shape := ⟨2, ![2048, 1024]⟩
abbrev S_ : Shape := ⟨0, ![]⟩
abbrev S16x256 : Shape := ⟨2, ![16, 256]⟩
abbrev S16x256x1 : Shape := ⟨3, ![16, 256, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S16x256x1024, .f32⟩
  | .hbm, ⟨3, _⟩ => ⟨S1x1x3072, .f32⟩
  | .hbm, ⟨4, _⟩ => ⟨S1x2048x1024, .f32⟩
  | .hbm, ⟨5, _⟩ => ⟨S1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S16x256x1024, .f32⟩
  | .hbm, ⟨10, _⟩ => ⟨S16x256x1024, .f32⟩
  | .hbm, ⟨11, _⟩ => ⟨S16x256x2048, .f32⟩
  | .hbm, ⟨12, _⟩ => ⟨S2048x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x1x3072 : Shape := ⟨3, ![8, 1, 3072]⟩
abbrev S1x4x256x256 : Shape := ⟨4, ![1, 4, 256, 256]⟩
abbrev S1x1024 : Shape := ⟨2, ![1, 1024]⟩
abbrev S1x2048x1024 : Shape := ⟨3, ![1, 2048, 1024]⟩
abbrev S4x256x256 : Shape := ⟨3, ![4, 256, 256]⟩
abbrev S1024 : Shape := ⟨1, ![1024]⟩
abbrev S2048x1024 : Shape := ⟨2, ![2048, 1024]⟩
abbrev S1x512x1024 : Shape := ⟨3, ![1, 512, 1024]⟩
abbrev S1x8x1024 : Shape := ⟨3, ![1, 8, 1024]⟩
abbrev S1x1x3072 : Shape := ⟨3, ![1, 1, 3072]⟩
abbrev S528x1024 : Shape := ⟨2, ![528, 1024]⟩
abbrev S512x1024 : Shape := ⟨2, ![512, 1024]⟩
abbrev S8x1024 : Shape := ⟨2, ![8, 1024]⟩
abbrev S512x256 : Shape := ⟨2, ![512, 256]⟩
abbrev S1x256x256 : Shape := ⟨3, ![1, 256, 256]⟩
abbrev S256x256 : Shape := ⟨2, ![256, 256]⟩
abbrev S1024x1024 : Shape := ⟨2, ![1024, 1024]⟩
abbrev S1x3072 : Shape := ⟨2, ![1, 3072]⟩

abbrev nBuf : Space → Nat
  | .hbm => 15
  | .vmem => 20
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x1x3072, .f32⟩
  | .hbm, ⟨5, _⟩ => ⟨S1x4x256x256, .f32⟩
  | .hbm, ⟨6, _⟩ => ⟨S1x1024, .f32⟩
  | .hbm, ⟨7, _⟩ => ⟨S1x2048x1024, .f32⟩
  | .hbm, ⟨8, _⟩ => ⟨S4x256x256, .f32⟩
  | .hbm, ⟨9, _⟩ => ⟨S4x256x256, .bf16⟩
  | .hbm, ⟨10, _⟩ => ⟨S1024, .f32⟩
  | .hbm, ⟨11, _⟩ => ⟨S1x1024, .f32⟩
  | .hbm, ⟨12, _⟩ => ⟨S2048x1024, .f32⟩
  | .hbm, ⟨13, _⟩ => ⟨S2048x1024, .bf16⟩
  | .hbm, ⟨14, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x3072, .f32⟩
  | .local _ .vmem, ⟨13, _⟩ => ⟨S1x1x3072, .f32⟩
  | .local _ .vmem, ⟨14, _⟩ => ⟨S4x256x256, .bf16⟩
  | .local _ .vmem, ⟨15, _⟩ => ⟨S1x1024, .f32⟩
  | .local _ .vmem, ⟨16, _⟩ => ⟨S2048x1024, .bf16⟩
  | .local _ .vmem, ⟨17, _⟩ => ⟨S1x512x1024, .f32⟩
  | .local _ .vmem, ⟨18, _⟩ => ⟨S1x512x1024, .f32⟩
  | .local _ .vmem, ⟨19, _⟩ => ⟨S528x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S8x4096x1024 : Shape := ⟨3, ![8, 4096, 1024]⟩
abbrev S8x1x3072 : Shape := ⟨3, ![8, 1, 3072]⟩
abbrev S1x4x256x256 : Shape := ⟨4, ![1, 4, 256, 256]⟩
abbrev S1x1024 : Shape := ⟨2, ![1, 1024]⟩
abbrev S1x2048x1024 : Shape := ⟨3, ![1, 2048, 1024]⟩
abbrev S8x4096x4x256 : Shape := ⟨4, ![8, 4096, 4, 256]⟩
abbrev S_ : Shape := ⟨0, ![]⟩
abbrev S8x1x4x256 : Shape := ⟨4, ![8, 1, 4, 256]⟩
abbrev S8x4097x4x256 : Shape := ⟨4, ![8, 4097, 4, 256]⟩
abbrev S1 : Shape := ⟨1, ![1]⟩
abbrev S4 : Shape := ⟨1, ![4]⟩
abbrev S4096 : Shape := ⟨1, ![4096]⟩
abbrev S1x4096 : Shape := ⟨2, ![1, 4096]⟩
abbrev S4x1 : Shape := ⟨2, ![4, 1]⟩
abbrev S4x4096 : Shape := ⟨2, ![4, 4096]⟩
abbrev S4x4096x1 : Shape := ⟨3, ![4, 4096, 1]⟩
abbrev S4x4096x2 : Shape := ⟨3, ![4, 4096, 2]⟩
abbrev S8x4x4096x256 : Shape := ⟨4, ![8, 4, 4096, 256]⟩
abbrev S1x4x4096x1 : Shape := ⟨4, ![1, 4, 4096, 1]⟩
abbrev S4x256x256 : Shape := ⟨3, ![4, 256, 256]⟩
abbrev S4x256x8x4096 : Shape := ⟨4, ![4, 256, 8, 4096]⟩
abbrev S1024 : Shape := ⟨1, ![1024]⟩
abbrev S1x1x1024 : Shape := ⟨3, ![1, 1, 1024]⟩
abbrev S8x4096x2048 : Shape := ⟨3, ![8, 4096, 2048]⟩
abbrev S2048x1024 : Shape := ⟨2, ![2048, 1024]⟩
abbrev S8x1x1024 : Shape := ⟨3, ![8, 1, 1024]⟩

abbrev nBuf : Space → Nat
  | .hbm => 139
  | .vmem => 0
  | .smem => 0
  | _ => 0

abbrev hbmTy0_0 (i : Nat) : BufTy := match i % 128 with
  | 0 => ⟨S8x4096x1024, .bf16⟩
  | 1 => ⟨S8x4096x1024, .f32⟩
  | 2 => ⟨S8x4096x1024, .f32⟩
  | 3 => ⟨S8x4096x1024, .f32⟩
  | 4 => ⟨S8x1x3072, .f32⟩
  | 5 => ⟨S1x4x256x256, .f32⟩
  | 6 => ⟨S1x1024, .f32⟩
  | 7 => ⟨S1x2048x1024, .f32⟩
  | 8 => ⟨S8x4096x4x256, .f32⟩
  | 9 => ⟨S_, .f32⟩
  | 10 => ⟨S8x1x4x256, .f32⟩
  | 11 => ⟨S_, .f32⟩
  | 12 => ⟨S_, .f32⟩
  | 13 => ⟨S8x4096x4x256, .f32⟩
  | 14 => ⟨S8x4097x4x256, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S4, .i32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S4, .i32⟩
  | 33 => ⟨S4096, .i32⟩
  | 34 => ⟨S1x4096, .i32⟩
  | 35 => ⟨S4x1, .i32⟩
  | 36 => ⟨S4x4096, .i32⟩
  | 37 => ⟨S4x4096, .i32⟩
  | 38 => ⟨S4x4096, .i32⟩
  | 39 => ⟨S_, .i32⟩
  | 40 => ⟨S_, .i32⟩
  | 41 => ⟨S_, .i32⟩
  | 42 => ⟨S4x4096, .i32⟩
  | 43 => ⟨S4x4096, .i32⟩
  | 44 => ⟨S_, .i32⟩
  | 45 => ⟨S4x4096, .i32⟩
  | 46 => ⟨S4x4096, .i32⟩
  | 47 => ⟨S1x4096, .i32⟩
  | 48 => ⟨S4x1, .i32⟩
  | 49 => ⟨S4x4096, .i32⟩
  | 50 => ⟨S4x4096, .i32⟩
  | 51 => ⟨S4x4096, .i32⟩
  | 52 => ⟨S_, .i32⟩
  | 53 => ⟨S4x4096, .i32⟩
  | 54 => ⟨S4x4096, .i32⟩
  | 55 => ⟨S_, .i32⟩
  | 56 => ⟨S_, .i32⟩
  | 57 => ⟨S_, .i32⟩
  | 58 => ⟨S4x4096, .i32⟩
  | 59 => ⟨S4x4096, .i32⟩
  | 60 => ⟨S_, .i32⟩
  | 61 => ⟨S4x4096, .i32⟩
  | 62 => ⟨S4x4096, .i32⟩
  | 63 => ⟨S4, .i32⟩
  | 64 => ⟨S4x1, .i32⟩
  | 65 => ⟨S_, .i32⟩
  | 66 => ⟨S4x4096, .i32⟩
  | 67 => ⟨S4x4096, .i1⟩
  | 68 => ⟨S_, .i32⟩
  | 69 => ⟨S4x4096, .i32⟩
  | 70 => ⟨S4x4096, .i32⟩
  | 71 => ⟨S4x4096, .i32⟩
  | 72 => ⟨S_, .i32⟩
  | 73 => ⟨S4x1, .i32⟩
  | 74 => ⟨S4x1, .i1⟩
  | 75 => ⟨S_, .i32⟩
  | 76 => ⟨S4x1, .i32⟩
  | 77 => ⟨S4x1, .i32⟩
  | 78 => ⟨S4x1, .i32⟩
  | 79 => ⟨S4x4096, .i32⟩
  | 80 => ⟨S4x4096x1, .i32⟩
  | 81 => ⟨S4x4096x1, .i32⟩
  | 82 => ⟨S4x4096x2, .i32⟩
  | 83 => ⟨S8x4x4096x256, .f32⟩
  | 84 => ⟨S_, .i32⟩
  | 85 => ⟨S4x4096, .i32⟩
  | 86 => ⟨S4x4096, .i1⟩
  | 87 => ⟨S_, .i32⟩
  | 88 => ⟨S4x4096, .i32⟩
  | 89 => ⟨S4x4096, .i32⟩
  | 90 => ⟨S4x4096, .i32⟩
  | 91 => ⟨S_, .i32⟩
  | 92 => ⟨S4x1, .i32⟩
  | 93 => ⟨S4x1, .i1⟩
  | 94 => ⟨S_, .i32⟩
  | 95 => ⟨S4x1, .i32⟩
  | 96 => ⟨S4x1, .i32⟩
  | 97 => ⟨S4x1, .i32⟩
  | 98 => ⟨S4x4096, .i32⟩
  | 99 => ⟨S4x4096x1, .i32⟩
  | 100 => ⟨S4x4096x1, .i32⟩
  | 101 => ⟨S4x4096x2, .i32⟩
  | 102 => ⟨S8x4x4096x256, .f32⟩
  | 103 => ⟨S8x4x4096x256, .f32⟩
  | 104 => ⟨S4x4096, .i32⟩
  | 105 => ⟨S4x4096, .f32⟩
  | 106 => ⟨S1x4x4096x1, .f32⟩
  | 107 => ⟨S8x4x4096x256, .f32⟩
  | 108 => ⟨S8x4x4096x256, .f32⟩
  | 109 => ⟨S8x4096x4x256, .f32⟩
  | 110 => ⟨S8x4096x4x256, .f32⟩
  | 111 => ⟨S4x256x256, .f32⟩
  | 112 => ⟨S4x256x8x4096, .f32⟩
  | 113 => ⟨S8x4096x4x256, .f32⟩
  | 114 => ⟨S8x4096x1024, .f32⟩
  | 115 => ⟨S1024, .f32⟩
  | 116 => ⟨S1x1x1024, .f32⟩
  | 117 => ⟨S8x4096x1024, .f32⟩
  | 118 => ⟨S8x4096x1024, .f32⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S8x4096x1024, .f32⟩
  | _ => ⟨S8x4096x1024, .bf16⟩

abbrev hbmTy0_1 (i : Nat) : BufTy := match i % 128 with
  | 0 => ⟨S8x4096x1024, .f32⟩
  | 1 => ⟨S8x4096x1024, .f32⟩
  | 2 => ⟨S8x4096x2048, .f32⟩
  | 3 => ⟨S2048x1024, .f32⟩
  | 4 => ⟨S8x4096x1024, .f32⟩
  | 5 => ⟨S8x1x1024, .f32⟩
  | 6 => ⟨S8x1x1024, .f32⟩
  | 7 => ⟨S8x1x1024, .f32⟩
  | 8 => ⟨S8x4096x1024, .f32⟩
  | 9 => ⟨S8x4096x1024, .f32⟩
  | 10 => ⟨S8x4096x1024, .f32⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_call0_call0_cst : Ref sig .tc := ⟨.hbm, 11, rfl⟩
abbrev main_call0_call0_v0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_c_5 : Ref sig .tc := ⟨.hbm, 28, rfl⟩
abbrev main_v11 : Ref sig .tc := ⟨.hbm, 29, rfl⟩
abbrev main_c_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_c_8 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_v27 : Ref sig .tc := ⟨.hbm, 54, rfl⟩
abbrev main_c_10 : Ref sig .tc := ⟨.hbm, 55, rfl⟩
abbrev main_c_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_12 : Ref sig .tc := ⟨.hbm, 65, rfl⟩
abbrev main_v31 : Ref sig .tc := ⟨.hbm, 66, rfl⟩
abbrev main_v32 : Ref sig .tc := ⟨.hbm, 67, rfl⟩
abbrev main_c_13 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_14 : Ref sig .tc := ⟨.hbm, 72, rfl⟩
abbrev main_v36 : Ref sig .tc := ⟨.hbm, 73, rfl⟩
abbrev main_v37 : Ref sig .tc := ⟨.hbm, 74, rfl⟩
abbrev main_c_15 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_16 : Ref sig .tc := ⟨.hbm, 84, rfl⟩
abbrev main_v46 : Ref sig .tc := ⟨.hbm, 85, rfl⟩
abbrev main_v47 : Ref sig .tc := ⟨.hbm, 86, rfl⟩
abbrev main_c_17 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_18 : Ref sig .tc := ⟨.hbm, 91, rfl⟩
abbrev main_v51 : Ref sig .tc := ⟨.hbm, 92, rfl⟩
abbrev main_v52 : Ref sig .tc := ⟨.hbm, 93, rfl⟩
abbrev main_c_19 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩

abbrev nD : Nat := 1
abbrev τ : Topo := Topo.v7x

variable {F : FTy → Type} [FloatOps F]
-- ==== Kernel7.lean ====
abbrev S16x256x2048 : Shape := ⟨3, ![16, 256, 2048]⟩
abbrev S16x256x128 : Shape := ⟨3, ![16, 256, 128]⟩
abbrev S1x2x16 : Shape := ⟨3, ![1, 2, 16]⟩
abbrev S_ : Shape := ⟨0, ![]⟩
abbrev S96 : Shape := ⟨1, ![96]⟩
abbrev S2x16 : Shape := ⟨2, ![2, 16]⟩
abbrev S32 : Shape := ⟨1, ![32]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S16x2x128x1024 : Shape := ⟨4, ![16, 2, 128, 1024]⟩
abbrev S16x16x64x128 : Shape := ⟨4, ![16, 16, 64, 128]⟩
abbrev S1x128x1536 : Shape := ⟨3, ![1, 128, 1536]⟩
abbrev S1x128x128 : Shape := ⟨3, ![1, 128, 128]⟩
abbrev S1x1x128x1024 : Shape := ⟨4, ![1, 1, 128, 1024]⟩
abbrev S1x16x64x128 : Shape := ⟨4, ![1, 16, 64, 128]⟩
abbrev S128x1024 : Shape := ⟨2, ![128, 1024]⟩
abbrev S128x1536 : Shape := ⟨2, ![128, 1536]⟩
abbrev S128x128 : Shape := ⟨2, ![128, 128]⟩
abbrev S8x1024 : Shape := ⟨2, ![8, 1024]⟩
abbrev S1x1024 : Shape := ⟨2, ![1, 1024]⟩
abbrev S128x1 : Shape := ⟨2, ![128, 1]⟩
abbrev S128x256 : Shape := ⟨2, ![128, 256]⟩
abbrev S1x256 : Shape := ⟨2, ![1, 256]⟩
abbrev S64x128 : Shape := ⟨2, ![64, 128]⟩
abbrev S1x1x64x128 : Shape := ⟨4, ![1, 1, 64, 128]⟩

abbrev nBuf : Space → Nat
  | .hbm => 19
  | .vmem => 10
  | .smem => 0
  | _ => 0

abbrev bufTy : (tb : Table) → Fin (tcTables nBuf tb) → BufTy
  | .hbm, ⟨0, _⟩ => ⟨S16x256x2048, .f32⟩
  | .hbm, ⟨1, _⟩ => ⟨S16x256x128, .f32⟩
  | .hbm, ⟨2, _⟩ => ⟨S1x2x16, .f32⟩
  | .hbm, ⟨3, _⟩ => ⟨S1x2x16, .f32⟩
  | .hbm, ⟨4, _⟩ => ⟨S_, .f32⟩
  | .hbm, ⟨5, _⟩ => ⟨S96, .f32⟩
  | .hbm, ⟨6, _⟩ => ⟨S2x16, .f32⟩
  | .hbm, ⟨7, _⟩ => ⟨S32, .f32⟩
  | .hbm, ⟨8, _⟩ => ⟨S128, .f32⟩
  | .hbm, ⟨9, _⟩ => ⟨S2x16, .f32⟩
  | .hbm, ⟨10, _⟩ => ⟨S32, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S6x128, .f32⟩
  | .hbm, ⟨16, _⟩ => ⟨S8x128, .f32⟩
  | .hbm, ⟨17, _⟩ => ⟨S16x2x128x1024, .f32⟩
  | .hbm, ⟨18, _⟩ => ⟨S16x16x64x128, .f32⟩
  | .local _ .vmem, ⟨0, _⟩ => ⟨S1x128x1536, .f32⟩
  | .local _ .vmem, ⟨1, _⟩ => ⟨S1x128x1536, .f32⟩
  | .local _ .vmem, ⟨2, _⟩ => ⟨S1x128x128, .f32⟩
  | .local _ .vmem, ⟨3, _⟩ => ⟨S1x128x128, .f32⟩
  | .local _ .vmem, ⟨4, _⟩ => ⟨S8x128, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x16x64x128, .f32⟩
  | .local _ .vmem, ⟨8, _⟩ => ⟨S1x16x64x128, .f32⟩
  | .local _ .vmem, ⟨9, _⟩ => ⟨S128x1024, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32_42 : BitVec 32 := 1#32
  let v213 : BitVec 1 := Scalar.cmpi .eq arg1 c1_i32_42
  let v214 : BitVec 32 := Scalar.extui v213
  let c0_i32_43 : BitVec 32 := 0#32
  let v215 : BitVec 1 := Scalar.cmpi .ne v214 c0_i32_43
  v215

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S16x256x2048 : Shape := ⟨3, ![16, 256, 2048]⟩
abbrev S16x256x128 : Shape := ⟨3, ![16, 256, 128]⟩
abbrev S1x2x16 : Shape := ⟨3, ![1, 2, 16]⟩
abbrev S16x256x1024 : Shape := ⟨3, ![16, 256, 1024]⟩
abbrev S16x256x512 : Shape := ⟨3, ![16, 256, 512]⟩
abbrev S16x256x4x4x64 : Shape := ⟨5, ![16, 256, 4, 4, 64]⟩
abbrev S16x256x4x128 : Shape := ⟨4, ![16, 256, 4, 128]⟩
abbrev S16x256x32 : Shape := ⟨3, ![16, 256, 32]⟩
abbrev S16x256x2x4x4 : Shape := ⟨5, ![16, 256, 2, 4, 4]⟩
abbrev S2x16 : Shape := ⟨2, ![2, 16]⟩
abbrev S2x4x4 : Shape := ⟨3, ![2, 4, 4]⟩
abbrev S1x1x2x4x4 : Shape := ⟨5, ![1, 1, 2, 4, 4]⟩
abbrev S_ : Shape := ⟨0, ![]⟩
abbrev S16x256x1x4x4 : Shape := ⟨5, ![16, 256, 1, 4, 4]⟩
abbrev S16x256x4x4 : Shape := ⟨4, ![16, 256, 4, 4]⟩
abbrev S1x4x4 : Shape := ⟨3, ![1, 4, 4]⟩
abbrev S4x4 : Shape := ⟨2, ![4, 4]⟩
abbrev S1x1x4x4 : Shape := ⟨4, ![1, 1, 4, 4]⟩
abbrev S16x2x128x4x4 : Shape := ⟨5, ![16, 2, 128, 4, 4]⟩
abbrev S16x256x4x4x1 : Shape := ⟨5, ![16, 256, 4, 4, 1]⟩
abbrev S16x2x128x4x4x64 : Shape := ⟨6, ![16, 2, 128, 4, 4, 64]⟩
abbrev S16x2x128x4x128 : Shape := ⟨5, ![16, 2, 128, 4, 128]⟩
abbrev S16x2x1x4x4 : Shape := ⟨5, ![16, 2, 1, 4, 4]⟩
abbrev S16x2x128x4x4x1 : Shape := ⟨6, ![16, 2, 128, 4, 4, 1]⟩
abbrev S16x2x4x4x64x128 : Shape := ⟨6, ![16, 2, 4, 4, 64, 128]⟩
abbrev S16x2x4x4 : Shape := ⟨4, ![16, 2, 4, 4]⟩
abbrev S16x4x4x64x128 : Shape := ⟨5, ![16, 4, 4, 64, 128]⟩
abbrev S16x1x4x4 : Shape := ⟨4, ![16, 1, 4, 4]⟩
abbrev S16x4x4 : Shape := ⟨3, ![16, 4, 4]⟩
abbrev S16x4x4x1x1 : Shape := ⟨5, ![16, 4, 4, 1, 1]⟩
abbrev S16x1x4x4x64x128 : Shape := ⟨6, ![16, 1, 4, 4, 64, 128]⟩
abbrev S16x16x64x128 : Shape := ⟨4, ![16, 16, 64, 128]⟩

abbrev nBuf : Space → Nat
  | .hbm => 83
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x256x128, .f32⟩
  | .hbm, ⟨2, _⟩ => ⟨S1x2x16, .f32⟩
  | .hbm, ⟨3, _⟩ => ⟨S1x2x16, .f32⟩
  | .hbm, ⟨4, _⟩ => ⟨S16x256x1024, .f32⟩
  | .hbm, ⟨5, _⟩ => ⟨S16x256x512, .f32⟩
  | .hbm, ⟨6, _⟩ => ⟨S16x256x512, .f32⟩
  | .hbm, ⟨7, _⟩ => ⟨S16x256x4x4x64, .f32⟩
  | .hbm, ⟨8, _⟩ => ⟨S16x256x4x128, .f32⟩
  | .hbm, ⟨9, _⟩ => ⟨S16x256x32, .f32⟩
  | .hbm, ⟨10, _⟩ => ⟨S16x256x2x4x4, .f32⟩
  | .hbm, ⟨11, _⟩ => ⟨S2x16, .f32⟩
  | .hbm, ⟨12, _⟩ => ⟨S2x4x4, .f32⟩
  | .hbm, ⟨13, _⟩ => ⟨S1x1x2x4x4, .f32⟩
  | .hbm, ⟨14, _⟩ => ⟨S16x256x2x4x4, .f32⟩
  | .hbm, ⟨15, _⟩ => ⟨S16x256x2x4x4, .f32⟩
  | .hbm, ⟨16, _⟩ => ⟨S_, .f32⟩
  | .hbm, ⟨17, _⟩ => ⟨S16x256x2x4x4, .f32⟩
  | .hbm, ⟨18, _⟩ => ⟨S16x256x2x4x4, .f32⟩
  | .hbm, ⟨19, _⟩ => ⟨S16x256x2x4x4, .f32⟩
  | .hbm, ⟨20, _⟩ => ⟨S16x256x2x4x4, .f32⟩
  | .hbm, ⟨21, _⟩ => ⟨S16x256x2x4x4, .i1⟩
  | .hbm, ⟨22, _⟩ => ⟨S16x256x2x4x4, .f32⟩
  | .hbm, ⟨23, _⟩ => ⟨S16x256x2x4x4, .f32⟩
  | .hbm, ⟨24, _⟩ => ⟨S16x256x2x4x4, .f32⟩
  | .hbm, ⟨25, _⟩ => ⟨S16x256x2x4x4, .f32⟩
  | .hbm, ⟨26, _⟩ => ⟨S16x256x2x4x4, .f32⟩
  | .hbm, ⟨27, _⟩ => ⟨S16x256x2x4x4, .f32⟩
  | .hbm, ⟨28, _⟩ => ⟨S16x256x2x4x4, .f32⟩
  | .hbm, ⟨29, _⟩ => ⟨S16x256x2x4x4, .f32⟩
  | .hbm, ⟨30, _⟩ => ⟨S2x16, .f32⟩
  | .hbm, ⟨31, _⟩ => ⟨S2x4x4, .f32⟩
  | .hbm, ⟨32, _⟩ => ⟨S2x4x4, .f32⟩
  | .hbm, ⟨33, _⟩ => ⟨S2x4x4, .f32⟩
  | .hbm, ⟨34, _⟩ => ⟨S16x256x4x4x64, .f32⟩
  | .hbm, ⟨35, _⟩ => ⟨S16x256x1x4x4, .f32⟩
  | .hbm, ⟨36, _⟩ => ⟨S16x256x4x4, .f32⟩
  | .hbm, ⟨37, _⟩ => ⟨S16x256x4x4, .f32⟩
  | .hbm, ⟨38, _⟩ => ⟨S16x256x4x128, .f32⟩
  | .hbm, ⟨39, _⟩ => ⟨S1x4x4, .f32⟩
  | .hbm, ⟨40, _⟩ => ⟨S4x4, .f32⟩
  | .hbm, ⟨41, _⟩ => ⟨S1x1x4x4, .f32⟩
  | .hbm, ⟨42, _⟩ => ⟨S16x256x4x4, .f32⟩
  | .hbm, ⟨43, _⟩ => ⟨S16x256x4x4, .f32⟩
  | .hbm, ⟨44, _⟩ => ⟨S16x2x128x4x4, .f32⟩
  | .hbm, ⟨45, _⟩ => ⟨S16x256x4x4x1, .f32⟩
  | .hbm, ⟨46, _⟩ => ⟨S16x256x4x4x64, .f32⟩
  | .hbm, ⟨47, _⟩ => ⟨S16x256x4x4x64, .f32⟩
  | .hbm, ⟨48, _⟩ => ⟨S16x2x128x4x4x64, .f32⟩
  | .hbm, ⟨49, _⟩ => ⟨S16x2x128x4x128, .f32⟩
  | .hbm, ⟨50, _⟩ => ⟨S_, .f32⟩
  | .hbm, ⟨51, _⟩ => ⟨S_, .f32⟩
  | .hbm, ⟨52, _⟩ => ⟨S16x2x128x4x4, .f32⟩
  | .hbm, ⟨53, _⟩ => ⟨S16x2x1x4x4, .f32⟩
  | .hbm, ⟨54, _⟩ => ⟨S16x2x128x4x4, .f32⟩
  | .hbm, ⟨55, _⟩ => ⟨S16x2x128x4x4, .f32⟩
  | .hbm, ⟨56, _⟩ => ⟨S16x2x128x4x4, .f32⟩
  | .hbm, ⟨57, _⟩ => ⟨S16x2x128x4x4x1, .f32⟩
  | .hbm, ⟨58, _⟩ => ⟨S16x2x128x4x4x64, .f32⟩
  | .hbm, ⟨59, _⟩ => ⟨S16x2x128x4x4x64, .f32⟩
  | .hbm, ⟨60, _⟩ => ⟨S16x2x4x4x64x128, .f32⟩
  | .hbm, ⟨61, _⟩ => ⟨S16x2x1x4x4, .f32⟩
  | .hbm, ⟨62, _⟩ => ⟨S16x2x4x4, .f32⟩
  | .hbm, ⟨63, _⟩ => ⟨S16x2x4x4, .f32⟩
  | .hbm, ⟨64, _⟩ => ⟨S_, .f32⟩
  | .hbm, ⟨65, _⟩ => ⟨S16x4x4x64x128, .f32⟩
  | .hbm, ⟨66, _⟩ => ⟨S16x1x4x4, .f32⟩
  | .hbm, ⟨67, _⟩ => ⟨S16x4x4, .f32⟩
  | .hbm, ⟨68, _⟩ => ⟨S16x4x4x1x1, .f32⟩
  | .hbm, ⟨69, _⟩ => ⟨S16x4x4x64x128, .f32⟩
  | .hbm, ⟨70, _⟩ => ⟨S16x4x4x64x128, .f32⟩
  | .hbm, ⟨71, _⟩ => ⟨S16x1x4x4x64x128, .f32⟩
  | .hbm, ⟨72, _⟩ => ⟨S16x4x4x64x128, .f32⟩
  | .hbm, ⟨73, _⟩ => ⟨S16x4x4x64x128, .f32⟩
  | .hbm, ⟨74, _⟩ => ⟨S16x1x4x4, .f32⟩
  | .hbm, ⟨75, _⟩ => ⟨S16x4x4, .f32⟩
  | .hbm, ⟨76, _⟩ => ⟨S16x4x4x1x1, .f32⟩
  | .hbm, ⟨77, _⟩ => ⟨S16x4x4x64x128, .f32⟩
  | .hbm, ⟨78, _⟩ => ⟨S16x4x4x64x128, .f32⟩
  | .hbm, ⟨79, _⟩ => ⟨S16x1x4x4x64x128, .f32⟩
  | .hbm, ⟨80, _⟩ => ⟨S16x4x4x64x128, .f32⟩
  | .hbm, ⟨81, _⟩ => ⟨S16x4x4x64x128, .f32⟩
  | .hbm, ⟨82, _⟩ => ⟨S16x16x64x128, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call4_call0_cst : Ref sig .tc := ⟨.hbm, 50, rfl⟩
abbrev main_call4_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Proof.Sub.lean ====
/- One sub-block of 128 rows of the attention kernel: the eight stores of a grid point are one function of the
   sub-block's queries and gates, the keys, the values beside a block of ones, and the two weight arrays; and that
   function at an index, over the extended reals. -/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

section
variable {F : FTy → Type} [FloatOps F] [Named F]

/-- What the kernel stores for a sub-block: of its lambda parameters, subnorm weights, queries, keys, extended values and gates. -/
def subVec (lp : Vec F S4x64 .f32) (g : Vec F S1x128 .f32) (q : Vec F S1x128x128 .f32) (K : Vec F S1x4608x128 .bf16)
    (V : Vec F S1x4608x256 .bf16) (z : Vec F S1x128x128 .f32) : FVec F S1x128x128 .bf16 :=
  k0_pay12 (k0_pay7 lp) (k0_pay10 q K) (k0_pay11 q K) V g z

variable (lp : Vec F S4x64 .f32) (g : Vec F S1x128 .f32) (q : Vec F S1x128x128 .f32) (K : Vec F S1x4608x128 .bf16)
  (V : Vec F S1x4608x256 .bf16) (z : Vec F S1x128x128 .f32)

theorem sub0_eq : k0_pay12 (k0_pay7 lp) (k0_pay10 q K) (k0_pay11 q K) V g z = subVec lp g q K V z := rfl

theorem sub1_eq : k0_pay15 (k0_pay13 (k0_pay7 lp) k0_pay8 k0_pay9 q K V g) k0_pay14 z = subVec lp g q K V z := rfl

theorem sub2_eq : k0_pay18 (k0_pay16 (k0_pay7 lp) k0_pay8 k0_pay9 q K V) (k0_pay17 (k0_pay7 lp) k0_pay8 k0_pay9 q K V) g z
    = subVec lp g q K V z := rfl

theorem sub3_eq : k0_pay21 (k0_pay7 lp) (k0_pay19 k0_pay8 k0_pay9 q K) (k0_pay20 k0_pay8 k0_pay9 q K) V g z
    = subVec lp g q K V z := rfl

theorem sub4_eq : k0_pay24 (k0_pay22 (k0_pay7 lp) k0_pay8 k0_pay9 q K V g) k0_pay23 z = subVec lp g q K V z := rfl

theorem sub5_eq : k0_pay27 (k0_pay25 (k0_pay7 lp) k0_pay8 k0_pay9 q K V) (k0_pay26 (k0_pay7 lp) k0_pay8 k0_pay9 q K V) g z
    = subVec lp g q K V z := rfl

theorem sub6_eq : k0_pay30 (k0_pay7 lp) (k0_pay28 k0_pay8 k0_pay9 q K) (k0_pay29 k0_pay8 k0_pay9 q K) V g z
    = subVec lp g q K V z := rfl

theorem sub7_eq : k0_pay1 (k0_pay31 (k0_pay7 lp) k0_pay8 k0_pay9 q K V g) k0_pay32 z = subVec lp g q K V z := rfl

end

/-! ## At an index, over the extended reals -/

/-- Lane `x` of half `j` of a 128-wide row. -/
def lane (j : Fin 2) (x : Fin 64) : Fin 128 := ⟨64 * j.val + x.val, by have := j.isLt; have := x.isLt; omega⟩

theorem mask_eq (x : Fin 128) : IntOp.cmpi CmpIPredicate.slt (BitVec.ofNat 32 x.val) 64#32 = if x.val < 64 then 1#1 else 0#1 := by
  revert x; decide +kernel

/-- A sum over the lanes below 64. -/
theorem sum_lo (f : Fin 128 → EReal) :
    (∑ x : Fin 128, Scalar.select (IntOp.cmpi CmpIPredicate.slt (BitVec.ofNat 32 x.val) 64#32) (f x) 0) = ∑ x, f (lane 0 x) := by
  rw [show (∑ x : Fin 128, Scalar.select (IntOp.cmpi CmpIPredicate.slt (BitVec.ofNat 32 x.val) 64#32) (f x) 0)
      = ∑ x : Fin 128, if x.val < 64 then f x else 0 from Finset.sum_congr rfl fun x _ => by
        rw [mask_eq]; split <;> simp [Scalar.select]]
  rw [show (∑ x : Fin 128, if x.val < 64 then f x else 0) = _ from Fin.sum_univ_add (a := 64) (b := 64) _]
  simp only [Fin.val_castAdd, Fin.is_lt, if_true, Fin.val_natAdd, show ∀ x : Fin 64, ¬ 64 + x.val < 64 from fun x => by omega,
    if_false, Finset.sum_const_zero, add_zero]
  exact Finset.sum_congr rfl fun x _ => congrArg f (Fin.ext (by simp [lane]))

/-- A sum over the lanes from 64 on. -/
theorem sum_hi (f : Fin 128 → EReal) :
    (∑ x : Fin 128, Scalar.select (IntOp.cmpi CmpIPredicate.slt (BitVec.ofNat 32 x.val) 64#32) 0 (f x)) = ∑ x, f (lane 1 x) := by
  rw [show (∑ x : Fin 128, Scalar.select (IntOp.cmpi CmpIPredicate.slt (BitVec.ofNat 32 x.val) 64#32) 0 (f x))
      = ∑ x : Fin 128, if x.val < 64 then 0 else f x from Finset.sum_congr rfl fun x _ => by
        rw [mask_eq]; split <;> simp [Scalar.select]]
  rw [show (∑ x : Fin 128, if x.val < 64 then 0 else f x) = _ from Fin.sum_univ_add (a := 64) (b := 64) _]
  simp only [Fin.val_castAdd, Fin.is_lt, if_true, Fin.val_natAdd, show ∀ x : Fin 64, ¬ 64 + x.val < 64 from fun x => by omega,
    if_false, Finset.sum_const_zero, zero_add]
  exact Finset.sum_congr rfl fun x _ => congrArg f (Fin.ext (by simp [lane]; omega))

/-- Lambda, of the four parameter rows. -/
def lamOf (lp : Fin 4 → Fin 64 → EReal) : EReal :=
  Ideal.exp (∑ x, lp 0 x * lp 1 x) - Ideal.exp (∑ x, lp 2 x * lp 3 x) + Ideal.ofBits FTy.f32 0x3EB60549#32

/-- The scaled score of half `j` of the query row `q` against key `k`. -/
def scoreOf (q : Fin 128 → EReal) (K : Fin 4608 → Fin 128 → EReal) (j : Fin 2) (k : Fin 4608) : EReal :=
  ∑ x, q (lane j x) * (Named.named (F := Ideal) (φ := .f32) κ "q_scale" 0x3E38AA3B#32) * K k (lane j x)

/-- The kernel's softmax quotient: the values `v` and the divisor's `u` summed with the powers of two of the scores over their maximum. -/
def ratioOf (s v u : Fin 4608 → EReal) : EReal :=
  Ideal.div (∑ k, Ideal.exp2 (s k - Finset.univ.fold max (Ideal.ofBits FTy.f32 0xFF800000#32) s) * v k)
    (∑ k, Ideal.exp2 (s k - Finset.univ.fold max (Ideal.ofBits FTy.f32 0xFF800000#32) s) * u k)

/-- The row's root mean square norm, its weights and its gate, at lane `w` of the row `o`. -/
def gateOf (o : Fin 128 → EReal) (g z : EReal) (w : Fin 128) : EReal :=
  o w * Ideal.rsqrt (Ideal.div (∑ x, o x * o x) (Ideal.ofBits FTy.f32 0x43000000#32) + Ideal.ofBits FTy.f32 0x358637BD#32) * g
    * Ideal.ofBits FTy.f32 0x3F24FD5C#32 * (z * Ideal.logistic z)

/-- A row of the attention, at lane `w`: of its query row and its gate, the head's keys and extended values, and the weights. -/
def rowOf (lp : Vec Ideal S4x64 .f32) (g : Vec Ideal S1x128 .f32) (K : Vec Ideal S1x4608x128 .bf16) (V : Vec Ideal S1x4608x256 .bf16)
    (w : Fin 128) (q : Fin 128 → EReal) (z : EReal) : EReal :=
  gateOf (fun c => ratioOf (scoreOf q (fun k e => K (ix3 0 k e)) 0) (fun k => V (ix3 0 k ⟨c.val, by omega⟩)) (fun k => V (ix3 0 k 128))
      - lamOf (fun i x => lp (ix2 i x)) * ratioOf (scoreOf q (fun k e => K (ix3 0 k e)) 1)
        (fun k => V (ix3 0 k ⟨c.val, by omega⟩)) (fun k => V (ix3 0 k 128)))
    (g (ix2 0 w)) z w

theorem subVec_apply (lp : Vec Ideal S4x64 .f32) (g : Vec Ideal S1x128 .f32) (q : Vec Ideal S1x128x128 .f32) (K : Vec Ideal S1x4608x128 .bf16)
    (V : Vec Ideal S1x4608x256 .bf16) (z : Vec Ideal S1x128x128 .f32) (r w : Fin 128) :
    subVec lp g q K V z (ix3 0 r w) = rowOf lp g K V w (fun e => q (ix3 0 r e)) (z (ix3 0 r w)) := by
  pointwise [subVec, k0_pay12, k0_pay7, k0_pay8, k0_pay9, k0_pay10, k0_pay11]
  simp only [sum_lo, sum_hi]
  rfl

end Cert.KernelIdeal.Val

end
-- ==== Proof.Out.lean ====
/- What a grid point leaves in the output's buffer and in the two carried scratches: the keys (the context's 512 above the
   latent 4096), the values beside a block of ones, and the attention's rows. -/
module

public import proofs.«01_k».proof.Proof.Gen.KernelIdeal.Value
public import proofs.«01_k».proof.Proof.Sub
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem

/-- A head's rows, the context's above the latent ones, at row `k` and lane `e`. -/
def keyAt (x1 : Vec Ideal S1x4096x128 .bf16) (x3 : Vec Ideal S1x1x512x128 .bf16) (k : Fin 4608) (e : Fin 128) : EReal :=
  if h : k.val < 512 then x3 (ix4 0 0 ⟨k.val, h⟩ e) else x1 (ix3 0 ⟨k.val - 512, by omega⟩ e)

/-- The keys of a head: the context's, then the latent ones. -/
def keyScr (x1 : Vec Ideal S1x4096x128 .bf16) (x3 : Vec Ideal S1x1x512x128 .bf16) : Vec Ideal S1x4608x128 .bf16 := fun y =>
  keyAt x1 x3 (y 1) (y 2)

/-- The values of a head, the context's then the latent ones, beside a block of ones. -/
def valScr (x2 : Vec Ideal S1x4096x128 .bf16) (x4 : Vec Ideal S1x1x512x128 .bf16) : Vec Ideal S1x4608x256 .bf16 := fun y =>
  if hw : (y 2).val < 128 then keyAt x2 x4 (y 1) ⟨(y 2).val, hw⟩ else Ideal.ofBits .bf16 0x3F80#16

theorem keyScr_canon (x1 : Vec Ideal S1x4096x128 .bf16) (x3 : Vec Ideal S1x1x512x128 .bf16) :
    View.canon (Val := Elt Ideal) (s := S1x4608x128) (e := .bf16) [⟨Rect.unit ![0, 512, 0] ![1, 4096, 128] inb_S1x4608x128_S1x4096x128_0_512_0, k0_pay4 x1⟩,
      ⟨Rect.unit ![0, 0, 0] ![1, 512, 128] inb_S1x4608x128_S1x512x128_0_0_0, k0_pay2 x3⟩] = keyScr x1 x3 := by
  funext y
  canon_tiles x h using View.cover_of_tiledBy _ ![1, 512, 128] (by sl_kernel_rfl) y
  · have e1 : ¬ (y 1).val < 512 := by omega
    unfold keyScr keyAt
    rw [dif_neg e1]
    pointwise [k0_pay4]
    exact congrArg x1 (by blk_ext)
  · have e1 : (y 1).val < 512 := by omega
    unfold keyScr keyAt
    rw [dif_pos e1]
    pointwise [k0_pay2]
    exact congrArg x3 (by blk_ext)

theorem valScr_canon (x2 : Vec Ideal S1x4096x128 .bf16) (x4 : Vec Ideal S1x1x512x128 .bf16) :
    View.canon (Val := Elt Ideal) (s := S1x4608x256) (e := .bf16) [⟨Rect.unit ![0, 0, 128] ![1, 4608, 128] inb_S1x4608x256_S1x4608x128_0_0_128, k0_pay6 (F := Ideal)⟩,
                  ⟨Rect.unit ![0, 512, 0] ![1, 4096, 128] inb_S1x4608x256_S1x4096x128_0_512_0, k0_pay5 x2⟩,
                  ⟨Rect.unit ![0, 0, 0] ![1, 512, 128] inb_S1x4608x256_S1x512x128_0_0_0, k0_pay3 x4⟩] = valScr x2 x4 := by
  funext y
  canon_tiles x h using View.cover_of_tiledBy _ ![1, 512, 128] (by sl_kernel_rfl) y
  · have e2 : ¬ (y 2).val < 128 := by omega
    unfold valScr
    rw [dif_neg e2]
    pointwise [k0_pay6]
  · have e2 : (y 2).val < 128 := by omega
    have e1 : ¬ (y 1).val < 512 := by omega
    unfold valScr keyAt
    rw [dif_pos e2, dif_neg e1]
    pointwise [k0_pay5]
    exact congrArg x2 (by blk_ext)
  · have e2 : (y 2).val < 128 := by omega
    have e1 : (y 1).val < 512 := by omega
    unfold valScr keyAt
    rw [dif_pos e2, dif_pos e1]
    pointwise [k0_pay3]
    exact congrArg x4 (by blk_ext)

/-- The keys' scratch read whole where it was filled. -/
theorem keyScr_read (x1 : Vec Ideal S1x4096x128 .bf16) (x3 : Vec Ideal S1x1x512x128 .bf16) :
    (View.whole cc0_scratch0).readCov (Val := Elt Ideal) [⟨Rect.unit ![0, 512, 0] ![1, 4096, 128] inb_S1x4608x128_S1x4096x128_0_512_0, k0_pay4 x1⟩,
      ⟨Rect.unit ![0, 0, 0] ![1, 512, 128] inb_S1x4608x128_S1x512x128_0_0_0, k0_pay2 x3⟩]
      (Rect.unit ![0, 0, 0] ![1, 4608, 128] inb_S1x4608x128_S1x4608x128_0_0_0).toLoadRect = keyScr x1 x3 := by
  refine (View.readCov_eq_canon' _ _ _).trans ?_
  rw [keyScr_canon]
  exact View.ld_unit_zero (S := S1x4608x128) (by decide) _ _

/-- The values' scratch read whole where it was filled. -/
theorem valScr_read (x2 : Vec Ideal S1x4096x128 .bf16) (x4 : Vec Ideal S1x1x512x128 .bf16) :
    (View.whole cc0_scratch1).readCov (Val := Elt Ideal) [⟨Rect.unit ![0, 0, 128] ![1, 4608, 128] inb_S1x4608x256_S1x4608x128_0_0_128, k0_pay6 (F := Ideal)⟩,
                  ⟨Rect.unit ![0, 512, 0] ![1, 4096, 128] inb_S1x4608x256_S1x4096x128_0_512_0, k0_pay5 x2⟩,
                  ⟨Rect.unit ![0, 0, 0] ![1, 512, 128] inb_S1x4608x256_S1x512x128_0_0_0, k0_pay3 x4⟩]
      (Rect.unit ![0, 0, 0] ![1, 4608, 256] inb_S1x4608x256_S1x4608x256_0_0_0).toLoadRect = valScr x2 x4 := by
  refine (View.readCov_eq_canon' _ _ _).trans ?_
  rw [valScr_canon]
  exact View.ld_unit_zero (S := S1x4608x256) (by decide) _ _

/-- The attention's row of index `y`, from the point's blocks of queries and gates and the head's keys and values. -/
def outAt (lp : Vec Ideal S4x64 .f32) (g : Vec Ideal S1x128 .f32) (X0 : Vec Ideal S1x1024x128 .f32) (K : Vec Ideal S1x4608x128 .bf16)
    (V : Vec Ideal S1x4608x256 .bf16) (X5 : Vec Ideal S1x1024x128 .f32) : Vec Ideal S1x1024x128 .bf16 := fun y =>
  rowOf lp g K V (y 2) (fun e => X0 (ix3 0 (y 1) e)) (X5 (ix3 0 (y 1) (y 2)))

variable (m : (ℓ : Loc nD τ sig) → Buf (Elt Ideal) ℓ)

/-- A sub-block's store is the rows of the point's block from `off` on. -/
theorem subVec_out (lp : Vec Ideal S4x64 .f32) (g : Vec Ideal S1x128 .f32) (X0 : Vec Ideal S1x1024x128 .f32) (K : Vec Ideal S1x4608x128 .bf16)
    (V : Vec Ideal S1x4608x256 .bf16) (X5 : Vec Ideal S1x1024x128 .f32) (off : ℕ) (inb) (x : S1x128x128.Idx) (y : S1x1024x128.Idx)
    (h1 : (y 1).val = off + (x 1).val) (h2 : (y 2).val = (x 2).val) :
    subVec lp g (View.ld X0 (Rect.unit (s := S1x1024x128) ![0, off, 0] ![1, 128, 128] inb)) K V (View.ld X5 (Rect.unit (s := S1x1024x128) ![0, off, 0] ![1, 128, 128] inb)) x
      = outAt lp g X0 K V X5 y := by
  obtain ⟨a, r, w, rfl⟩ : ∃ (a : Fin 1) (r w : Fin 128), x = ix3 a r w := ⟨x 0, x 1, x 2, by funext i; fin_cases i <;> rfl⟩
  obtain ⟨a', r', w', rfl⟩ : ∃ (a : Fin 1) (r : Fin 1024) (w : Fin 128), y = ix3 a r w := ⟨y 0, y 1, y 2, by funext i; fin_cases i <;> rfl⟩
  obtain rfl : a = 0 := Subsingleton.elim _ _
  obtain rfl : w' = w := Fin.ext h2
  have h1' : r'.val = off + r.val := h1
  have ld : ∀ (X : Vec Ideal S1x1024x128 .f32) (e : Fin 128),
      View.ld X (Rect.unit (s := S1x1024x128) ![0, off, 0] ![1, 128, 128] inb) (ix3 0 r e) = X (ix3 0 r' e) := fun X e =>
    congrArg X (by
      funext i
      apply Fin.ext
      fin_cases i
      · rfl
      · show off + 1 * r.val = r'.val; omega
      · show 0 + 1 * e.val = e.val; omega)
  rw [subVec_apply]
  exact congrArg₂ (rowOf lp g K V w') (funext (ld X0)) (ld X5 w')

/-- Point `t`'s block of rows where the scratches are carried. -/
theorem outB (c : Dev nD) (t : Fin cfg0.N) (h0 : ¬ t.val % 4 = 0) : (outsAt0 m c t.val t.isLt).1
    = outAt (iblk m c 6 t) (iblk m c 7 t) (iblk m c 0 t) (outsAt0 m c (t.val - 1) (by omega)).2.1 (outsAt0 m c (t.val - 1) (by omega)).2.2 (iblk m c 5 t) := by
  rw [outsAt0_B m c t h0]
  funext y
  frame_out
  simp only [read_unread_whole]
  simp only [sub0_eq, sub1_eq, sub2_eq, sub3_eq, sub4_eq, sub5_eq, sub6_eq, sub7_eq]
  canon_tiles x h
  all_goals exact subVec_out _ _ _ _ _ _ _ _ x y (by omega) h2

/-- Point `t`'s block of rows where the scratches are filled. -/
theorem outA (c : Dev nD) (t : Fin cfg0.N) (h0 : t.val % 4 = 0) : (outsAt0 m c t.val t.isLt).1
    = outAt (iblk m c 6 t) (iblk m c 7 t) (iblk m c 0 t) (keyScr (iblk m c 1 t) (iblk m c 3 t)) (valScr (iblk m c 2 t) (iblk m c 4 t)) (iblk m c 5 t) := by
  rw [outsAt0_A m c t h0]
  funext y
  frame_out
  simp only [sub0_eq, sub1_eq, sub2_eq, sub3_eq, sub4_eq, sub5_eq, sub6_eq, sub7_eq]
  canon_tiles x h
  all_goals (refine Eq.trans (subVec_out _ _ _ _ _ _ _ _ x y (by omega) h2) ?_)
  all_goals exact congrArg₂ (fun K V => outAt _ _ _ K V _ y) (keyScr_read _ _) (valScr_read _ _)

/-- The keys' scratch where it is filled. -/
theorem keysA (c : Dev nD) (t : Fin cfg0.N) (h0 : t.val % 4 = 0) : (outsAt0 m c t.val t.isLt).2.1 = keyScr (iblk m c 1 t) (iblk m c 3 t) := by
  rw [outsAt0_A m c t h0]
  frame_out
  exact keyScr_canon _ _

/-- The values' scratch where it is filled. -/
theorem valsA (c : Dev nD) (t : Fin cfg0.N) (h0 : t.val % 4 = 0) : (outsAt0 m c t.val t.isLt).2.2 = valScr (iblk m c 2 t) (iblk m c 4 t) := by
  rw [outsAt0_A m c t h0]
  frame_out
  exact valScr_canon _ _

/-- The scratches where they are carried. -/
theorem scrB (c : Dev nD) (t : Fin cfg0.N) (h0 : ¬ t.val % 4 = 0) : (outsAt0 m c t.val t.isLt).2 = (outsAt0 m c (t.val - 1) (by omega)).2 := by
  rw [outsAt0_B m c t h0]
  rfl

end Cert.KernelIdeal.Val

end
-- ==== Proof.Array.lean ====
/- The result array of the attention kernel: every row a function of the argument arrays, read from the grid point that
   writes it, the two carried scratches being the head's keys and values at every point. -/
module

public import proofs.«01_k».proof.Proof.Out
public import Idealize.ShloMosaic.Lib.Claim

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem

/-- The block indices of the windows at point `t = (b · 8 + h) · 4 + i`. -/
theorem idx : ∀ t : Fin cfg0.N, win0_0.index t = ![t.val / 32, t.val % 4, t.val / 4 % 8] ∧ win0_1.index t = ![t.val / 32, 0, t.val / 4 % 8]
    ∧ win0_2.index t = ![t.val / 32, 0, t.val / 4 % 8] ∧ win0_3.index t = ![t.val / 32, t.val / 4 % 8, 0, 0]
    ∧ win0_4.index t = ![t.val / 32, t.val / 4 % 8, 0, 0] ∧ win0_5.index t = ![t.val / 32, t.val % 4, t.val / 4 % 8]
    ∧ win0_6.index t = ![0, 0] ∧ win0_7.index t = ![0, 0] ∧ win0_8.index t = ![t.val / 32, t.val % 4, t.val / 4 % 8] :=
  (by decide +kernel : ∀ t : Fin grid0.N, _)

/-- Row `k`, lane `e` of head `n % 8` of batch `n / 8`: the context's 512 rows above the 4096 latent ones. -/
def headAt (A : S8x4096x1024.Idx → EReal) (C : S8x1x8x512x128.Idx → EReal) (n : Fin 64) (k : Fin 4608) (e : Fin 128) : EReal :=
  if h : k.val < 512 then C (ix5 ⟨n.val / 8, by omega⟩ 0 ⟨n.val % 8, by omega⟩ ⟨k.val, h⟩ e)
  else A (ix3 ⟨n.val / 8, by omega⟩ ⟨k.val - 512, by omega⟩ ⟨n.val % 8 * 128 + e.val, by omega⟩)

/-- A head's keys. -/
def headKeys (A : S8x4096x1024.Idx → EReal) (C : S8x1x8x512x128.Idx → EReal) (n : Fin 64) : Vec Ideal S1x4608x128 .bf16 := fun y =>
  headAt A C n (y 1) (y 2)

/-- A head's values beside a block of ones. -/
def headVals (A : S8x4096x1024.Idx → EReal) (C : S8x1x8x512x128.Idx → EReal) (n : Fin 64) : Vec Ideal S1x4608x256 .bf16 := fun y =>
  if hw : (y 2).val < 128 then headAt A C n (y 1) ⟨(y 2).val, hw⟩ else Ideal.ofBits .bf16 0x3F80#16

/-- The lambda parameters and the subnorm weights without their leading unit axes. -/
def lamRows (L : S1x4x64.Idx → EReal) : Vec Ideal S4x64 .f32 := fun y => L (ix3 0 (y 0) (y 1))

/-- The result array: at `(b, r, 128 h + w)` the attention row of query row `r` of head `h`, normalised and gated, at lane `w`. -/
def result (Q A B Z : S8x4096x1024.Idx → EReal) (CA CB : S8x1x8x512x128.Idx → EReal) (L : S1x4x64.Idx → EReal) (G : S1x128.Idx → EReal) :
    S8x4096x1024.Idx → EReal := fun j =>
  rowOf (lamRows L) G (headKeys A CA ⟨(j 0).val * 8 + (j 2).val / 128, by idx_bounds j; omega⟩)
    (headVals B CB ⟨(j 0).val * 8 + (j 2).val / 128, by idx_bounds j; omega⟩) ⟨(j 2).val % 128, by omega⟩
    (fun e => Q (ix3 (j 0) (j 1) ⟨(j 2).val / 128 * 128 + e.val, by idx_bounds j; omega⟩)) (Z j)

variable (m : (ℓ : Loc nD τ sig) → Buf (Elt Ideal) ℓ)

/-- The head of point `t`. -/
def headOf (t : Fin cfg0.N) : Fin 64 := ⟨t.val / 4, by have := lt_of_lt_of_eq t.isLt N_0; omega⟩

theorem keyAt_head (c : Dev nD) (t : Fin cfg0.N) (k : Fin 4608) (e : Fin 128) :
    keyAt (iblk m c 1 t) (iblk m c 3 t) k e = headAt (m ((c : Thread nD τ).loc main_arg1)) (m ((c : Thread nD τ).loc main_arg4)) (headOf t) k e := by
  have hN : t.val < 256 := lt_of_lt_of_eq t.isLt N_0
  have h0 : (headOf t).val = t.val / 4 := rfl
  unfold keyAt headAt
  split
  · blk_ext! [iblk, V, idx t]
  · blk_ext! [iblk, V, idx t]

theorem valAt_head (c : Dev nD) (t : Fin cfg0.N) (k : Fin 4608) (e : Fin 128) :
    keyAt (iblk m c 2 t) (iblk m c 4 t) k e = headAt (m ((c : Thread nD τ).loc main_arg2)) (m ((c : Thread nD τ).loc main_arg5)) (headOf t) k e := by
  have hN : t.val < 256 := lt_of_lt_of_eq t.isLt N_0
  have h0 : (headOf t).val = t.val / 4 := rfl
  unfold keyAt headAt
  split
  · blk_ext! [iblk, V, idx t]
  · blk_ext! [iblk, V, idx t]

theorem keyScr_head (c : Dev nD) (t : Fin cfg0.N) :
    keyScr (iblk m c 1 t) (iblk m c 3 t) = headKeys (m ((c : Thread nD τ).loc main_arg1)) (m ((c : Thread nD τ).loc main_arg4)) (headOf t) :=
  funext fun _ => keyAt_head m c t _ _

theorem valScr_head (c : Dev nD) (t : Fin cfg0.N) :
    valScr (iblk m c 2 t) (iblk m c 4 t) = headVals (m ((c : Thread nD τ).loc main_arg2)) (m ((c : Thread nD τ).loc main_arg5)) (headOf t) := by
  funext y
  unfold valScr headVals
  split
  · exact valAt_head m c t _ _
  · rfl

/-- After every point the two scratches hold the keys and the values of the point's head. -/
theorem scratch (c : Dev nD) : ∀ (n : ℕ) (h : n < cfg0.N), (outsAt0 m c n h).2
    = (headKeys (m ((c : Thread nD τ).loc main_arg1)) (m ((c : Thread nD τ).loc main_arg4)) (headOf ⟨n, h⟩),
       headVals (m ((c : Thread nD τ).loc main_arg2)) (m ((c : Thread nD τ).loc main_arg5)) (headOf ⟨n, h⟩))
  | 0, h => Prod.ext ((keysA m c ⟨0, h⟩ rfl).trans (keyScr_head m c _)) ((valsA m c ⟨0, h⟩ rfl).trans (valScr_head m c _))
  | n + 1, h => by
    by_cases h0 : (n + 1) % 4 = 0
    · exact Prod.ext ((keysA m c ⟨n + 1, h⟩ h0).trans (keyScr_head m c _)) ((valsA m c ⟨n + 1, h⟩ h0).trans (valScr_head m c _))
    · have e : headOf ⟨n + 1, h⟩ = headOf ⟨n, Nat.lt_of_succ_lt h⟩ := Fin.ext (by show (n + 1) / 4 = n / 4; omega)
      rw [e]
      exact (scrB m c ⟨n + 1, h⟩ h0).trans (scratch c n _)

/-- Point `t`'s block of rows. -/
theorem out_eq (c : Dev nD) (t : Fin cfg0.N) : (outsAt0 m c t.val t.isLt).1
    = outAt (iblk m c 6 t) (iblk m c 7 t) (iblk m c 0 t)
        (headKeys (m ((c : Thread nD τ).loc main_arg1)) (m ((c : Thread nD τ).loc main_arg4)) (headOf t))
        (headVals (m ((c : Thread nD τ).loc main_arg2)) (m ((c : Thread nD τ).loc main_arg5)) (headOf t)) (iblk m c 5 t) := by
  by_cases h0 : t.val % 4 = 0
  · rw [outA m c t h0, keyScr_head, valScr_head]
  · rw [outB m c t h0, scratch]
    have e : headOf ⟨t.val - 1, by omega⟩ = headOf t := Fin.ext (by show (t.val - 1) / 4 = t.val / 4; omega)
    rw [e]

theorem lam_block (c : Dev nD) (t : Fin cfg0.N) : (iblk m c 6 t : Vec Ideal S4x64 .f32) = lamRows (m ((c : Thread nD τ).loc main_arg6)) := by
  funext y
  unfold lamRows
  blk_ext! [iblk, V, idx t]

theorem norm_block (c : Dev nD) (t : Fin cfg0.N) : (iblk m c 7 t : Vec Ideal S1x128 .f32) = m ((c : Thread nD τ).loc main_arg7) := by
  funext y
  blk_ext! [iblk, V, idx t]

theorem row_congr (lp : Vec Ideal S4x64 .f32) (g : Vec Ideal S1x128 .f32) (A B : S8x4096x1024.Idx → EReal) (CA CB : S8x1x8x512x128.Idx → EReal)
    {n n' : Fin 64} {w w' : Fin 128} {q q' : Fin 128 → EReal} {z z' : EReal} (hn : n = n') (hw : w = w') (hq : ∀ e, q e = q' e) (hz : z = z') :
    rowOf lp g (headKeys A CA n) (headVals B CB n) w q z = rowOf lp g (headKeys A CA n') (headVals B CB n') w' q' z' := by
  obtain rfl := hn; obtain rfl := hw; obtain rfl := hz; obtain rfl := funext hq; rfl

/-- The result array after the run. -/
theorem final (c : Dev nD) : (dats m 0 c).arrAt 8 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8, out_eq, lam_block, norm_block]
  have hN : t.val < 256 := lt_of_lt_of_eq t.isLt N_0
  have h0 : (headOf t).val = t.val / 4 := rfl
  have e0 : ((win0_8.blk t).view.emb y 0).val = t.val / 32 := by blk_simp [idx t]
  have e2 : ((win0_8.blk t).view.emb y 2).val = t.val / 4 % 8 * 128 + (y 2).val := by blk_simp [idx t]
  idx_bounds y
  unfold outAt result
  refine row_congr _ _ _ _ _ _ (Fin.ext ?_) (Fin.ext ?_) (fun e => ?_) ?_
  · show t.val / 4 = _ * 8 + _ / 128
    omega
  · show _ = _ % 128
    omega
  · blk_ext! [iblk, V, idx t]
  · blk_ext! [iblk, V, idx t]

end Cert.KernelIdeal.Val

end
-- ==== Proof.Ref.lean ====
/- The reference's result read at an index: the two softmaxes of a head over the context and latent rows, their weighted
   difference applied to the values, the row's norm and the gate. -/
module

public import proofs.«01_k».proof.Proof.Array
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.KernelIdeal.Val (headAt lane lamOf lamRows)

variable (Q A B Z : S8x4096x1024.Idx → EReal) (CA CB : S8x1x8x512x128.Idx → EReal) (L : S1x4x64.Idx → EReal) (G : S1x128.Idx → EReal)

/-- The number of head `h` of batch `b`. -/
def headNo (b h : Fin 8) : Fin 64 := ⟨b.val * 8 + h.val, by omega⟩

/-- A head's query row. -/
def queryAt (b h : Fin 8) (t : Fin 4096) (e : Fin 128) : EReal := Q (ix3 b t ⟨h.val * 128 + e.val, by omega⟩)

theorem v1_at (b h : Fin 8) (j : Fin 2) (t : Fin 4096) (d : Fin 64) :
    val_main_v1 (F := Ideal) Q (ix5 b h j t d) = queryAt Q b h t (lane j d) := by
  rw [val_main_v1_apply, val_main_v0_apply]
  refine congrArg Q (funext fun a => Fin.ext ?_)
  fin_cases a <;> simp [lane] <;> omega

theorem v10_at (b h : Fin 8) (j : Fin 2) (k : Fin 4608) (d : Fin 64) :
    val_main_v10 (F := Ideal) A CA (ix5 b h j k d) = headAt A CA (headNo b h) k (lane j d) := by
  unfold val_main_v10 headAt
  pointwise []
  split
  · rw [val_main_v9_apply, val_main_v8_apply, val_main_v6_apply]
    refine congrArg CA (funext fun a => Fin.ext ?_)
    fin_cases a <;> simp [lane, headNo] <;> omega
  · rw [val_main_v3_apply, val_main_v2_apply]
    refine congrArg A (funext fun a => Fin.ext ?_)
    fin_cases a <;> simp [lane, headNo] <;> omega

theorem v11_at (b h : Fin 8) (k : Fin 4608) (w : Fin 128) :
    val_main_v11 (F := Ideal) B CB (ix4 b h k w) = headAt B CB (headNo b h) k w := by
  unfold val_main_v11 headAt
  pointwise []
  split
  · rw [val_main_v7_apply]
    refine congrArg CB (funext fun a => Fin.ext ?_)
    fin_cases a <;> simp [headNo] <;> omega
  · rw [val_main_v5_apply, val_main_v4_apply]
    refine congrArg B (funext fun a => Fin.ext ?_)
    fin_cases a <;> simp [headNo] <;> omega

/-- A score of half `j`: the query row against key row `k` over the half's lanes, times an eighth. -/
def scoreAt (b h : Fin 8) (j : Fin 2) (t : Fin 4096) (k : Fin 4608) : EReal :=
  (∑ d : Fin 64, queryAt Q b h t (lane j d) * headAt A CA (headNo b h) k (lane j d)) * Ideal.ofBits .f32 0x3E000000#32

theorem v31_at (b h : Fin 8) (j : Fin 2) (t : Fin 4096) (k : Fin 4608) :
    val_main_v31 (F := Ideal) Q A CA (ix5 b h j t k) = scoreAt Q A CA b h j t k := by
  rw [val_main_v31_apply, val_main_v29_apply, val_main_v30_apply]
  refine congrArg₂ (· * ·) (Finset.sum_congr rfl fun d _ => congrArg₂ (· * ·) ?_ ?_) rfl
  · exact (congrArg (val_main_v1 (F := Ideal) Q) (funext fun a => by fin_cases a <;> rfl)).trans (v1_at Q b h j t d)
  · exact (congrArg (val_main_v10 (F := Ideal) A CA) (funext fun a => by fin_cases a <;> rfl)).trans (v10_at A CA b h j k d)

/-- The greatest score of a row. -/
def topAt (b h : Fin 8) (j : Fin 2) (t : Fin 4096) : EReal :=
  max (Ideal.ofBits .f32 0xFF800000#32) (Finset.univ.fold max (Ideal.ofBits .f32 0xFF800000#32) (scoreAt Q A CA b h j t))

theorem v34_at (b h : Fin 8) (j : Fin 2) (t : Fin 4096) :
    val_main_v34 (F := Ideal) Q A CA (ix4 b h j t) = topAt Q A CA b h j t := by
  have e : val_main_v32 (F := Ideal) Q A CA (ix4 b h j t) = Finset.univ.fold max (Ideal.ofBits .f32 0xFF800000#32)
      (fun k => val_main_v31 (F := Ideal) Q A CA (ix5 b h j t k)) := by
    unfold val_main_v32
    generalize val_main_v31 (F := Ideal) Q A CA = y
    pointwise [val_main_cst_3]
  rw [val_main_v34_apply, e, val_main_v33_apply, topAt, funext (v31_at Q A CA b h j t)]
  rfl

/-- A weight of half `j`'s softmax. -/
def weightAt (b h : Fin 8) (j : Fin 2) (t : Fin 4096) (k : Fin 4608) : EReal :=
  Ideal.div (Ideal.exp (scoreAt Q A CA b h j t k - topAt Q A CA b h j t))
    (Ideal.ofBits .f32 0x00000000#32 + ∑ k', Ideal.exp (scoreAt Q A CA b h j t k' - topAt Q A CA b h j t))

theorem v38_at (b h : Fin 8) (j : Fin 2) (t : Fin 4096) (k : Fin 4608) :
    val_main_v38 (F := Ideal) Q A CA (ix5 b h j t k) = Ideal.exp (scoreAt Q A CA b h j t k - topAt Q A CA b h j t) := by
  rw [val_main_v38_apply, val_main_v37_apply, v31_at, val_main_v36_apply, val_main_v35_apply, ← v34_at]
  exact congrArg (fun z => Ideal.exp (scoreAt Q A CA b h j t k - val_main_v34 (F := Ideal) Q A CA z)) (funext fun a => by fin_cases a <;> rfl)

theorem v42_at (b h : Fin 8) (j : Fin 2) (t : Fin 4096) (k : Fin 4608) :
    val_main_v42 (F := Ideal) Q A CA (ix5 b h j t k) = weightAt Q A CA b h j t k := by
  rw [val_main_v42_apply, v38_at, val_main_v41_apply, val_main_v40_apply, val_main_v39_apply]
  refine congrArg (Ideal.div _) (congrArg (_ + ·) (Finset.sum_congr rfl fun k' _ => ?_))
  exact (congrArg (val_main_v38 (F := Ideal) Q A CA) (funext fun a => by fin_cases a <;> rfl)).trans (v38_at Q A CA b h j t k')

theorem v44_at (b h : Fin 8) (t : Fin 4096) (k : Fin 4608) :
    val_main_v44 (F := Ideal) Q A CA (ix4 b h t k) = weightAt Q A CA b h 0 t k := by
  rw [val_main_v44_apply, val_main_v43_apply, ← v42_at]
  refine congrArg (val_main_v42 (F := Ideal) Q A CA) (funext fun a => Fin.ext ?_)
  fin_cases a <;> simp <;> omega

theorem v46_at (b h : Fin 8) (t : Fin 4096) (k : Fin 4608) :
    val_main_v46 (F := Ideal) Q A CA (ix4 b h t k) = weightAt Q A CA b h 1 t k := by
  rw [val_main_v46_apply, val_main_v45_apply, ← v42_at]
  refine congrArg (val_main_v42 (F := Ideal) Q A CA) (funext fun a => Fin.ext ?_)
  fin_cases a <;> simp <;> omega

/-- The reference's lambda. -/
def lamAt : EReal := Ideal.exp (Ideal.ofBits .f32 0x00000000#32 + ∑ x, lamRows L (ix2 0 x) * lamRows L (ix2 1 x))
  - Ideal.exp (Ideal.ofBits .f32 0x00000000#32 + ∑ x, lamRows L (ix2 2 x) * lamRows L (ix2 3 x)) + Ideal.ofBits .f32 0x3EB60549#32

theorem v14_at (x : Fin 64) : val_main_v14 (F := Ideal) L (ix1 x) = lamRows L (ix2 0 x) := by
  rw [val_main_v14_apply, val_main_v13_apply, val_main_v12_apply]
  refine congrArg L (funext fun a => Fin.ext ?_)
  fin_cases a <;> simp <;> omega

theorem v16_at (x : Fin 64) : val_main_v16 (F := Ideal) L (ix1 x) = lamRows L (ix2 1 x) := by
  rw [val_main_v16_apply, val_main_v15_apply, val_main_v12_apply]
  refine congrArg L (funext fun a => Fin.ext ?_)
  fin_cases a <;> simp <;> omega

theorem v18_at (x : Fin 64) : val_main_v18 (F := Ideal) L (ix1 x) = lamRows L (ix2 2 x) := by
  rw [val_main_v18_apply, val_main_v17_apply, val_main_v12_apply]
  refine congrArg L (funext fun a => Fin.ext ?_)
  fin_cases a <;> simp <;> omega

theorem v20_at (x : Fin 64) : val_main_v20 (F := Ideal) L (ix1 x) = lamRows L (ix2 3 x) := by
  rw [val_main_v20_apply, val_main_v19_apply, val_main_v12_apply]
  refine congrArg L (funext fun a => Fin.ext ?_)
  fin_cases a <;> simp <;> omega

/-- The indices of a row of 64 are its lanes. -/
def laneEquiv : S64.Idx ≃ Fin 64 := ⟨fun i => i 0, fun x => ix1 x, fun i => funext fun a => by fin_cases a; rfl, fun _ => rfl⟩

theorem v28_at (i : S_.Idx) : val_main_v28 (F := Ideal) L i = lamAt L := by
  have e1 : val_main_v22 (F := Ideal) L i = Ideal.ofBits .f32 0x00000000#32 + ∑ x, lamRows L (ix2 0 x) * lamRows L (ix2 1 x) := by
    rw [val_main_v22_apply]
    refine congrArg (_ + ·) ?_
    refine Fintype.sum_equiv laneEquiv _ _ fun i => ?_
    obtain ⟨x, rfl⟩ : ∃ x, i = (ix1 x : S64.Idx) := ⟨i 0, funext fun a => by fin_cases a; rfl⟩
    exact congrArg₂ (· * ·) (v14_at L x) (v16_at L x)
  have e2 : val_main_v25 (F := Ideal) L i = Ideal.ofBits .f32 0x00000000#32 + ∑ x, lamRows L (ix2 2 x) * lamRows L (ix2 3 x) := by
    rw [val_main_v25_apply]
    refine congrArg (_ + ·) ?_
    refine Fintype.sum_equiv laneEquiv _ _ fun i => ?_
    obtain ⟨x, rfl⟩ : ∃ x, i = (ix1 x : S64.Idx) := ⟨i 0, funext fun a => by fin_cases a; rfl⟩
    exact congrArg₂ (· * ·) (v18_at L x) (v20_at L x)
  rw [val_main_v28_apply, val_main_v27_apply, val_main_v23_apply, val_main_v26_apply, e1, e2]
  rfl

/-- The attention of a head at lane `w`: the difference of its two softmaxes, the second times lambda, on the values. -/
def attnAt (b h : Fin 8) (t : Fin 4096) (w : Fin 128) : EReal :=
  ∑ k, (weightAt Q A CA b h 0 t k - lamAt L * weightAt Q A CA b h 1 t k) * headAt B CB (headNo b h) k w

theorem v50_at (b h : Fin 8) (t : Fin 4096) (w : Fin 128) :
    val_main_v50 (F := Ideal) Q A B CA CB L (ix4 b h t w) = attnAt Q A B CA CB L b h t w := by
  rw [val_main_v50_apply]
  refine Finset.sum_congr rfl fun k _ => congrArg₂ (· * ·) ?_ ?_
  · refine (congrArg (val_main_v49 (F := Ideal) Q A CA L) (funext fun a => by fin_cases a <;> rfl :
      _ = (ix4 b h t k : S8x8x4096x4608.Idx))).trans ?_
    rw [val_main_v49_apply, val_main_v48_apply, val_main_v47_apply, v28_at, v44_at, v46_at]
    rfl
  · exact (congrArg (val_main_v11 (F := Ideal) B CB) (funext fun a => by fin_cases a <;> rfl)).trans (v11_at B CB b h k w)

theorem v52_at (b h : Fin 8) (t : Fin 4096) :
    val_main_v52 (F := Ideal) Q A B CA CB L (ix3 b h t)
      = Ideal.ofBits .f32 0x00000000#32 + ∑ x, attnAt Q A B CA CB L b h t x * attnAt Q A B CA CB L b h t x := by
  rw [val_main_v52_apply]
  refine congrArg (_ + ·) (Finset.sum_congr rfl fun x _ => ?_)
  rw [val_main_v51_apply]
  exact congrArg (fun z : EReal => z * z) ((congrArg (val_main_v50 (F := Ideal) Q A B CA CB L) (funext fun a => by fin_cases a <;> rfl)).trans
    (v50_at Q A B CA CB L b h t x))

theorem v58_at (b h : Fin 8) (t : Fin 4096) :
    val_main_v58 (F := Ideal) Q A B CA CB L (ix4 b h t 0)
      = Ideal.rsqrt (Ideal.div (∑ x, attnAt Q A B CA CB L b h t x * attnAt Q A B CA CB L b h t x) (Ideal.ofBits .f32 0x43000000#32)
        + Ideal.ofBits .f32 0x358637BD#32) := by
  have e : val_main_v53 (F := Ideal) Q A B CA CB L (ix4 b h t 0) = ∑ x, attnAt Q A B CA CB L b h t x * attnAt Q A B CA CB L b h t x := by
    rw [val_main_v53_apply]
    refine (congrArg (val_main_v52 (F := Ideal) Q A B CA CB L) (funext fun a => by fin_cases a <;> rfl : _ = (ix3 b h t : S8x8x4096.Idx))).trans ?_
    rw [v52_at, Ideal.ofBits_zero_f32, zero_add]
  rw [val_main_v58_apply, val_main_v57_apply, val_main_v55_apply, e, val_main_v54_apply, val_main_v56_apply]
  rfl

theorem v63_at (b h : Fin 8) (t : Fin 4096) (w : Fin 128) : val_main_v63 (F := Ideal) G (ix4 b h t w) = G (ix2 0 w) := by
  rw [val_main_v63_apply, val_main_v62_apply, val_main_v61_apply]
  refine congrArg G (funext fun a => Fin.ext ?_)
  fin_cases a <;> simp <;> omega

theorem silu_at (i : S8x4096x1024.Idx) : val_main_v69 (F := Ideal) Z i = Z i * Ideal.logistic (Z i) := by
  rw [val_main_v69_apply, val_main_call0_v5_apply, val_main_call0_v4_apply, val_main_call0_v3_apply, val_main_call0_v2_apply,
    val_main_call0_v1_apply, val_main_call0_v0_apply]
  show Z i * Ideal.div (Ideal.ofBits .f32 0x3F800000#32) (Ideal.ofBits .f32 0x3F800000#32 + Ideal.exp (-Z i)) = _
  rw [Ideal.ofBits_one_f32]
  rfl

/-- The reference's result. -/
theorem v71_at (b h : Fin 8) (t : Fin 4096) (w : Fin 128) :
    val_main_v71 (F := Ideal) Q A B Z CA CB L G (ix3 b t ⟨h.val * 128 + w.val, by omega⟩)
      = Cert.KernelIdeal.Val.gateOf (attnAt Q A B CA CB L b h t) (G (ix2 0 w)) (Z (ix3 b t ⟨h.val * 128 + w.val, by omega⟩)) w := by
  have e : val_main_v68 (F := Ideal) Q A B CA CB L G (ix3 b t ⟨h.val * 128 + w.val, by omega⟩)
      = val_main_v66 (F := Ideal) Q A B CA CB L G (ix4 b h t w) := by
    rw [val_main_v68_apply, val_main_v67_apply]
    refine congrArg (val_main_v66 (F := Ideal) Q A B CA CB L G) (funext fun a => Fin.ext ?_)
    fin_cases a <;> simp <;> omega
  have e59 : val_main_v59 (F := Ideal) Q A B CA CB L (ix4 b h t w) = val_main_v58 (F := Ideal) Q A B CA CB L (ix4 b h t 0) := by
    rw [val_main_v59_apply]
    exact congrArg (val_main_v58 (F := Ideal) Q A B CA CB L) (funext fun a => by fin_cases a <;> rfl)
  rw [val_main_v71_apply, val_main_v70_apply, e, silu_at, val_main_v66_apply, val_main_v65_apply, val_main_v64_apply, v63_at,
    val_main_v60_apply, e59, v58_at, v50_at]
  rfl

end Cert.ReferenceIdeal.Read

end
-- ==== Proof.Softmax.lean ====
/- Softmax over the extended reals, on finite scores: the kernel's form (powers of two of scores in units of ln 2, one
   division of the weighted sum by the sum of the weights) and the reference's form (exponentials, each weight divided
   by the sum) are the same real weights, whatever real number the scores are shifted by. -/
module

public import Idealize.ShloMosaic.PureOps.Ideal
public import Idealize.ShloMosaic.PureOps.Ideal.Laws

@[expose] public section

noncomputable section

namespace Cert.DiffAttn

open Idealize.ShloMosaic

/-- A sum of coerced reals is the coerced sum. -/
theorem coe_sum {ι : Type} (t : Finset ι) (f : ι → ℝ) : ∑ k ∈ t, ((f k : ℝ) : EReal) = ((∑ k ∈ t, f k : ℝ) : EReal) :=
  (map_sum (⟨⟨fun x : ℝ => (x : EReal), EReal.coe_zero⟩, EReal.coe_add⟩ : ℝ →+ EReal) f t).symm

/-- The fold of `max` from `⊥` over a nonempty family of coerced reals is a coerced real. -/
theorem fold_max_coe {n : ℕ} (hn : 0 < n) (s : Fin n → ℝ) :
    ∃ M : ℝ, (Finset.univ : Finset (Fin n)).fold max ⊥ (fun k => ((s k : ℝ) : EReal)) = (M : EReal) := by
  have h1 : (Finset.univ : Finset (Fin n)).fold max ⊥ (fun k => ((s k : ℝ) : EReal)) ≠ ⊤ :=
    ne_of_lt (Finset.fold_max_lt _ |>.mpr ⟨bot_lt_top, fun k _ => EReal.coe_lt_top _⟩)
  have h2 : (Finset.univ : Finset (Fin n)).fold max ⊥ (fun k => ((s k : ℝ) : EReal)) ≠ ⊥ :=
    ne_of_gt (Finset.lt_fold_max _ |>.mpr (Or.inr ⟨⟨0, hn⟩, Finset.mem_univ _, EReal.bot_lt_coe _⟩))
  exact ⟨_, (EReal.coe_toReal h1 h2).symm⟩

/-- The real softmax weight of the `k`-th score. -/
def weight {n : ℕ} (s : Fin n → ℝ) (k : Fin n) : ℝ := Real.exp (s k) / ∑ j, Real.exp (s j)

theorem sum_exp_pos {n : ℕ} (hn : 0 < n) (s : Fin n → ℝ) : 0 < ∑ j, Real.exp (s j) :=
  Finset.sum_pos (fun j _ => Real.exp_pos _) ⟨⟨0, hn⟩, Finset.mem_univ _⟩

/-- A quotient of coerced reals, the divisor nonzero, is the coerced quotient. -/
theorem div_coe_coe (x : ℝ) {y : ℝ} (h : y ≠ 0) : Ideal.div (x : EReal) (y : EReal) = ((x / y : ℝ) : EReal) := by
  rw [Ideal.div_coe h, ← EReal.coe_mul, mul_one_div]

/-- The exponential of a difference of coerced reals. -/
theorem exp_sub_coe (x m : ℝ) : Ideal.exp ((x : EReal) - (m : EReal)) = ((Real.exp x * Real.exp (-m) : ℝ) : EReal) := by
  rw [← EReal.coe_sub, ← Real.exp_add, ← sub_eq_add_neg]; rfl

/-- A power of two of a score in units of ln 2, shifted: the exponential of the score times a factor of the shift. -/
theorem exp2_sub_coe (x m : ℝ) : Ideal.exp2 (((x * (Real.log 2)⁻¹ : ℝ) : EReal) - (m : EReal))
    = ((Real.exp x * Real.exp (-(Real.log 2 * m)) : ℝ) : EReal) := by
  rw [← EReal.coe_sub]
  show ((Real.rpow 2 (x * (Real.log 2)⁻¹ - m) : ℝ) : EReal) = _
  have h2 : Real.log 2 ≠ 0 := ne_of_gt (Real.log_pos (by norm_num))
  have h : Real.rpow 2 (x * (Real.log 2)⁻¹ - m) = Real.exp x * Real.exp (-(Real.log 2 * m)) := by
    show (2 : ℝ) ^ (x * (Real.log 2)⁻¹ - m) = _
    rw [Real.rpow_def_of_pos (by norm_num), ← Real.exp_add]
    congr 1
    field_simp
    ring
  rw [h]

/-- The reference's weight: the shifted exponential over the sum of the shifted exponentials is the softmax weight. -/
theorem host_weight {n : ℕ} (hn : 0 < n) (s : Fin n → ℝ) (m : ℝ) (k : Fin n) :
    Ideal.div (Ideal.exp ((s k : EReal) - (m : EReal))) (0 + ∑ j, Ideal.exp ((s j : EReal) - (m : EReal)))
      = ((weight s k : ℝ) : EReal) := by
  simp only [exp_sub_coe]
  rw [coe_sum, zero_add, ← Finset.sum_mul]
  have hs := sum_exp_pos hn s
  rw [div_coe_coe _ (ne_of_gt (mul_pos hs (Real.exp_pos _))), mul_div_mul_right _ _ (ne_of_gt (Real.exp_pos _))]
  rfl

/-- The kernel's quotient: the weighted sum of the values over the sum of the weights, the weights being powers of two
    of the shifted scores in units of ln 2, is the softmax-weighted sum of the values. -/
theorem kernel_ratio {n : ℕ} (hn : 0 < n) (s : Fin n → ℝ) (m : ℝ) (v : Fin n → ℝ) :
    Ideal.div (∑ k, Ideal.exp2 (((s k * (Real.log 2)⁻¹ : ℝ) : EReal) - (m : EReal)) * (v k : EReal))
        (∑ k, Ideal.exp2 (((s k * (Real.log 2)⁻¹ : ℝ) : EReal) - (m : EReal)) * 1)
      = ((∑ k, weight s k * v k : ℝ) : EReal) := by
  simp only [exp2_sub_coe, ← EReal.coe_mul, mul_one]
  rw [coe_sum, coe_sum, ← Finset.sum_mul]
  have hs := sum_exp_pos hn s
  rw [div_coe_coe _ (ne_of_gt (mul_pos hs (Real.exp_pos _)))]
  congr 1
  rw [div_eq_iff (ne_of_gt (mul_pos hs (Real.exp_pos _))), Finset.sum_mul]
  refine Finset.sum_congr rfl fun k _ => ?_
  unfold weight
  field_simp

/-- The difference of two softmax-weighted sums is the sum weighted by the difference of the weights. -/
theorem weighted_sub {n : ℕ} (w0 w1 v : Fin n → ℝ) (lam : ℝ) :
    ((∑ k, w0 k * v k : ℝ) : EReal) - (lam : EReal) * ((∑ k, w1 k * v k : ℝ) : EReal)
      = ∑ k, (((w0 k : ℝ) : EReal) - (lam : EReal) * ((w1 k : ℝ) : EReal)) * ((v k : ℝ) : EReal) := by
  simp only [← EReal.coe_mul, ← EReal.coe_sub]
  rw [coe_sum]
  congr 1
  rw [Finset.mul_sum, ← Finset.sum_sub_distrib]
  exact Finset.sum_congr rfl fun k _ => by ring

end Cert.DiffAttn

end
-- ==== Proof.Equal.lean ====
/- The two programs' rows are equal when queries, keys, values and lambda parameters are finite: both are the difference of
   two softmax-weighted sums of the values, the kernel's taken with powers of two of scores in units of ln 2. -/
module

public import proofs.«01_k».proof.Proof.Ref
public import proofs.«01_k».proof.Proof.Softmax
public import proofs.«01_k».proof.Proof.Gen.Pre_finite

@[expose] public section

set_option maxRecDepth 16384

noncomputable section

namespace Cert.DiffAttn

open Idealize.ShloMosaic Idealize.ShloMosaic.TcCoe Idealize.SL.Sem
open Cert.KernelIdeal.Val Cert.ReferenceIdeal.Read

/-- Every element is a real number. -/
def Reals {ι : Type} (x : ι → EReal) : Prop := ∀ i, ∃ r : ℝ, x i = (r : EReal)

theorem real_of_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem neg_inf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem lam_word : ∃ r : ℝ, Ideal.ofBits .f32 0x3EB60549#32 = (r : EReal) := by
  refine ⟨11928905 / 33554432, ?_⟩
  simp [Ideal.ofBits, Ideal.ieee, -EReal.coe_mul]; norm_num

theorem q_scale : Named.named (F := Ideal) Cert.KernelIdeal.κ "q_scale" (φ := .f32) 0x3E38AA3B#32 = (((1 / 8) * (Real.log 2)⁻¹ : ℝ) : EReal) :=
  IdealRules.named_const.ideal_named_scalar _ _ _ _ rfl

/-- The score of half `j` of a real query row against key row `k`. -/
def score (q : Fin 128 → ℝ) (K : Fin 4608 → Fin 128 → ℝ) (j : Fin 2) (k : Fin 4608) : ℝ :=
  (∑ x, q (lane j x) * K k (lane j x)) * (1 / 8)

theorem scoreOf_coe (q : Fin 128 → ℝ) (K : Fin 4608 → Fin 128 → ℝ) (j : Fin 2) :
    scoreOf (fun e => (q e : EReal)) (fun k e => (K k e : EReal)) j = fun k => ((score q K j k * (Real.log 2)⁻¹ : ℝ) : EReal) := by
  funext k
  unfold scoreOf score
  rw [q_scale]
  simp only [← EReal.coe_mul]
  rw [coe_sum, Finset.sum_mul, Finset.sum_mul]
  congr 1
  exact Finset.sum_congr rfl fun x _ => by ring

/-- The kernel's quotient over scores in units of ln 2 and divisors all one. -/
theorem ratio_coe (s v : Fin 4608 → ℝ) :
    ratioOf (fun k => ((s k * (Real.log 2)⁻¹ : ℝ) : EReal)) (fun k => (v k : EReal)) (fun _ => 1) = ((∑ k, weight s k * v k : ℝ) : EReal) := by
  obtain ⟨M, hM⟩ := fold_max_coe (n := 4608) (by decide) fun k => s k * (Real.log 2)⁻¹
  unfold ratioOf
  rw [neg_inf, hM]
  exact kernel_ratio (by decide) s M v

/-- The reference's weight of real scores. -/
theorem ref_weight (s : Fin 4608 → ℝ) (k : Fin 4608) :
    Ideal.div (Ideal.exp ((s k : EReal) - max (Ideal.ofBits .f32 0xFF800000#32)
        (Finset.univ.fold max (Ideal.ofBits .f32 0xFF800000#32) fun k => (s k : EReal))))
      (Ideal.ofBits .f32 0x00000000#32 + ∑ k', Ideal.exp ((s k' : EReal) - max (Ideal.ofBits .f32 0xFF800000#32)
        (Finset.univ.fold max (Ideal.ofBits .f32 0xFF800000#32) fun k => (s k : EReal)))) = ((weight s k : ℝ) : EReal) := by
  obtain ⟨M, hM⟩ := fold_max_coe (n := 4608) (by decide) s
  rw [neg_inf, hM, max_eq_right bot_le, Ideal.ofBits_zero_f32]
  exact host_weight (by decide) s M k

section
variable (Q A B Z : Cert.KernelIdeal.S8x4096x1024.Idx → EReal) (CA CB : Cert.KernelIdeal.S8x1x8x512x128.Idx → EReal)
  (L : Cert.KernelIdeal.S1x4x64.Idx → EReal) (G : Cert.KernelIdeal.S1x128.Idx → EReal)

theorem headAt_real (hA : Reals A) (hC : Reals CA) (n : Fin 64) (k : Fin 4608) (e : Fin 128) : ∃ r : ℝ, headAt A CA n k e = (r : EReal) := by
  unfold headAt
  split
  · exact hC _
  · exact hA _

theorem lamAt_eq : lamAt L = lamOf fun i x => lamRows L (ix2 i x) := by
  unfold lamAt lamOf
  rw [Ideal.ofBits_zero_f32, zero_add, zero_add]

theorem lamAt_real (hL : Reals L) : ∃ r : ℝ, lamAt L = (r : EReal) := by
  choose l hl using hL
  obtain ⟨w, hw⟩ := lam_word
  rw [lamAt_eq]
  unfold lamOf lamRows
  simp only [hl, hw, ← EReal.coe_mul, coe_sum]
  exact ⟨_, ((EReal.coe_add _ _).trans (congrArg (· + (w : EReal)) (EReal.coe_sub (Real.exp _) (Real.exp _)))).symm⟩

/-- The reference's weights are the softmax weights of the real scores. -/
theorem weightAt_coe (b h : Fin 8) (t : Fin 4096) (q : Fin 128 → ℝ) (hq : ∀ e, queryAt Q b h t e = (q e : EReal))
    (K : Fin 4608 → Fin 128 → ℝ) (hK : ∀ k e, headAt A CA (headNo b h) k e = (K k e : EReal)) (j : Fin 2) (k : Fin 4608) :
    weightAt Q A CA b h j t k = ((weight (score q K j) k : ℝ) : EReal) := by
  have hs : scoreAt Q A CA b h j t = fun k => (score q K j k : EReal) := by
    funext k
    unfold scoreAt score
    simp only [hq, hK, eighth, ← EReal.coe_mul, coe_sum]
  unfold weightAt topAt
  rw [hs]
  exact ref_weight _ k

/-- The kernel's row before its norm is the reference's. -/
theorem attn_eq (hQ : Reals Q) (hA : Reals A) (hB : Reals B) (hCA : Reals CA) (hCB : Reals CB) (hL : Reals L) (b h : Fin 8) (t : Fin 4096) (w : Fin 128) :
    ratioOf (scoreOf (queryAt Q b h t) (headAt A CA (headNo b h)) 0) (fun k => headAt B CB (headNo b h) k w) (fun _ => 1)
      - lamOf (fun i x => lamRows L (ix2 i x)) * ratioOf (scoreOf (queryAt Q b h t) (headAt A CA (headNo b h)) 1)
        (fun k => headAt B CB (headNo b h) k w) (fun _ => 1) = attnAt Q A B CA CB L b h t w := by
  have hq' : ∀ e, ∃ r : ℝ, queryAt Q b h t e = (r : EReal) := fun e => hQ _
  choose q hq using hq'
  choose K hK using headAt_real A CA hA hCA (headNo b h)
  choose V hV using fun k => headAt_real B CB hB hCB (headNo b h) k w
  obtain ⟨lam, hlam⟩ := lamAt_real L hL
  unfold attnAt
  simp only [weightAt_coe Q A CA b h t q hq K hK, hV, hlam]
  rw [← lamAt_eq, hlam, show queryAt Q b h t = _ from funext hq, show headAt A CA (headNo b h) = _ from funext fun k => funext (hK k),
    scoreOf_coe, scoreOf_coe, ratio_coe, ratio_coe]
  exact weighted_sub _ _ _ _

/-- The kernel's result array is the reference's. -/
theorem result_eq (hQ : Reals Q) (hA : Reals A) (hB : Reals B) (hCA : Reals CA) (hCB : Reals CB) (hL : Reals L) :
    val_main_v71 (F := Ideal) Q A B Z CA CB L G = result Q A B Z CA CB L G := by
  funext i
  obtain ⟨b, t, u, rfl⟩ : ∃ (b : Fin 8) (t : Fin 4096) (u : Fin 1024), i = (ix3 b t u : Cert.KernelIdeal.S8x4096x1024.Idx) :=
    ⟨i 0, i 1, i 2, by funext a; fin_cases a <;> rfl⟩
  have hu := u.isLt
  obtain ⟨h, w, hhw⟩ : ∃ (h : Fin 8) (w : Fin 128), u.val = h.val * 128 + w.val :=
    ⟨⟨u.val / 128, by omega⟩, ⟨u.val % 128, by omega⟩, by simp; omega⟩
  have hlt : h.val * 128 + w.val < 1024 := by clear hhw hu; omega
  obtain rfl : u = ⟨h.val * 128 + w.val, hlt⟩ := Fin.ext hhw
  refine (v71_at Q A B Z CA CB L G b h t w).trans ?_
  have e1 : (h.val * 128 + w.val) / 128 = h.val := by omega
  have e2 : (h.val * 128 + w.val) % 128 = w.val := by omega
  have en : (⟨b.val * 8 + (h.val * 128 + w.val) / 128, by omega⟩ : Fin 64) = headNo b h := Fin.ext (by simp [headNo]; omega)
  have ew : (⟨(h.val * 128 + w.val) % 128, by omega⟩ : Fin 128) = w := Fin.ext e2
  show _ = rowOf (lamRows L) G (headKeys A CA ⟨b.val * 8 + (h.val * 128 + w.val) / 128, _⟩)
    (headVals B CB ⟨b.val * 8 + (h.val * 128 + w.val) / 128, _⟩) ⟨(h.val * 128 + w.val) % 128, _⟩
    (fun e => Q (ix3 b t ⟨(h.val * 128 + w.val) / 128 * 128 + e.val, _⟩)) (Z (ix3 b t ⟨h.val * 128 + w.val, _⟩))
  have eq : (fun e : Fin 128 => Q (ix3 b t ⟨(h.val * 128 + w.val) / 128 * 128 + e.val, by omega⟩)) = queryAt Q b h t :=
    funext fun e => congrArg Q (congrArg (ix3 b t) (Fin.ext (by simp; omega)))
  rw [en, ew, eq]
  refine congrArg (fun o => gateOf o (G (ix2 0 w)) (Z (ix3 b t ⟨h.val * 128 + w.val, by omega⟩)) w) (funext fun c => ?_)
  have ev : (fun k : Fin 4608 => headVals B CB (headNo b h) (ix3 0 k ⟨c.val, by omega⟩)) = fun k => headAt B CB (headNo b h) k c :=
    funext fun k => dif_pos c.isLt
  have eo : (fun k : Fin 4608 => headVals B CB (headNo b h) (ix3 0 k 128)) = fun _ => 1 :=
    funext fun k => (dif_neg (by simp)).trans Ideal.ofBits_one_bf16
  refine (attn_eq Q A B CA CB L hQ hA hB hCA hCB hL b h t c).symm.trans ?_
  rw [ev, eo]
  rfl

end

end Cert.DiffAttn

end
-- ==== Proof.Claims.lean ====
/- The claims of the latent differential attention: the frames, the named constant, and the equality of the results. -/
module

public import proofs.«01_k».proof.Defs
public import proofs.«01_k».proof.Proof.Equal
public import proofs.«01_k».proof.Proof.Gen.Kernel.Frame
public import proofs.«01_k».proof.Proof.Gen.KernelIdeal.Frame
public import Idealize.ShloMosaic.Lib.Quiescent

@[expose] public section

noncomputable section

namespace Cert.DiffAttn

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "q_scale" .f32 0x3E38AA3B#32 (((1 / 8) * (Real.log 2)⁻¹ : ℝ) : EReal) rfl

/-- What the precondition says of one array. -/
theorem reals_of {S : Shape} {x : S.Idx → EReal}
    (h : (fun i => Ideal.cmp .olt (max (x i) (-(x i))) (Ideal.ofBits .f32 0x7F800000#32)) = fun _ => 1#1) : Reals x := fun i =>
  real_of_lt (congrFun h i)

theorem algebraic : Cert.algebraic_KernelIdeal_ReferenceIdeal_pre_finite := by
  intro m ρ m' ρ' hp hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2, p4, p5, p6⟩ := hp c
  obtain ⟨a0, a1, a2, a3, a4, a5, a6, a7⟩ := hagree c
  rw [Cert.ReferenceIdeal.Read.val_main_v71_eq, a0, a1, a2, a3, a4, a5, a6, a7]
  exact (result_eq _ _ _ _ _ _ _ _ (reals_of p0) (reals_of p1) (reals_of p2) (reals_of p4) (reals_of p5) (reals_of p6)).trans
    (Cert.KernelIdeal.Val.final m c).symm

end Cert.DiffAttn

end
-- ==== Proof.Pool.lean ====
/- Sums over windows of a sequence: as differences of prefix sums, and the host's cumulative sum; the words of the windows'
   ends. -/
module

public import proofs.«01_k».proof.Proof.Softmax
public import Idealize.ShloMosaic.Lib.Pointwise
public import Idealize.ShloMosaic.Lib.WordArith
public import Idealize.ShloMosaic.Lib.WordCmp
public import Idealize.ShloMosaic.Lib.StableHlo

@[expose] public section

set_option maxRecDepth 16384

noncomputable section

namespace Cert.Pool

open Idealize.ShloMosaic

/-! ## Words -/

theorem slt_ofNat {a b : ℕ} (ha : a < 2 ^ 31) (hb : b < 2 ^ 31) : (BitVec.ofNat 32 a).slt (BitVec.ofNat 32 b) = decide (a < b) := by
  show decide ((BitVec.ofNat 32 a).toInt < (BitVec.ofNat 32 b).toInt) = _
  rw [WordCmp.toInt_ofNat_of_lt ha, WordCmp.toInt_ofNat_of_lt hb]
  simp

theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat ha hb]
  by_cases h : a < b
  · simp [h, Nat.min_eq_left h.le]
  · simp [h, Nat.min_eq_right (Nat.le_of_not_lt h)]

theorem subi_word {a b : ℕ} (h : b ≤ a) : IntOp.subi (BitVec.ofNat 32 a) (BitVec.ofNat 32 b) = BitVec.ofNat 32 (a - b) := by
  show BitVec.ofNat 32 a - BitVec.ofNat 32 b = _
  rw [sub_eq_iff_eq_add, ← BitVec.ofNat_add, Nat.sub_add_cancel h]

theorem addi_word (a b : ℕ) : IntOp.addi (BitVec.ofNat 32 a) (BitVec.ofNat 32 b) = BitVec.ofNat 32 (a + b) := WordCmp.addi_ofNat a b

/-- A difference below zero is negative. -/
theorem neg_word {t l : ℕ} (h : t < l) (hl : l ≤ 8) : (IntOp.subi (BitVec.ofNat 32 t) (BitVec.ofNat 32 l)).slt 0#32 = true :=
  (by decide : ∀ l : Fin 9, ∀ t : Fin 9, t.val < l.val → (IntOp.subi (BitVec.ofNat 32 t.val) (BitVec.ofNat 32 l.val)).slt 0#32 = true)
    ⟨l, by omega⟩ ⟨t, by omega⟩ h

/-- The window's first token: `l` before token `t`, or the first of all. -/
theorem lo_word {t l : ℕ} (ht : t < 4096) (hl : l ≤ 8) :
    IntOp.maxsi (IntOp.subi (BitVec.ofNat 32 t) (BitVec.ofNat 32 l)) 0#32 = BitVec.ofNat 32 (t - l) := by
  unfold IntOp.maxsi
  by_cases h : l ≤ t
  · rw [subi_word h]
    by_cases h0 : 0 < t - l
    · rw [show (0#32 : BitVec 32) = BitVec.ofNat 32 0 from rfl, slt_ofNat (by omega) (by omega)]
      simp [h0]
    · rw [show t - l = 0 by omega]
      rfl
  · have h0 : (0#32 : BitVec 32).slt (IntOp.subi (BitVec.ofNat 32 t) (BitVec.ofNat 32 l)) = false :=
      (by decide : ∀ l : Fin 9, ∀ t : Fin 9, t.val < l.val → (0#32 : BitVec 32).slt (IntOp.subi (BitVec.ofNat 32 t.val) (BitVec.ofNat 32 l.val)) = false)
        ⟨l, by omega⟩ ⟨t, by omega⟩ (by simp; omega)
    rw [h0, show t - l = 0 by omega]
    rfl

/-- The same, clipped as the host clips it. -/
theorem lo_word' {t l : ℕ} (ht : t < 4096) (hl : l ≤ 8) :
    IntOp.minsi 4096#32 (IntOp.maxsi 0#32 (IntOp.subi (BitVec.ofNat 32 t) (BitVec.ofNat 32 l))) = BitVec.ofNat 32 (t - l) := by
  have e : IntOp.maxsi 0#32 (IntOp.subi (BitVec.ofNat 32 t) (BitVec.ofNat 32 l)) = BitVec.ofNat 32 (t - l) := by
    unfold IntOp.maxsi
    by_cases h : l ≤ t
    · rw [subi_word h, show (0#32 : BitVec 32) = BitVec.ofNat 32 0 from rfl, slt_ofNat (by omega) (by omega)]
      simp
    · rw [neg_word (by omega) hl, show t - l = 0 by omega]
      rfl
  rw [e]
  exact (minsi_word (by omega) (by omega)).trans (congrArg _ (by omega))

theorem hi_word' {n : ℕ} (hn : n < 8192) : IntOp.minsi 4096#32 (IntOp.maxsi 0#32 (BitVec.ofNat 32 n)) = BitVec.ofNat 32 (min n 4096) := by
  have e : IntOp.maxsi 0#32 (BitVec.ofNat 32 n) = BitVec.ofNat 32 n := by
    unfold IntOp.maxsi
    rw [show (0#32 : BitVec 32) = BitVec.ofNat 32 0 from rfl, slt_ofNat (by omega) (by omega)]
    simp
  rw [e]
  exact (minsi_word (by omega) (by omega)).trans (congrArg _ (by omega))

/-- The number of tokens in the window at `t` of half-width `l`, as a word. -/
def cnt (t l : ℕ) : BitVec 32 := BitVec.ofNat 32 (min (t + l) 4096 - (t - l))

theorem cnt_word {t l : ℕ} (ht : t < 4096) (hl : l ≤ 8) :
    IntOp.subi (BitVec.ofNat 32 (min (t + l) 4096)) (BitVec.ofNat 32 (t - l)) = cnt t l := subi_word (by omega)

/-- The kernel's count, from token `t` with `a + b` tokens after it. -/
theorem cnt_kernel {t a b l : ℕ} (ht : t < 4096) (hl : l ≤ 8) (h : a + b = l) :
    IntOp.subi (IntOp.minsi (IntOp.addi (IntOp.addi (BitVec.ofNat 32 t) (BitVec.ofNat 32 a)) (BitVec.ofNat 32 b)) 4096#32)
      (IntOp.maxsi (IntOp.subi (BitVec.ofNat 32 t) (BitVec.ofNat 32 l)) 0#32) = cnt t l := by
  rw [addi_word, addi_word, lo_word ht hl, show t + a + b = t + l by omega]
  exact (congrArg (fun x => IntOp.subi x _) (minsi_word (a := t + l) (b := 4096) (by omega) (by omega))).trans (cnt_word ht hl)

/-! ## Sums -/

/-- A sequence eight places later, zero before. -/
def pad (y : ℕ → EReal) (s : ℕ) : EReal := if 8 ≤ s then y (s - 8) else 0

/-- The sum of the first `n` terms. -/
def pre (y : ℕ → EReal) (n : ℕ) : EReal := ∑ s ∈ Finset.range n, y s

/-- The window of `2 l` terms around term `t`. -/
def win (y : ℕ → EReal) (t l : ℕ) : EReal := ∑ j ∈ Finset.range (2 * l), pad y (t + 8 - l + j)

theorem pad_sum (y : ℕ → ℝ) (n : ℕ) : ∑ s ∈ Finset.range n, (if 8 ≤ s then y (s - 8) else 0) = ∑ s ∈ Finset.range (n - 8), y s := by
  induction n with
  | zero => simp
  | succ n ih =>
    rw [Finset.sum_range_succ, ih]
    by_cases h : 8 ≤ n
    · rw [if_pos h, show n + 1 - 8 = n - 8 + 1 by omega, Finset.sum_range_succ]
    · rw [if_neg h, show n + 1 - 8 = n - 8 by omega, add_zero]

/-- The sum over a window is the difference of two sums of first terms, when the terms are real numbers and zero from
    `4096` on. -/
theorem win_eq {y : ℕ → EReal} (hy : ∀ s, ∃ r : ℝ, y s = (r : EReal)) (h0 : ∀ s, 4096 ≤ s → y s = 0) {t l : ℕ} (ht : t < 4096) (hl : l ≤ 8) :
    win y t l = pre y (min (t + l) 4096) - pre y (t - l) := by
  choose r hr using hy
  have e (n : ℕ) : pre y n = ((∑ s ∈ Finset.range n, r s : ℝ) : EReal) := by
    unfold pre
    simp only [hr]
    exact Cert.DiffAttn.coe_sum _ _
  have e' : win y t l = ((∑ j ∈ Finset.range (2 * l), (if 8 ≤ t + 8 - l + j then r (t + 8 - l + j - 8) else 0) : ℝ) : EReal) := by
    unfold win
    rw [← Cert.DiffAttn.coe_sum]
    refine Finset.sum_congr rfl fun j _ => ?_
    unfold pad
    split
    · exact hr _
    · rfl
  have hz : ∑ s ∈ Finset.range (t + l), r s = ∑ s ∈ Finset.range (min (t + l) 4096), r s := by
    by_cases h : t + l ≤ 4096
    · rw [Nat.min_eq_left h]
    · rw [Nat.min_eq_right (by omega), show t + l = 4096 + (t + l - 4096) by omega, Finset.sum_range_add]
      refine add_eq_left.mpr (Finset.sum_eq_zero fun x _ => ?_)
      exact EReal.coe_eq_zero.mp ((hr _).symm.trans (h0 _ (by omega)))
  have hs := Finset.sum_range_add (fun s => if 8 ≤ s then r (s - 8) else (0 : ℝ)) (t + 8 - l) (2 * l)
  rw [pad_sum, pad_sum, show t + 8 - l + 2 * l - 8 = t + l by omega, show t + 8 - l - 8 = t - l by omega, hz] at hs
  rw [e, e, e', ← EReal.coe_sub]
  refine congrArg _ ?_
  rw [hs]
  ring

/-! ## The cumulative sum -/

theorem foldl_finRange (f : ℕ → EReal) (N : ℕ) : (List.finRange N).foldl (fun r n => r + f n.val) 0 = ∑ n ∈ Finset.range N, f n := by
  have e : (List.finRange N).foldl (fun r n => r + f n.val) 0 = (List.range N).foldl (fun r n => r + f n) 0 := by
    rw [← List.map_coe_finRange_eq_range, List.foldl_map]
  rw [e]
  induction N with
  | zero => rfl
  | succ N ih => rw [List.range_succ, List.foldl_append, ih (by rw [← List.map_coe_finRange_eq_range, List.foldl_map]), Finset.sum_range_succ]; rfl

end Cert.Pool

end
-- ==== Proof.EvenOut.lean ====
/- The latent call of the even layer's output step: each group of columns minus its mean over a window of tokens, times the
   group's weights, scaled and gated; then the product of both branches with the output weights, and the gated residual. -/
module

public import proofs.«01_k».proof.Proof.Gen.Kernel6Ideal.Value
public import proofs.«01_k».proof.Proof.Pool
public import Idealize.ShloMosaic.Lib.Pointwise
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody
public import Idealize.ShloMosaic.Lib.Claim
public import Idealize.ShloMosaic.Lib.WordArith

@[expose] public section

set_option maxRecDepth 16384

noncomputable section

namespace Cert.Kernel6Ideal.Val

open Cert.Kernel6Ideal Cert.Kernel6Ideal.Gen Cert.Kernel6Ideal.Value Idealize.ShloMosaic Idealize.ShloMosaic.TcCoe Idealize.SL.Sem
open Cert.Pool

/-! ## One block -/

/-- The tokens in a window, as a number. -/
def cntF (t l : ℕ) : EReal := FloatOps.sitofp (F := Ideal) .f32 (cnt t l)

/-- A group's columns of a row minus their means, times the group's weights. -/
def mixOf (s p n w : Fin 256 → EReal) : EReal := ∑ k, (Ideal.div (s k) (n k) - p k) * w k

variable (t : Fin cfg0.N) (s p : Vec Ideal S512x256 .f32) (w : Vec Ideal S1x256x256 .bf16)

theorem coord1 : ((grid0.coords t) 1).val = t.val % 8 :=
  (by decide +kernel : ∀ t : Fin grid0.N, ((grid0.coords t) 1).val = t.val % 8) t

theorem pay5_at (r : Fin 512) (k : Fin 256) : k0_pay5 (grid0.coords t) (ix2 r k) = BitVec.ofNat 32 (t.val % 8 * 512 + r.val) := by
  unfold k0_pay5
  rw [coord1]
  exact (congrArg₂ IntOp.addi (WordCmp.muli_ofNat _ _) (by pointwise [])).trans (addi_word _ _)

/-- The count's word as the kernel takes it from a token's word. -/
def countOf (x a b l : BitVec 32) : EReal :=
  FloatOps.sitofp (F := Ideal) .f32 (IntOp.subi (IntOp.minsi (IntOp.addi (IntOp.addi x a) b) 4096#32) (IntOp.maxsi (IntOp.subi x l) 0#32))

theorem countOf_at (r : Fin 512) (k : Fin 256) {a b l : ℕ} (hl : l ≤ 8) (h : a + b = l) :
    countOf (k0_pay5 (grid0.coords t) (ix2 r k)) (BitVec.ofNat 32 a) (BitVec.ofNat 32 b) (BitVec.ofNat 32 l)
      = cntF (t.val % 8 * 512 + r.val) l := by
  unfold countOf cntF
  rw [pay5_at, cnt_kernel (by omega) hl h]

variable (T : IVec S512x256 32)

theorem pay8_at (r : Fin 512) (d : Fin 256) : k0_pay8 T s (addi T (broadcast S512x256 0#32)) p w (ix2 r d)
    = mixOf (fun k => s (ix2 r k)) (fun k => p (ix2 r k)) (fun k => countOf (T (ix2 r k)) 0#32 1#32 1#32) (fun k => w (ix3 0 k d)) := by
  unfold mixOf countOf
  pointwise [k0_pay8]

theorem pay10_at (u0 u1 u2 u3 : Vec Ideal S512x256 .f32) (r : Fin 512) (d : Fin 256) :
    k0_pay10 (k0_pay9 T u0 u1 u2 u3) p w (ix2 r d)
    = mixOf (fun k => u0 (ix2 r k) + u1 (ix2 r k) + u2 (ix2 r k) + u3 (ix2 r k)) (fun k => p (ix2 r k))
        (fun k => countOf (T (ix2 r k)) 1#32 1#32 2#32) (fun k => w (ix3 0 k d)) := by
  unfold mixOf countOf
  pointwise [k0_pay10, k0_pay9]

theorem pay13_at (r : Fin 512) (d : Fin 256) : k0_pay13 s (k0_pay12 (F := Ideal) T) p w (ix2 r d)
    = mixOf (fun k => s (ix2 r k)) (fun k => p (ix2 r k)) (fun k => countOf (T (ix2 r k)) 3#32 1#32 4#32) (fun k => w (ix3 0 k d)) := by
  unfold mixOf countOf
  pointwise [k0_pay13, k0_pay12]

/-- One of four groups' columns. -/
def group4 (a b c d : Fin 256 → EReal) (j : Fin 1024) : EReal :=
  if h : j.val < 256 then a ⟨j.val, h⟩ else if h : j.val - 256 < 256 then b ⟨j.val - 256, h⟩
  else if h : j.val - 256 - 256 < 256 then c ⟨j.val - 256 - 256, h⟩ else d ⟨j.val - 256 - 256 - 256, by omega⟩

theorem pay15_at (a b c u0 u1 u2 u3 : Vec Ideal S512x256 .f32) (z : Vec Ideal S1x1024 .f32) (r : Fin 512) (j : Fin 1024) :
    k0_pay15 T a b c s u0 u1 u2 u3 p w z (ix2 r j)
    = group4 (fun d => a (ix2 r d)) (fun d => b (ix2 r d)) (fun d => c (ix2 r d))
        (fun d => mixOf (fun k => s (ix2 r k) + u0 (ix2 r k) + u1 (ix2 r k) + u2 (ix2 r k) + u3 (ix2 r k)) (fun k => p (ix2 r k))
          (fun k => countOf (T (ix2 r k)) 7#32 1#32 8#32) (fun k => w (ix3 0 k d))) j * z (ix2 0 j) := by
  unfold mixOf countOf group4
  pointwise [k0_pay15]

theorem pay1_at (m z : Vec Ideal S512x1024 .f32) (y : Vec Ideal S1x512x1024 .bf16) (w0 w1 : Vec Ideal S1024x1024 .bf16)
    (x : Vec Ideal S1x512x1024 .f32) (g : Vec Ideal S1x1x3072 .f32) (r : Fin 512) (e : Fin 1024) :
    k0_pay1 m z y w0 w1 x g (ix3 0 r e) = x (ix3 0 r e) + g (ix3 0 0 ⟨2048 + e.val, by omega⟩)
      * (∑ k, y (ix3 0 r k) * w0 (ix2 k e) + ∑ k, m (ix2 r k) * z (ix2 r k) * w1 (ix2 k e)) := by
  pointwise [k0_pay1]

theorem pay16_at (z : Vec Ideal S1x512x1024 .f32) (r : Fin 512) (k : Fin 1024) :
    k0_pay16 z (ix2 r k) = z (ix3 0 r k) * Ideal.logistic (z (ix3 0 r k)) := by
  pointwise [k0_pay16]

theorem idx : ∀ t : Fin cfg0.N, win0_0.index t = ![t.val / 8, t.val % 8, 0] ∧ win0_1.index t = ![t.val / 8, t.val % 8, 0]
    ∧ win0_2.index t = ![t.val / 8, t.val % 8 * 64 - 1, 0] ∧ win0_3.index t = ![t.val / 8, min (t.val % 8 * 64 + 64) 511, 0]
    ∧ win0_4.index t = ![t.val / 8, t.val % 8, 0] ∧ win0_5.index t = ![t.val / 8, t.val % 8, 0] ∧ win0_6.index t = ![t.val / 8, 0, 0]
    ∧ win0_7.index t = ![0, 0, 0] ∧ win0_8.index t = ![0, 0] ∧ win0_9.index t = ![0, 0]
    ∧ win0_10.index t = ![t.val / 8, t.val % 8, 0] :=
  (by decide +kernel : ∀ t : Fin grid0.N, _)

/-! ## The scratch -/

theorem pay2_at (x2 : Vec Ideal S1x8x1024 .f32) (x : S8x1024.Idx) :
    k0_pay2 (grid0.coords t) x2 x = if 0 < t.val % 8 then x2 (ix3 0 (x 0) (x 1)) else 0 := by
  unfold k0_pay2 Scalar.select Scalar.cmpi
  rw [coord1, WordCmp.cmpi_sgt_ofNat (by omega) (by omega)]
  by_cases h : 0 < t.val % 8
  · simp only [h, decide_true]
    rw [if_pos (show BitVec.ofBool true = 1 from rfl)]
    pointwise []
  · simp only [h, decide_false]
    rw [if_neg (show ¬ BitVec.ofBool false = 1 by decide)]
    pointwise []

theorem pay4_at (x3 : Vec Ideal S1x8x1024 .f32) (x : S8x1024.Idx) :
    k0_pay4 (grid0.coords t) x3 x = if t.val % 8 < 7 then x3 (ix3 0 (x 0) (x 1)) else 0 := by
  unfold k0_pay4 Scalar.select Scalar.cmpi
  rw [coord1, WordCmp.cmpi_slt_ofNat (by omega) (by omega)]
  by_cases h : t.val % 8 < 7
  · simp only [h, decide_true]
    rw [if_pos (show BitVec.ofBool true = 1 from rfl)]
    pointwise []
  · simp only [h, decide_false]
    rw [if_neg (show ¬ BitVec.ofBool false = 1 by decide)]
    pointwise []

theorem pay3_at (x1 : Vec Ideal S1x512x1024 .f32) (x : S512x1024.Idx) : k0_pay3 x1 x = x1 (ix3 0 (x 0) (x 1)) := by
  pointwise [k0_pay3]

/-- Row `r` of the scratch: the block with eight rows of its neighbours on either side, zero beyond the array. -/
def extAt (x1 : Vec Ideal S1x512x1024 .f32) (x2 x3 : Vec Ideal S1x8x1024 .f32) (i : ℕ) (r : Fin 528) (e : Fin 1024) : EReal :=
  if h : r.val < 8 then (if 0 < i then x2 (ix3 0 ⟨r.val, h⟩ e) else 0)
  else if h : r.val - 8 < 512 then x1 (ix3 0 ⟨r.val - 8, h⟩ e)
  else if i < 7 then x3 (ix3 0 ⟨r.val - 8 - 512, by omega⟩ e) else 0

/-- A read of 256 of the scratch's columns from row `n` on. -/
theorem scr_read (x1 : Vec Ideal S1x512x1024 .f32) (x2 x3 : Vec Ideal S1x8x1024 .f32) (n o : ℕ) (i0 i1 i2 i3) (r : Fin 512) (k : Fin 256)
    (h : n + r.val < 528) (h' : o + k.val < 1024) :
    (View.whole cc0_scratch0).readCov (Val := Elt Ideal)
      [⟨Rect.unit (s := S528x1024) ![520, 0] ![8, 1024] i0, k0_pay4 (grid0.coords t) x3⟩,
       ⟨Rect.unit (s := S528x1024) ![8, 0] ![512, 1024] i1, k0_pay3 x1⟩,
       ⟨Rect.unit (s := S528x1024) ![0, 0] ![8, 1024] i2, k0_pay2 (grid0.coords t) x2⟩]
      (Rect.unit (s := S528x1024) ![n, o] ![512, 256] i3).toLoadRect (ix2 r k)
      = extAt x1 x2 x3 (t.val % 8) ⟨n + r.val, h⟩ ⟨o + k.val, h'⟩ := by
  rw [View.readCov_eq_canon']
  refine (View.canon_apply_of_pieces (Val := Elt Ideal) (e := .f32) (fun y : S528x1024.Idx => extAt x1 x2 x3 (t.val % 8) (y 0) (y 1)) _ ?_ _ ?_).trans ?_
  · simp only [List.mem_cons, List.not_mem_nil, or_false, forall_eq_or_imp, forall_eq]
    refine ⟨fun x => (pay4_at t x3 x).trans ?_, fun x => (pay3_at x1 x).trans ?_, fun x => (pay2_at t x2 x).trans ?_⟩
    · have h0 : (x 0).val < 8 := (x 0).isLt
      unfold extAt
      rw [dif_neg (by simp; omega), dif_neg (by simp; omega)]
      refine if_congr Iff.rfl (congrArg x3 (funext fun a => Fin.ext ?_)) rfl
      fin_cases a <;> simp
      omega
    · have h0 : (x 0).val < 512 := (x 0).isLt
      unfold extAt
      rw [dif_neg (by simp), dif_pos (by simp; omega)]
      refine congrArg x1 (funext fun a => Fin.ext ?_)
      fin_cases a <;> simp
    · have h0 : (x 0).val < 8 := (x 0).isLt
      unfold extAt
      rw [dif_pos (by simp; omega)]
      refine if_congr Iff.rfl (congrArg x2 (funext fun a => Fin.ext ?_)) rfl
      fin_cases a <;> simp
  · rcases Nat.lt_or_ge (n + r.val) 8 with h8 | h8
    · refine ⟨_, List.mem_cons_of_mem _ (List.mem_cons_of_mem _ List.mem_cons_self), (Rect.mem_set_unit (inb := i2)).2 fun a => ?_⟩
      fin_cases a <;> simp <;> omega
    rcases Nat.lt_or_ge (n + r.val) 520 with h9 | h9
    · refine ⟨_, List.mem_cons_of_mem _ List.mem_cons_self, (Rect.mem_set_unit (inb := i1)).2 fun a => ?_⟩
      fin_cases a <;> simp <;> omega
    · refine ⟨_, List.mem_cons_self, (Rect.mem_set_unit (inb := i0)).2 fun a => ?_⟩
      fin_cases a <;> simp <;> omega
  · exact congrArg₂ (extAt x1 x2 x3 _) (Fin.ext (by simp)) (Fin.ext (by simp))

variable (m : (ℓ : Loc nD τ sig) → Buf (Elt Ideal) ℓ) (c : Dev nD)

/-! ## The arrays -/

/-- Column `w` of a batch as a sequence, zero beyond the array. -/
def colN (X : S8x4096x1024.Idx → EReal) (b : Fin 8) (w : Fin 1024) (s : ℕ) : EReal := if h : s < 4096 then X (ix3 b ⟨s, h⟩ w) else 0

/-- The windows' half-widths. -/
def half : Fin 4 → ℕ := ![1, 2, 4, 8]

/-- Column `k` of group `g`. -/
abbrev col (g : Fin 4) (k : Fin 256) : Fin 1024 := ⟨256 * g.val + k.val, by omega⟩

/-- Column `d` of group `g` at a token: each of the group's columns less its mean, weighted. -/
def mixAt (X : S8x4096x1024.Idx → EReal) (P : S1x4x256x256.Idx → EReal) (b : Fin 8) (s : Fin 4096) (g : Fin 4) (d : Fin 256) : EReal :=
  mixOf (fun k => win (colN X b (col g k)) s.val (half g)) (fun k => X (ix3 b s (col g k))) (fun _ => cntF s.val (half g))
    (fun k => P (ix4 0 g k d))

/-- Column `j` of the scaled mix, gated. -/
def poolAt (X Z : S8x4096x1024.Idx → EReal) (P : S1x4x256x256.Idx → EReal) (S : S1x1024.Idx → EReal) (b : Fin 8) (s : Fin 4096)
    (j : Fin 1024) : EReal :=
  group4 (mixAt X P b s 0) (mixAt X P b s 1) (mixAt X P b s 2) (mixAt X P b s 3) j * S (ix2 0 j)
    * (Z (ix3 b s j) * Ideal.logistic (Z (ix3 b s j)))

/-- The result at a token and a column. -/
def resAt (Y X Z R : S8x4096x1024.Idx → EReal) (M : S8x1x3072.Idx → EReal) (P : S1x4x256x256.Idx → EReal) (S : S1x1024.Idx → EReal)
    (W : S1x2048x1024.Idx → EReal) (b : Fin 8) (s : Fin 4096) (e : Fin 1024) : EReal :=
  R (ix3 b s e) + M (ix3 b 0 ⟨2048 + e.val, by omega⟩)
    * (∑ k : Fin 1024, Y (ix3 b s k) * W (ix3 0 ⟨k.val, by omega⟩ e) + ∑ k : Fin 1024, poolAt X Z P S b s k * W (ix3 0 ⟨1024 + k.val, by omega⟩ e))

/-- The result. -/
def result (Y X Z R : S8x4096x1024.Idx → EReal) (M : S8x1x3072.Idx → EReal) (P : S1x4x256x256.Idx → EReal) (S : S1x1024.Idx → EReal)
    (W : S1x2048x1024.Idx → EReal) : S8x4096x1024.Idx → EReal :=
  fun j => resAt Y X Z R M P S W (j 0) (j 1) (j 2)

theorem win1 (y : ℕ → EReal) (s : ℕ) : win y s 1 = pad y (s + 7) + pad y (s + 8) := by
  simp [win, Finset.sum_range_succ]

theorem win2 (y : ℕ → EReal) (s : ℕ) : win y s 2 = pad y (s + 6) + pad y (s + 7) + pad y (s + 8) + pad y (s + 9) := by
  simp [win, Finset.sum_range_succ]

theorem win4 (y : ℕ → EReal) (s : ℕ) : win y s 4 = pad y (s + 4) + pad y (s + 5) + pad y (s + 6) + pad y (s + 7) + pad y (s + 8)
    + pad y (s + 9) + pad y (s + 10) + pad y (s + 11) := by
  simp [win, Finset.sum_range_succ]

theorem win8 (y : ℕ → EReal) (s : ℕ) : win y s 8 = pad y (s + 0) + pad y (s + 1) + pad y (s + 2) + pad y (s + 3) + pad y (s + 4) + pad y (s + 5)
    + pad y (s + 6) + pad y (s + 7) + pad y (s + 8) + pad y (s + 9) + pad y (s + 10) + pad y (s + 11) + pad y (s + 12) + pad y (s + 13)
    + pad y (s + 14) + pad y (s + 15) := by
  simp [win, Finset.sum_range_succ]

theorem group4_congr {a a' b b' c c' d d' : Fin 256 → EReal} (ha : ∀ k, a k = a' k) (hb : ∀ k, b k = b' k) (hc : ∀ k, c k = c' k)
    (hd : ∀ k, d k = d' k) (j : Fin 1024) : group4 a b c d j = group4 a' b' c' d' j := by
  rw [funext ha, funext hb, funext hc, funext hd]

theorem mixOf_congr {s s' p p' n n' w w' : Fin 256 → EReal} (hs : ∀ k, s k = s' k) (hp : ∀ k, p k = p' k) (hn : ∀ k, n k = n' k)
    (hw : ∀ k, w k = w' k) : mixOf s p n w = mixOf s' p' n' w' := by
  rw [funext hs, funext hp, funext hn, funext hw]

theorem ext_block {r : Fin 528} {e : Fin 1024} {b : Fin 8} {q : ℕ} (hb : b.val = t.val / 8) (hq : q = t.val % 8 * 512 + r.val) :
    extAt (iblk m c 1 t) (iblk m c 2 t) (iblk m c 3 t) (t.val % 8) r e
      = pad (colN (m ((c : Thread nD τ).loc main_arg1)) b e) q := by
  unfold extAt Cert.Pool.pad colN
  split_ifs
  all_goals first
    | rfl
    | omega
    | blk_ext! [iblk, V, idx t]

theorem pool_ld (p : Vec Ideal S4x256x256 .bf16) (g : ℕ) (inb) (k d : Fin 256) (h : g < 4) :
    View.ld p (Rect.unit (s := S4x256x256) ![g, 0, 0] ![1, 256, 256] inb) (ix3 0 k d) = p (ix3 ⟨g, h⟩ k d) :=
  View.ld_unit_apply_of _ _ _ _ _ _ fun a => by fin_cases a <;> simp

theorem out_ld (p : Vec Ideal S2048x1024 .bf16) (n : ℕ) (inb) (k e : Fin 1024) (h : n + k.val < 2048) :
    View.ld p (Rect.unit (s := S2048x1024) ![n, 0] ![1024, 1024] inb) (ix2 k e) = p (ix2 ⟨n + k.val, h⟩ e) :=
  View.ld_unit_apply_of _ _ _ _ _ _ fun a => by fin_cases a <;> simp

theorem host1 : (V m c main_v1 : S4x256x256.Idx → EReal)
    = shapeCast S4x256x256 (m ((c : Thread nD τ).loc main_arg5) : S1x4x256x256.Idx → EReal) shapeCasts_S1x4x256x256_S4x256x256 := by
  unfold_abbrev_sides
  after_results
  rfl

theorem host5 : (V m c main_v5 : S2048x1024.Idx → EReal)
    = shapeCast S2048x1024 (m ((c : Thread nD τ).loc main_arg7) : S1x2048x1024.Idx → EReal) shapeCasts_S1x2048x1024_S2048x1024 := by
  unfold_abbrev_sides
  after_results
  rfl

theorem host3 : (V m c main_v3 : S1x1024.Idx → EReal) = broadcastInDim S1x1024 ![1] bcast_S1024_S1x1024_1
    (shapeCast S1024 (m ((c : Thread nD τ).loc main_arg6) : S1x1024.Idx → EReal) shapeCasts_S1x1024_S1024) := by
  unfold_abbrev_sides
  after_results
  rfl

theorem w7_eq (g : Fin 4) (k d : Fin 256) : (V m c main_v1 : S4x256x256.Idx → EReal) (ix3 g k d)
    = (m ((c : Thread nD τ).loc main_arg5) : S1x4x256x256.Idx → EReal) (ix4 0 g k d) := by
  rw [host1]
  exact shapeCast_apply _ _ (ix3 g k d) (ix4 0 g k d) (by
    rw [Shape.rowMajor_val_four, Shape.rowMajor_val_three]
    show ((0 * 4 + g.val) * 256 + k.val) * 256 + d.val = (g.val * 256 + k.val) * 256 + d.val
    omega)

theorem w8_eq (j : Fin 1024) : (V m c main_v3 : S1x1024.Idx → EReal) (ix2 0 j)
    = (m ((c : Thread nD τ).loc main_arg6) : S1x1024.Idx → EReal) (ix2 0 j) := by
  rw [host3]
  generalize (m ((c : Thread nD τ).loc main_arg6) : S1x1024.Idx → EReal) = W
  pointwise []

theorem w9_eq (k : Fin 2048) (e : Fin 1024) : (V m c main_v5 : S2048x1024.Idx → EReal) (ix2 k e)
    = (m ((c : Thread nD τ).loc main_arg7) : S1x2048x1024.Idx → EReal) (ix3 0 k e) := by
  rw [host5]
  exact shapeCast_apply _ _ (ix2 k e) (ix3 0 k e) (by
    rw [Shape.rowMajor_val_three, Shape.rowMajor_val_two]
    show (0 * 2048 + k.val) * 1024 + e.val = k.val * 1024 + e.val
    omega)

theorem b7 (g : Fin 4) (k d : Fin 256) : (iblk m c 7 t : Vec Ideal S4x256x256 .bf16) (ix3 g k d)
    = (m ((c : Thread nD τ).loc main_arg5) : S1x4x256x256.Idx → EReal) (ix4 0 g k d) := by
  rw [← w7_eq m c]
  exact congrArg (V m c main_v1) (by blk_ext! [idx t])

theorem b8 (j : Fin 1024) : (iblk m c 8 t : Vec Ideal S1x1024 .f32) (ix2 0 j)
    = (m ((c : Thread nD τ).loc main_arg6) : S1x1024.Idx → EReal) (ix2 0 j) := by
  rw [← w8_eq m c]
  exact congrArg (V m c main_v3) (by blk_ext! [idx t])

theorem b9 (k : Fin 2048) (e : Fin 1024) : (iblk m c 9 t : Vec Ideal S2048x1024 .bf16) (ix2 k e)
    = (m ((c : Thread nD τ).loc main_arg7) : S1x2048x1024.Idx → EReal) (ix3 0 k e) := by
  rw [← w9_eq m c]
  exact congrArg (V m c main_v5) (by blk_ext! [idx t])

/-- A read of the scratch, as the columns' sequences. -/
theorem scr_block (n o : ℕ) (i0 i1 i2 i3) (r : Fin 512) (k : Fin 256) {e : Fin 1024} {b : Fin 8} {q : ℕ} (hb : b.val = t.val / 8)
    (h : n + r.val < 528) (he : e.val = o + k.val) (hq : q = t.val % 8 * 512 + (n + r.val)) :
    (View.whole cc0_scratch0).readCov (Val := Elt Ideal)
      [⟨Rect.unit (s := S528x1024) ![520, 0] ![8, 1024] i0, k0_pay4 (grid0.coords t) (iblk m c 3 t)⟩,
       ⟨Rect.unit (s := S528x1024) ![8, 0] ![512, 1024] i1, k0_pay3 (iblk m c 1 t)⟩,
       ⟨Rect.unit (s := S528x1024) ![0, 0] ![8, 1024] i2, k0_pay2 (grid0.coords t) (iblk m c 2 t)⟩]
      (Rect.unit (s := S528x1024) ![n, o] ![512, 256] i3).toLoadRect (ix2 r k)
      = Cert.Pool.pad (colN (m ((c : Thread nD τ).loc main_arg1)) b e) q :=
  (scr_read t _ _ _ n o i0 i1 i2 i3 r k h (by omega)).trans
    ((congrArg (extAt _ _ _ _ _) (Fin.ext he.symm)).trans (ext_block t m c hb hq))

theorem pad_mid (X : S8x4096x1024.Idx → EReal) (b : Fin 8) (e : Fin 1024) (s : Fin 4096) :
    Cert.Pool.pad (colN X b e) (s.val + 8) = X (ix3 b s e) := by
  unfold Cert.Pool.pad colN
  rw [if_pos (by omega), dif_pos (by omega)]
  exact congrArg (fun i => X (ix3 b i e)) (Fin.ext (by simp))

theorem sum4 {a b c d a' b' c' d' : EReal} (ha : a = a') (hb : b = b') (hc : c = c') (hd : d = d') : a + b + c + d = a' + b' + c' + d' := by
  rw [ha, hb, hc, hd]

theorem more4 {z a b c d z' a' b' c' d' : EReal} (hz : z = z') (ha : a = a') (hb : b = b') (hc : c = c') (hd : d = d') :
    z + a + b + c + d = z' + a' + b' + c' + d' := by
  rw [hz, ha, hb, hc, hd]

/-- An index of a block by its row and its column. -/
theorem ix_wide (y : S1x512x1024.Idx) : y = ix3 0 (y 1) (y 2) :=
  funext fun a => by fin_cases a <;> first | rfl | exact Subsingleton.elim (α := Fin 1) _ _

theorem out_at (y : S1x512x1024.Idx) {b : Fin 8} {s : Fin 4096} {e : Fin 1024} (hb : b.val = t.val / 8)
    (hs : s.val = t.val % 8 * 512 + (y 1).val) (he : e.val = (y 2).val) : outsAt0 m c t y
      = resAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b s e := by
  unfold outsAt0
  frame_out
  idx_bounds y
  refine (congrArg _ (ix_wide y)).trans ((pay1_at _ _ _ _ _ _ _ (y 1) (y 2)).trans ?_)
  have rd (n o : ℕ) (hn : n ≤ 16) := fun k e he i0 i1 i2 i3 =>
    scr_block t m c n o i0 i1 i2 i3 (y 1) k (e := e) (q := s.val + n) hb (by omega) he (by omega)
  have ct (a b l : ℕ) (hl : l ≤ 8) (h : a + b = l) (k : Fin 256) := (countOf_at t (y 1) k hl h).trans (congrArg (fun n => cntF n l) hs.symm)
  have pl (g : ℕ) (h : g < 4) (k d : Fin 256) := fun inb => (pool_ld (iblk m c 7 t) g inb k d h).trans (b7 t m c ⟨g, h⟩ k d)
  refine congrArg₂ (· + ·) ?_ (congrArg₂ (· * ·) ?_ (congrArg₂ (· + ·)
    (Finset.sum_congr rfl fun k _ => congrArg₂ (· * ·) ?_ ((out_ld _ 0 _ k (y 2) (by omega)).trans ((b9 t m c _ _).trans ?_)))
    (Finset.sum_congr rfl fun k _ => congrArg₂ (· * ·) (congrArg₂ (· * ·)
      ((pay15_at _ _ _ _ _ _ _ _ _ _ _ _ (y 1) k).trans (congrArg₂ (· * ·) ?_ (b8 t m c k)))
      ((pay16_at _ (y 1) k).trans ?_)) ((out_ld _ 1024 _ k (y 2) (by omega)).trans ((b9 t m c _ _).trans ?_)))))
  · blk_ext! [iblk, V, idx t]
  · blk_ext! [iblk, V, idx t]
  · blk_ext! [iblk, V, idx t]
  · exact congrArg (m ((c : Thread nD τ).loc main_arg7) : S1x2048x1024.Idx → EReal) (by blk_ext! [idx t])
  · refine group4_congr (fun d => (pay8_at _ _ _ _ (y 1) d).trans (mixOf_congr ?_ ?_ (ct 0 1 1 (by omega) rfl) fun k => pl 0 (by omega) k d _))
      (fun d => (pay10_at _ _ _ _ _ _ _ (y 1) d).trans (mixOf_congr ?_ ?_ (ct 1 1 2 (by omega) rfl) fun k => pl 1 (by omega) k d _))
      (fun d => (pay13_at _ _ _ _ (y 1) d).trans (mixOf_congr ?_ ?_ (ct 3 1 4 (by omega) rfl) fun k => pl 2 (by omega) k d _))
      (fun d => mixOf_congr ?_ ?_ (ct 7 1 8 (by omega) rfl) fun k => pl 3 (by omega) k d _) k
    · intro k
      have e := fun n hn => rd n 0 hn k (col 0 k) rfl
      refine Eq.trans ?_ (win1 _ _).symm
      exact congrArg₂ (· + ·) (e 7 (by decide) _ _ _ _) (e 8 (by decide) _ _ _ _)
    · exact fun k => (rd 8 0 (by decide) k (col 0 k) rfl _ _ _ _).trans (pad_mid _ _ _ _)
    · intro k
      have e := fun n hn => rd n 256 hn k (col 1 k) rfl
      refine Eq.trans ?_ (win2 _ _).symm
      exact sum4 (e 6 (by decide) _ _ _ _) (e 7 (by decide) _ _ _ _) (e 8 (by decide) _ _ _ _) (e 9 (by decide) _ _ _ _)
    · exact fun k => (rd 8 256 (by decide) k (col 1 k) rfl _ _ _ _).trans (pad_mid _ _ _ _)
    · intro k
      have e := fun n hn => rd n 512 hn k (col 2 k) rfl
      refine Eq.trans ?_ (win4 _ _).symm
      exact more4 (sum4 (e 4 (by decide) _ _ _ _) (e 5 (by decide) _ _ _ _) (e 6 (by decide) _ _ _ _) (e 7 (by decide) _ _ _ _))
        (e 8 (by decide) _ _ _ _) (e 9 (by decide) _ _ _ _) (e 10 (by decide) _ _ _ _) (e 11 (by decide) _ _ _ _)
    · exact fun k => (rd 8 512 (by decide) k (col 2 k) rfl _ _ _ _).trans (pad_mid _ _ _ _)
    · intro k
      have e := fun n hn => rd n 768 hn k (col 3 k) rfl
      refine Eq.trans ?_ (win8 _ _).symm
      exact more4 (more4 (more4 (sum4 (e 0 (by decide) _ _ _ _) (e 1 (by decide) _ _ _ _) (e 2 (by decide) _ _ _ _) (e 3 (by decide) _ _ _ _))
        (e 4 (by decide) _ _ _ _) (e 5 (by decide) _ _ _ _) (e 6 (by decide) _ _ _ _) (e 7 (by decide) _ _ _ _))
        (e 8 (by decide) _ _ _ _) (e 9 (by decide) _ _ _ _) (e 10 (by decide) _ _ _ _) (e 11 (by decide) _ _ _ _))
        (e 12 (by decide) _ _ _ _) (e 13 (by decide) _ _ _ _) (e 14 (by decide) _ _ _ _) (e 15 (by decide) _ _ _ _)
    · exact fun k => (rd 8 768 (by decide) k (col 3 k) rfl _ _ _ _).trans (pad_mid _ _ _ _)
  · refine congrArg (fun z => z * Ideal.logistic z) ?_
    blk_ext! [iblk, V, idx t]
  · exact congrArg (m ((c : Thread nD τ).loc main_arg7) : S1x2048x1024.Idx → EReal) (by blk_ext! [idx t])

theorem final10 : (dats m 0 c).arrAt 10 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 10 _ (by decide +kernel) fun t hf y => ?_
  blk_simp
  rw [after0_10]
  exact out_at t m c y (by blk_simp [idx t]) (by blk_simp [idx t]) (by blk_simp [idx t])

end Cert.Kernel6Ideal.Val

end
-- ==== Proof.EvenOutRef.lean ====
/- The reference's even output step read at an index, and its equality with what the call leaves. -/
module

public import proofs.«01_k».proof.Defs
public import proofs.«01_k».proof.Proof.Claims
public import proofs.«01_k».proof.Proof.EvenOut
public import proofs.«01_k».proof.Proof.Gen.Pre_finite6
public import proofs.«01_k».proof.Proof.Gen.Reference6Ideal.Read
public import proofs.«01_k».proof.Proof.Gen.Reference6Ideal.Run
public import Idealize.ShloMosaic.Lib.KernelVsHost
public import Idealize.ShloMosaic.Lib.Quiescent

@[expose] public section

set_option maxRecDepth 16384

noncomputable section

namespace Cert.Reference6Ideal.Read

open Cert.Reference6Ideal Cert.Reference6Ideal.Gen Idealize.ShloMosaic Idealize.ShloMosaic.TcCoe Idealize.SL.Sem
open Cert.Pool
open Cert.Kernel6Ideal.Val (colN half col cntF mixOf mixAt group4 poolAt resAt result)

/-! ## The cumulative sum -/

theorem numel4 (N : ℕ) : (⟨4, ![1, N, 1, 1]⟩ : Shape).numel = N := by
  show ∏ a : Fin 4, (![1, N, 1, 1] : Fin 4 → ℕ) a = N
  simp [Fin.prod_univ_four]

theorem symm4 {N : ℕ} (n : Fin (⟨4, ![1, N, 1, 1]⟩ : Shape).numel) :
    (⟨4, ![1, N, 1, 1]⟩ : Shape).rowMajor.symm n = ix4 (0 : Fin 1) (n.cast (numel4 N)) (0 : Fin 1) (0 : Fin 1) :=
  ((⟨4, ![1, N, 1, 1]⟩ : Shape).rowMajor.symm_apply_eq).2 (Fin.ext (by
    rw [Shape.rowMajor_val_four]
    show n.val = ((0 * N + n.val) * 1 + 0) * 1 + 0
    omega))

/-- The terms a window ending at term `t` takes. -/
theorem window_sum (y : ℕ → EReal) {t M : ℕ} (ht : t < M + 1) :
    ∑ n ∈ Finset.range (M + 1), (if M ≤ t + n then y (t + n - M) else 0) = pre y (t + 1) := by
  rw [show M + 1 = M - t + (t + 1) by omega, Finset.sum_range_add, Finset.sum_eq_zero (fun n hn => if_neg (by
    have := Finset.mem_range.1 hn; omega)), zero_add]
  exact Finset.sum_congr rfl fun n _ => by rw [if_pos (by omega)]; exact congrArg y (by omega)

theorem window_foldl (y : ℕ → EReal) {t M : ℕ} (ht : t < M + 1) {N : ℕ} (hN : N = M + 1) :
    (List.finRange N).foldl (fun r n => r + if M ≤ t + n.val then y (t + n.val - M) else 0) 0 = pre y (t + 1) := by
  refine (foldl_finRange (fun n => if M ≤ t + n then y (t + n - M) else 0) N).trans ?_
  rw [hN]
  exact window_sum y ht

/-- The running sum along the tokens, in a table of any length. -/
theorem cumsum4 {N M : ℕ} (hN : M + 1 = N) (x : (⟨4, ![8, N, 4, 256]⟩ : Shape).Idx → EReal) (b : Fin 8) (t : Fin N) (g : Fin 4) (k : Fin 256)
    (y : ℕ → EReal) (hx : ∀ s : Fin N, x (ix4 b s g k) = y s.val) (init : S_.Idx → EReal) (hi : ∀ i, init i = 0)
    (h : (⟨4, ![8, N, 4, 256]⟩ : Shape).ReduceWindows (![1, N, 1, 1] : Fin 4 → Nat) ![1, 1, 1, 1] ![0, M, 0, 0] ![0, 0, 0, 0] ⟨4, ![8, N, 4, 256]⟩) (hu) :
    Host.reduceWindowAdd (F := Ideal) (φ := .f32) ![1, N, 1, 1] ![1, 1, 1, 1] ![0, M, 0, 0] ![0, 0, 0, 0] x init h hu
      (ix4 b t g k) = pre y (t.val + 1) := by
  have ht := t.isLt
  refine Eq.trans ?_ (window_foldl (M := M) y (by omega) ((numel4 N).trans hN.symm))
  show Ideal.hostReduceWindowAdd _ _ _ _ h x (init _) (ix4 b t g k) = _
  unfold Ideal.hostReduceWindowAdd Host.reduceWindow
  rw [hi]
  refine congrArg (fun f => List.foldl f (0 : EReal) _) (funext fun r => funext fun n => congrArg (r + ·) ?_)
  have h1 : ((⟨4, ![1, N, 1, 1]⟩ : Shape).rowMajor.symm n 1).val = n.val := by rw [symm4]; rfl
  have h0 : ((⟨4, ![1, N, 1, 1]⟩ : Shape).rowMajor.symm n 0).val = 0 := by rw [symm4]; rfl
  have h2 : ((⟨4, ![1, N, 1, 1]⟩ : Shape).rowMajor.symm n 2).val = 0 := by rw [symm4]; rfl
  have h3 : ((⟨4, ![1, N, 1, 1]⟩ : Shape).rowMajor.symm n 3).val = 0 := by rw [symm4]; rfl
  have hn : n.val < N := (n.cast (numel4 N)).isLt
  dsimp only
  split
  · next hin =>
    have e := hin 1
    change M ≤ t.val * 1 + ((⟨4, ![1, N, 1, 1]⟩ : Shape).rowMajor.symm n 1).val ∧ _ at e
    rw [h1] at e
    rw [if_pos (by omega)]
    refine (congrArg x (funext fun a => Fin.ext ?_)).trans (hx ⟨t.val + n.val - M, by omega⟩)
    match a with
    | ⟨0, _⟩ =>
      show b.val * 1 + ((⟨4, ![1, N, 1, 1]⟩ : Shape).rowMajor.symm n 0).val - 0 = b.val
      rw [h0]; omega
    | ⟨1, _⟩ =>
      show t.val * 1 + ((⟨4, ![1, N, 1, 1]⟩ : Shape).rowMajor.symm n 1).val - M = t.val + n.val - M
      rw [h1]; omega
    | ⟨2, _⟩ =>
      show g.val * 1 + ((⟨4, ![1, N, 1, 1]⟩ : Shape).rowMajor.symm n 2).val - 0 = g.val
      rw [h2]; omega
    | ⟨3, _⟩ =>
      show k.val * 1 + ((⟨4, ![1, N, 1, 1]⟩ : Shape).rowMajor.symm n 3).val - 0 = k.val
      rw [h3]; omega
  · next hin =>
    rw [if_neg fun hle => hin fun a => by
      match a with
      | ⟨0, _⟩ =>
        show 0 ≤ b.val * 1 + ((⟨4, ![1, N, 1, 1]⟩ : Shape).rowMajor.symm n 0).val
          ∧ b.val * 1 + ((⟨4, ![1, N, 1, 1]⟩ : Shape).rowMajor.symm n 0).val - 0 < 8
        rw [h0]; omega
      | ⟨1, _⟩ =>
        show M ≤ t.val * 1 + ((⟨4, ![1, N, 1, 1]⟩ : Shape).rowMajor.symm n 1).val
          ∧ t.val * 1 + ((⟨4, ![1, N, 1, 1]⟩ : Shape).rowMajor.symm n 1).val - M < N
        rw [h1]; omega
      | ⟨2, _⟩ =>
        show 0 ≤ g.val * 1 + ((⟨4, ![1, N, 1, 1]⟩ : Shape).rowMajor.symm n 2).val
          ∧ g.val * 1 + ((⟨4, ![1, N, 1, 1]⟩ : Shape).rowMajor.symm n 2).val - 0 < 4
        rw [h2]; omega
      | ⟨3, _⟩ =>
        show 0 ≤ k.val * 1 + ((⟨4, ![1, N, 1, 1]⟩ : Shape).rowMajor.symm n 3).val
          ∧ k.val * 1 + ((⟨4, ![1, N, 1, 1]⟩ : Shape).rowMajor.symm n 3).val - 0 < 256
        rw [h3]; omega]

/-! ## The windows' ends -/

theorem half_le (g : Fin 4) : 1 ≤ half g ∧ half g ≤ 8 := (by decide : ∀ g : Fin 4, 1 ≤ half g ∧ half g ≤ 8) g

theorem v8_at (g : Fin 4) : val_main_v8 (F := Ideal) (ix1 g) = BitVec.ofNat 32 (half g) := by
  fin_cases g <;> rfl

theorem v13_at (g : Fin 4) : val_main_v13 (F := Ideal) (ix1 g) = BitVec.ofNat 32 (half g - 1) := by
  fin_cases g <;> rfl

theorem lo_at (g : Fin 4) (t : Fin 4096) : val_main_v20 (F := Ideal) (ix2 g t) = BitVec.ofNat 32 (t.val - half g) := by
  rw [val_main_v20_apply, val_main_call1_v4_apply, val_main_call1_v3_apply, val_main_c_8_apply, val_main_call1_v2_apply,
    val_main_call1_v1_apply, val_main_call1_v0_apply, val_main_c_7_apply, val_main_v19_apply, val_main_v17_apply, val_main_v15_apply,
    val_main_v14_apply, val_main_v18_apply, val_main_v16_apply,
    show idx_main_v16 (idx_main_v18 (ix2 g t)) = ix1 g from funext fun a => by fin_cases a; rfl, v8_at]
  exact lo_word' t.isLt (half_le g).2

theorem hi_at (g : Fin 4) (t : Fin 4096) : val_main_v28 (F := Ideal) (ix2 g t) = BitVec.ofNat 32 (min (t.val + half g) 4096) := by
  have := half_le g
  rw [val_main_v28_apply, val_main_call2_v4_apply, val_main_call2_v3_apply, val_main_c_11_apply, val_main_call2_v2_apply,
    val_main_call2_v1_apply, val_main_call2_v0_apply, val_main_c_10_apply, val_main_v27_apply, val_main_v26_apply, val_main_c_9_apply,
    val_main_v25_apply, val_main_v23_apply, val_main_v21_apply, val_main_v14_apply, val_main_v24_apply, val_main_v22_apply,
    show idx_main_v22 (idx_main_v24 (ix2 g t)) = ix1 g from funext fun a => by fin_cases a; rfl, v13_at]
  refine Eq.trans (congrArg (fun x => IntOp.minsi 4096#32 (IntOp.maxsi 0#32 x)) ?_) (hi_word' (n := t.val + half g) (by omega))
  refine (congrArg (fun x => IntOp.addi x 1#32) (addi_word t.val (half g - 1))).trans ((addi_word _ 1).trans (congrArg _ (by omega)))

/-- An index that is not negative is kept. -/
theorem wrap_word {n : ℕ} (hn : n < 2 ^ 31) (x : BitVec 32) :
    Scalar.select (IntOp.cmpi .slt (BitVec.ofNat 32 n) 0#32) x (BitVec.ofNat 32 n) = BitVec.ofNat 32 n := by
  unfold Scalar.select
  rw [show (0#32 : BitVec 32) = BitVec.ofNat 32 0 from rfl, WordCmp.cmpi_slt_ofNat hn (by omega)]
  simp

theorem hiG_at (g : Fin 4) (t : Fin 4096) : val_main_v35 (F := Ideal) (ix2 g t) = BitVec.ofNat 32 (min (t.val + half g) 4096) := by
  rw [val_main_v35_apply, val_main_v32_apply, val_main_v31_apply, val_main_c_12_apply, hi_at]
  exact wrap_word (by omega) _

theorem loG_at (g : Fin 4) (t : Fin 4096) : val_main_v50 (F := Ideal) (ix2 g t) = BitVec.ofNat 32 (t.val - half g) := by
  rw [val_main_v50_apply, val_main_v47_apply, val_main_v46_apply, val_main_c_16_apply, lo_at]
  exact wrap_word (by omega) _

theorem grp_at (g : Fin 4) : val_main_v40 (F := Ideal) (ix2 g 0) = BitVec.ofNat 32 g.val := by
  rw [val_main_v40_apply, val_main_v37_apply, val_main_v36_apply, val_main_c_14_apply, val_main_v30_apply, val_main_v29_apply]
  exact wrap_word (n := g.val) (by omega) _

theorem grp_at' (g : Fin 4) : val_main_v55 (F := Ideal) (ix2 g 0) = BitVec.ofNat 32 g.val := by
  rw [val_main_v55_apply, val_main_v52_apply, val_main_v51_apply, val_main_c_18_apply, val_main_v30_apply, val_main_v29_apply]
  exact wrap_word (n := g.val) (by omega) _

/-- Two words per group and token, side by side. -/
theorem pair_at (x y : S4x4096x1.Idx → BitVec 32) (h) (g : Fin 4) (t : Fin 4096) :
    concatenate S4x4096x2 2 [⟨S4x4096x1, x⟩, ⟨S4x4096x1, y⟩] h (ix3 g t 0) = x (ix3 g t 0)
      ∧ concatenate S4x4096x2 2 [⟨S4x4096x1, x⟩, ⟨S4x4096x1, y⟩] h (ix3 g t 1) = y (ix3 g t 0) := by
  constructor <;> pointwise []

theorem v44_at (g : Fin 4) (t : Fin 4096) : val_main_v44 (F := Ideal) (ix3 g t 0) = BitVec.ofNat 32 (min (t.val + half g) 4096)
    ∧ val_main_v44 (F := Ideal) (ix3 g t 1) = BitVec.ofNat 32 g.val := by
  refine ⟨(pair_at _ _ _ g t).1.trans ?_, (pair_at _ _ _ g t).2.trans ?_⟩
  · rw [val_main_v42_apply]
    exact (congrArg (val_main_v35 (F := Ideal)) (funext fun a => by fin_cases a <;> rfl)).trans (hiG_at g t)
  · rw [val_main_v43_apply, val_main_v41_apply]
    exact (congrArg (val_main_v40 (F := Ideal)) (funext fun a => by fin_cases a <;> rfl)).trans (grp_at g)

theorem v59_at (g : Fin 4) (t : Fin 4096) : val_main_v59 (F := Ideal) (ix3 g t 0) = BitVec.ofNat 32 (t.val - half g)
    ∧ val_main_v59 (F := Ideal) (ix3 g t 1) = BitVec.ofNat 32 g.val := by
  refine ⟨(pair_at _ _ _ g t).1.trans ?_, (pair_at _ _ _ g t).2.trans ?_⟩
  · rw [val_main_v57_apply]
    exact (congrArg (val_main_v50 (F := Ideal)) (funext fun a => by fin_cases a <;> rfl)).trans (loG_at g t)
  · rw [val_main_v58_apply, val_main_v56_apply]
    exact (congrArg (val_main_v55 (F := Ideal)) (funext fun a => by fin_cases a <;> rfl)).trans (grp_at' g)

/-- The gather of one row per group and token. -/
theorem gather_at (x : S8x4097x4x256.Idx → EReal) (w : IVec S4x4096x2 32) (b : Fin 8) (g : Fin 4) (t : Fin 4096) (k : Fin 256) :
    Host.gather gather_S8x4097x4x256_S4x4096x2_S8x4x4096x256_03_12_n_n_12_2_811256 x w (ix4 b g t k)
      = x (ix4 b ⟨min (w (ix3 g t 0)).toInt.toNat 4096, by omega⟩ ⟨min (w (ix3 g t 1)).toInt.toNat 3, by omega⟩ k) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  have hs : ∀ (i : Fin 2) (h : (i : ℕ) < _), GatherDims.siIdx gather_S8x4097x4x256_S4x4096x2_S8x4x4096x256_03_12_n_n_12_2_811256 (ix4 b g t k)
      ⟨i, h⟩ = ix3 g t i := by
    intro i h
    refine funext fun a => Fin.ext ?_
    match a with
    | ⟨0, _⟩ => rfl
    | ⟨1, _⟩ => rfl
    | ⟨2, _⟩ => rfl
  unfold GatherDims.start GatherDims.offCoord
  match a with
  | ⟨0, _⟩ =>
    refine (congrArg₂ (· + ·) (congrArg (· + 0) (dif_neg (show (0 : Fin 4) ∉ gather_S8x4097x4x256_S4x4096x2_S8x4x4096x256_03_12_n_n_12_2_811256.startIndexMap by decide)))
      (dif_pos (show (0 : Fin 4) ∈ gather_S8x4097x4x256_S4x4096x2_S8x4x4096x256_03_12_n_n_12_2_811256.sKept by decide))).trans ?_
    show 0 + 0 + b.val = b.val
    omega
  | ⟨1, _⟩ =>
    refine (congrArg₂ (· + ·) (congrArg (· + 0) (dif_pos (show (1 : Fin 4) ∈ gather_S8x4097x4x256_S4x4096x2_S8x4x4096x256_03_12_n_n_12_2_811256.startIndexMap by decide)))
      (dif_neg (show (1 : Fin 4) ∉ gather_S8x4097x4x256_S4x4096x2_S8x4x4096x256_03_12_n_n_12_2_811256.sKept by decide))).trans ?_
    exact congrArg (fun i => min (w i).toInt.toNat 4096) (hs 0 _)
  | ⟨2, _⟩ =>
    refine (congrArg₂ (· + ·) (congrArg (· + 0) (dif_pos (show (2 : Fin 4) ∈ gather_S8x4097x4x256_S4x4096x2_S8x4x4096x256_03_12_n_n_12_2_811256.startIndexMap by decide)))
      (dif_neg (show (2 : Fin 4) ∉ gather_S8x4097x4x256_S4x4096x2_S8x4x4096x256_03_12_n_n_12_2_811256.sKept by decide))).trans ?_
    exact congrArg (fun i => min (w i).toInt.toNat 3) (hs 1 _)
  | ⟨3, _⟩ =>
    refine (congrArg₂ (· + ·) (congrArg (· + 0) (dif_neg (show (3 : Fin 4) ∉ gather_S8x4097x4x256_S4x4096x2_S8x4x4096x256_03_12_n_n_12_2_811256.startIndexMap by decide)))
      (dif_pos (show (3 : Fin 4) ∈ gather_S8x4097x4x256_S4x4096x2_S8x4x4096x256_03_12_n_n_12_2_811256.sKept by decide))).trans ?_
    show 0 + 0 + k.val = k.val
    omega

theorem v0_at (X : S8x4096x1024.Idx → EReal) (b : Fin 8) (s : Fin 4096) (g : Fin 4) (k : Fin 256) :
    val_main_v0 (F := Ideal) X (ix4 b s g k) = X (ix3 b s (col g k)) := by
  rw [val_main_v0_apply]
  refine congrArg X (funext fun a => Fin.ext ?_)
  fin_cases a <;> simp <;> omega

theorem v3_at (X : S8x4096x1024.Idx → EReal) (b : Fin 8) (n : Fin 4097) (g : Fin 4) (k : Fin 256) :
    val_main_v3 (F := Ideal) X (ix4 b n g k) = pre (colN X b (col g k)) n.val := by
  have e (z : S8x1x4x256.Idx → EReal) (y : S8x4096x4x256.Idx → EReal) (h) :
      concatenate S8x4097x4x256 1 [⟨S8x1x4x256, z⟩, ⟨S8x4096x4x256, y⟩] h (ix4 b n g k)
        = if h : n.val < 1 then z (ix4 b ⟨n.val, h⟩ g k) else y (ix4 b ⟨n.val - 1, by omega⟩ g k) := by
    pointwise []
  refine (e _ _ _).trans ?_
  split
  · next h =>
    rw [val_main_v1_apply]
    exact (Ideal.ofBits_zero_f32.trans (Finset.sum_range_zero _).symm).trans (congrArg (pre _) (show 0 = n.val by omega))
  · next h =>
    refine (cumsum4 (M := 4095) rfl _ b ⟨n.val - 1, by omega⟩ g k (colN X b (col g k)) (fun s => ?_) _ (fun i => ?_) _ _).trans
      (congrArg (pre _) (show n.val - 1 + 1 = n.val by omega))
    · rw [v0_at]
      unfold colN
      rw [dif_pos s.isLt]
    · rw [val_main_call0_call0_v0_apply]
      exact Ideal.ofBits_zero_f32

/-- A gathered index within bounds. -/
theorem take_word {n M : ℕ} (hn : n ≤ M) (hM : M < 2 ^ 31) : min (BitVec.ofNat 32 n).toInt.toNat M = n := by
  rw [WordCmp.toInt_ofNat_of_lt (by omega)]
  simp [hn]

/-! ## The means and their product with the weights -/

variable (Y X Z R : S8x4096x1024.Idx → EReal) (M : S8x1x3072.Idx → EReal) (P : S1x4x256x256.Idx → EReal) (S : S1x1024.Idx → EReal)
  (W : S1x2048x1024.Idx → EReal)

theorem v45_at (b : Fin 8) (g : Fin 4) (t : Fin 4096) (k : Fin 256) :
    val_main_v45 (F := Ideal) X (ix4 b g t k) = pre (colN X b (col g k)) (min (t.val + half g) 4096) := by
  unfold val_main_v45
  rw [gather_at]
  exact (congrArg₂ (fun i j => val_main_v3 (F := Ideal) X (ix4 b i j k))
    (Fin.ext ((congrArg (fun w => min w.toInt.toNat 4096) (v44_at g t).1).trans (take_word (by omega) (by omega))))
    (Fin.ext ((congrArg (fun w => min w.toInt.toNat 3) (v44_at g t).2).trans (take_word (by omega) (by omega))))).trans
    (v3_at X b ⟨min (t.val + half g) 4096, by omega⟩ g k)

theorem v60_at (b : Fin 8) (g : Fin 4) (t : Fin 4096) (k : Fin 256) :
    val_main_v60 (F := Ideal) X (ix4 b g t k) = pre (colN X b (col g k)) (t.val - half g) := by
  unfold val_main_v60
  rw [gather_at]
  exact (congrArg₂ (fun i j => val_main_v3 (F := Ideal) X (ix4 b i j k))
    (Fin.ext ((congrArg (fun w => min w.toInt.toNat 4096) (v59_at g t).1).trans (take_word (by omega) (by omega))))
    (Fin.ext ((congrArg (fun w => min w.toInt.toNat 3) (v59_at g t).2).trans (take_word (by omega) (by omega))))).trans
    (v3_at X b ⟨t.val - half g, by omega⟩ g k)

variable (hX : ∀ i, ∃ r : ℝ, X i = (r : EReal))
include hX

theorem v66_at (b : Fin 8) (g : Fin 4) (t : Fin 4096) (k : Fin 256) : val_main_v66 (F := Ideal) X (ix4 b g t k)
    = Ideal.div (win (colN X b (col g k)) t.val (half g)) (cntF t.val (half g)) := by
  rw [val_main_v66_apply, val_main_v61_apply, v45_at, v60_at, val_main_v65_apply, val_main_v64_apply, val_main_v63_apply]
  refine congrArg₂ Ideal.div (win_eq (fun s => ?_) (fun s hs => ?_) t.isLt (half_le g).2).symm ?_
  · unfold colN
    split
    · exact hX _
    · exact ⟨0, rfl⟩
  · exact dif_neg (by omega)
  · refine congrArg (FloatOps.sitofp (F := Ideal) .f32) ((congrArg (val_main_v62 (F := Ideal))
      (show _ = ix2 g t from funext fun a => by fin_cases a <;> rfl)).trans ?_)
    rw [val_main_v62_apply, hi_at, lo_at]
    exact cnt_word t.isLt (half_le g).2

theorem v68_at (b : Fin 8) (t : Fin 4096) (g : Fin 4) (k : Fin 256) : val_main_v68 (F := Ideal) X (ix4 b t g k)
    = Ideal.div (win (colN X b (col g k)) t.val (half g)) (cntF t.val (half g)) - X (ix3 b t (col g k)) := by
  rw [val_main_v68_apply, v0_at, val_main_v67_apply]
  refine congrArg (fun x : EReal => x - X (ix3 b t (col g k))) ((congrArg (val_main_v66 (F := Ideal) X)
    (show _ = ix4 b g t k from funext fun a => by fin_cases a <;> rfl)).trans (v66_at X hX b g t k))

theorem v71_at (b : Fin 8) (t : Fin 4096) (g : Fin 4) (d : Fin 256) : val_main_v71 (F := Ideal) X P (ix4 b t g d) = mixAt X P b t g d := by
  rw [val_main_v71_apply, val_main_v70_apply]
  unfold mixAt mixOf
  refine Finset.sum_congr rfl fun k _ => (mul_comm (G := EReal) _ _).trans (congrArg₂ (· * ·) ?_ ?_)
  · exact (congrArg (val_main_v68 (F := Ideal) X) (show _ = ix4 b t g k from funext fun a => by fin_cases a <;> rfl)).trans (v68_at X hX b t g k)
  · rw [val_main_v69_apply]
    refine congrArg P (funext fun a => Fin.ext ?_)
    fin_cases a <;> simp <;> omega

omit hX in
theorem group4_eq (f : Fin 4 → Fin 256 → EReal) (j : Fin 1024) :
    group4 (f 0) (f 1) (f 2) (f 3) j = f ⟨j.val / 256, by omega⟩ ⟨j.val % 256, by omega⟩ := by
  unfold group4
  split_ifs
  all_goals exact congrArg₂ f (Fin.ext (by simp; omega)) (Fin.ext (by simp; omega))

theorem v72_at (b : Fin 8) (t : Fin 4096) (j : Fin 1024) : val_main_v72 (F := Ideal) X P (ix3 b t j)
    = group4 (mixAt X P b t 0) (mixAt X P b t 1) (mixAt X P b t 2) (mixAt X P b t 3) j := by
  rw [val_main_v72_apply, group4_eq (mixAt X P b t), ← v71_at X P hX]
  refine congrArg (val_main_v71 (F := Ideal) X P) (funext fun a => Fin.ext ?_)
  fin_cases a <;> simp <;> omega

theorem v78_at (b : Fin 8) (t : Fin 4096) (j : Fin 1024) : val_main_v78 (F := Ideal) X Z P S (ix3 b t j) = poolAt X Z P S b t j := by
  rw [val_main_v78_apply, val_main_v76_apply, v72_at X P hX, val_main_v75_apply, val_main_v74_apply, val_main_v73_apply, val_main_v77_apply,
    val_main_call3_v5_apply, val_main_call3_v4_apply, val_main_call3_v3_apply, val_main_call3_v2_apply, val_main_call3_v1_apply,
    val_main_call3_v0_apply]
  refine congrArg₂ (· * ·) (congrArg₂ (· * ·) rfl (congrArg S (funext fun a => Fin.ext ?_))) ?_
  · fin_cases a <;> simp <;> omega
  · show Z (ix3 b t j) * Ideal.div (Ideal.ofBits .f32 0x3F800000#32) (Ideal.ofBits .f32 0x3F800000#32 + Ideal.exp (-Z (ix3 b t j))) = _
    rw [Ideal.ofBits_one_f32]
    rfl

/-- Column `j` of both branches side by side. -/
theorem v80_at (b : Fin 8) (t : Fin 4096) (j : Fin 2048) : val_main_v80 (F := Ideal) Y X Z P S (ix3 b t j)
    = if h : j.val < 1024 then Y (ix3 b t ⟨j.val, h⟩) else poolAt X Z P S b t ⟨j.val - 1024, by omega⟩ := by
  have e (z y : S8x4096x1024.Idx → EReal) (h) : concatenate S8x4096x2048 2 [⟨S8x4096x1024, z⟩, ⟨S8x4096x1024, y⟩] h (ix3 b t j)
      = if h : j.val < 1024 then z (ix3 b t ⟨j.val, h⟩) else y (ix3 b t ⟨j.val - 1024, by omega⟩) := by
    pointwise []
  refine (e _ _ _).trans ?_
  simp only [v78_at X Z P S hX]
  rfl

theorem v82_at (b : Fin 8) (t : Fin 4096) (e : Fin 1024) : val_main_v82 (F := Ideal) Y X Z P S W (ix3 b t e)
    = ∑ k : Fin 1024, Y (ix3 b t k) * W (ix3 0 ⟨k.val, by omega⟩ e) + ∑ k : Fin 1024, poolAt X Z P S b t k * W (ix3 0 ⟨1024 + k.val, by omega⟩ e) := by
  have h (k : Fin 2048) : val_main_v80 (F := Ideal) Y X Z P S (lidx_main_v82 (ix3 b t e) k) * val_main_v81 (F := Ideal) W (ridx_main_v82 (ix3 b t e) k)
      = (if h : k.val < 1024 then Y (ix3 b t ⟨k.val, h⟩) else poolAt X Z P S b t ⟨k.val - 1024, by omega⟩) * W (ix3 0 k e) := by
    refine congrArg₂ (· * ·) ?_ ?_
    · exact (congrArg (val_main_v80 (F := Ideal) Y X Z P S) (show _ = ix3 b t k from funext fun a => by fin_cases a <;> rfl)).trans
        (v80_at Y X Z P S hX b t k)
    · rw [val_main_v81_apply]
      refine congrArg W (funext fun a => Fin.ext ?_)
      fin_cases a <;> simp <;> omega
  rw [val_main_v82_apply]
  refine ((Finset.sum_congr rfl fun k _ => h k).trans (Fin.sum_univ_add (a := 1024) (b := 1024) _)).trans
    (congrArg₂ (· + ·) (Finset.sum_congr rfl fun k _ => congrArg₂ (· * ·) ?_ rfl) (Finset.sum_congr rfl fun k _ => congrArg₂ (· * ·) ?_ rfl))
  · exact dif_pos k.isLt
  · refine (dif_neg (by simp)).trans (congrArg (poolAt X Z P S b t) (Fin.ext (by simp)))

theorem v88_at : val_main_v88 (F := Ideal) Y X Z R M P S W = result Y X Z R M P S W := by
  funext j
  have e : j = ix3 (j 0) (j 1) (j 2) := funext fun a => by fin_cases a <;> rfl
  rw [val_main_v88_apply, val_main_v87_apply, val_main_v86_apply, val_main_v85_apply]
  refine congrArg₂ (· + ·) (congrArg R e) (congrArg₂ (· * ·) (congrArg M (funext fun a => Fin.ext ?_))
    ((congrArg (val_main_v82 (F := Ideal) Y X Z P S W) e).trans (v82_at Y X Z P S W hX (j 0) (j 1) (j 2))))
  fin_cases a <;> simp

end Cert.Reference6Ideal.Read

namespace Cert.EvenOutStep

open Idealize.ShloMosaic Idealize.ShloMosaic.TcCoe Idealize.SL.Sem

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

open Cert.Reference6Ideal.Read Cert.Kernel6Ideal.Val in
theorem algebraic : Cert.algebraic_Kernel6Ideal_Reference6Ideal_pre_finite6 := by
  intro m ρ m' ρ' hp hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  obtain ⟨a0, a1, a2, a3, a4, a5, a6, a7⟩ := hagree c
  rw [val_main_v88_eq, a0, a1, a2, a3, a4, a5, a6, a7]
  exact (v88_at _ _ _ _ _ _ _ _ (Cert.DiffAttn.reals_of (hp c))).trans (final10 m c).symm

end Cert.EvenOutStep

end
-- ==== Proof.Rows.lean ====
/- Rows of the layer over the extended reals: the root mean square norm and the modulation. -/
module

public import Idealize.ShloMosaic.Lib.Pointwise

@[expose] public section

noncomputable section

namespace Cert.Layer

open Idealize.ShloMosaic

/-- A row over its root mean square. -/
def normRow (r : Fin 1024 → EReal) (w : Fin 1024) : EReal :=
  r w * Ideal.rsqrt (Ideal.div (∑ x, r x * r x) (Ideal.ofBits .f32 0x44800000#32) + Ideal.ofBits .f32 0x358637BD#32)

/-- A row normalised, scaled by one plus `scale` and shifted. -/
def modRow (r shift scale : Fin 1024 → EReal) (w : Fin 1024) : EReal :=
  normRow r w * (Ideal.ofBits .f32 0x3F800000#32 + scale w) + shift w

theorem modRow_congr {r r' s s' c c' : Fin 1024 → EReal} (hr : ∀ k, r k = r' k) (hs : ∀ k, s k = s' k) (hc : ∀ k, c k = c' k)
    (w : Fin 1024) : modRow r s c w = modRow r' s' c' w := by
  obtain rfl := funext hr; obtain rfl := funext hs; obtain rfl := funext hc; rfl

end Cert.Layer

end
-- ==== Proof.Even.lean ====
/- The latent call of the even layer's projections: four results are rows of the modulated input times columns of the weights,
   and the fifth is a convolution along the tokens of such products, of five taps and zero beyond the ends. -/
module

public import proofs.«01_k».proof.Proof.Gen.Kernel4Ideal.Value
public import proofs.«01_k».proof.Proof.Rows
public import Idealize.ShloMosaic.Lib.Pointwise
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody
public import Idealize.ShloMosaic.Lib.Claim
public import Idealize.ShloMosaic.Lib.WordArith

@[expose] public section

set_option maxRecDepth 16384

noncomputable section

namespace Cert.Kernel4Ideal.Val

open Cert.Kernel4Ideal Cert.Kernel4Ideal.Gen Cert.Kernel4Ideal.Value Idealize.ShloMosaic Idealize.ShloMosaic.TcCoe Idealize.SL.Sem
open Cert.Layer

/-! ## One block -/

/-- A row of the input, modulated by a block's modulation vector. -/
def modOf (x3 : Vec Ideal S1x1x3072 .f32) (r : Fin 1024 → EReal) : Fin 1024 → EReal :=
  modRow r (fun e => x3 (ix3 0 0 ⟨e.val, by omega⟩)) (fun e => x3 (ix3 0 0 ⟨1024 + e.val, by omega⟩))

variable (x0 : Vec Ideal S1x512x1024 .f32) (x1 x2 : Vec Ideal S1x8x1024 .f32) (x3 : Vec Ideal S1x1x3072 .f32)

theorem pay3_at (r : Fin 512) (k : Fin 1024) : k0_pay3 x3 x0 (ix2 r k) = modOf x3 (fun e => x0 (ix3 0 r e)) k := by
  unfold modOf modRow normRow
  pointwise [k0_pay3, k0_pay2]

theorem pay6_at (v : Vec Ideal S1024x1024 .bf16) (r : Fin 512) (w : Fin 1024) :
    k0_pay6 (k0_pay3 x3 x0) v (ix3 0 r w) = ∑ k, modOf x3 (fun e => x0 (ix3 0 r e)) k * v (ix2 k w) := by
  simp only [← pay3_at]
  generalize k0_pay3 x3 x0 = h
  pointwise [k0_pay6]

theorem pay4_eq (v : Vec Ideal S1024x1024 .bf16) : k0_pay4 x3 x0 v = k0_pay6 (k0_pay3 x3 x0) v := rfl
theorem pay5_eq (v : Vec Ideal S1024x1024 .bf16) : k0_pay5 x3 x0 v = k0_pay6 (k0_pay3 x3 x0) v := rfl

theorem pay7_at (v : Vec Ideal S1024x128 .bf16) (r : Fin 512) (w : Fin 128) :
    k0_pay7 (k0_pay3 x3 x0) v (ix3 0 r w) = ∑ k, modOf x3 (fun e => x0 (ix3 0 r e)) k * v (ix2 k w) := by
  simp only [← pay3_at]
  generalize k0_pay3 x3 x0 = h
  pointwise [k0_pay7]

/-- Row `r` of the block with its eight neighbours on either side. -/
def extRow (r : Fin 528) (e : Fin 1024) : EReal :=
  if h : r.val < 8 then x1 (ix3 0 ⟨r.val, h⟩ e)
  else if h : r.val - 8 < 512 then x0 (ix3 0 ⟨r.val - 8, h⟩ e) else x2 (ix3 0 ⟨r.val - 8 - 512, by omega⟩ e)

theorem pay10_at (r : Fin 528) (w : Fin 1024) : k0_pay10 x1 x0 x2 (ix2 r w) = normRow (extRow x0 x1 x2 r) w := by
  have e : ∀ r : Fin 528, ∀ e : Fin 1024, concatenate S528x1024 0 [⟨S8x1024, shapeCast S8x1024 x1 shapeCasts_S1x8x1024_S8x1024⟩,
      ⟨S512x1024, shapeCast S512x1024 x0 shapeCasts_S1x512x1024_S512x1024⟩, ⟨S8x1024, shapeCast S8x1024 x2 shapeCasts_S1x8x1024_S8x1024⟩]
      concatenates_S8x1024_S512x1024_S8x1024_S528x1024_d0 (ix2 r e) = extRow x0 x1 x2 r e := by
    intro r e
    unfold extRow
    pointwise []
  unfold normRow
  simp only [← e]
  unfold k0_pay10
  generalize concatenate S528x1024 0 _ _ = x
  pointwise []

/-- The rows kept: those of the array, so neither those before its first tile nor those after its last. -/
theorem keep_at (i : Fin 8) (r : Fin 528) (a : EReal) :
    Scalar.select (IntOp.andi (IntOp.ori (IntOp.cmpi .sge (BitVec.ofNat 32 r.val) 8#32) (Scalar.cmpi .sgt (BitVec.ofNat 32 i.val) 0#32))
        (IntOp.ori (IntOp.cmpi .slt (BitVec.ofNat 32 r.val) 520#32) (Scalar.cmpi .slt (BitVec.ofNat 32 i.val) 7#32))) a 0
      = if (8 ≤ r.val ∨ 0 < i.val) ∧ (r.val < 520 ∨ i.val < 7) then a else 0 := by
  unfold Scalar.select Scalar.cmpi
  rw [WordCmp.cmpi_sge_ofNat (by omega) (by omega), WordCmp.cmpi_slt_ofNat (by omega) (by omega), WordCmp.cmpi_sgt_ofNat (by omega) (by omega),
    WordCmp.cmpi_slt_ofNat (by omega) (by omega), WordArith.ori_ofBool, WordArith.ori_ofBool, WordArith.andi_ofBool]
  refine if_congr ?_ rfl rfl
  rw [WordArith.ofBool_eq_numeral_one_iff]
  simp

/-- The product of such a row with the convolution's 2048 columns. -/
theorem pay12_at (i : Fin 8) (v : Vec Ideal S1024x2048 .bf16) (r : Fin 528) (w : Fin 2048) :
    k0_pay12 (BitVec.ofNat 32 i.val) (k0_pay8 (k0_pay2 x3)) (k0_pay9 (k0_pay2 x3)) (k0_pay10 x1 x0 x2) k0_pay11 v (ix2 r w)
      = if (8 ≤ r.val ∨ 0 < i.val) ∧ (r.val < 520 ∨ i.val < 7) then ∑ k, modOf x3 (extRow x0 x1 x2 r) k * v (ix2 k w) else 0 := by
  unfold modOf modRow
  simp only [← pay10_at, ← keep_at]
  generalize k0_pay10 x1 x0 x2 = h
  pointwise [k0_pay12, k0_pay8, k0_pay9, k0_pay2, k0_pay11]

/-- The convolution of a block's scratch. -/
theorem pay1_at (e0 e1 e2 e3 e4 : Vec Ideal S512x2048 .f32) (c0 c1 c2 c3 c4 b : Vec Ideal S1x2048 .f32) (r : Fin 512) (w : Fin 2048) :
    k0_pay1 (k0_pay13 e0 c0 e1 c1) e2 c2 e3 c3 e4 c4 b (ix3 0 r w)
      = (fun u => u * Ideal.logistic u) (e0 (ix2 r w) * c0 (ix2 0 w) + e1 (ix2 r w) * c1 (ix2 0 w) + e2 (ix2 r w) * c2 (ix2 0 w)
          + e3 (ix2 r w) * c3 (ix2 0 w) + e4 (ix2 r w) * c4 (ix2 0 w) + b (ix2 0 w)) := by
  pointwise [k0_pay1, k0_pay13]

theorem idx : ∀ t : Fin cfg0.N, win0_0.index t = ![t.val / 8, t.val % 8, 0]
    ∧ win0_1.index t = ![t.val / 8, t.val % 8 * 64 - 1, 0] ∧ win0_2.index t = ![t.val / 8, min (t.val % 8 * 64 + 64) 511, 0]
    ∧ win0_3.index t = ![t.val / 8, 0, 0] ∧ win0_4.index t = ![0, 0] ∧ win0_5.index t = ![0, 0] ∧ win0_6.index t = ![0, 0]
    ∧ win0_7.index t = ![t.val / 8, t.val % 8, 0] ∧ win0_8.index t = ![t.val / 8, t.val % 8, 0] ∧ win0_9.index t = ![t.val / 8, t.val % 8, 0]
    ∧ win0_10.index t = ![t.val / 8, t.val % 8, 0] ∧ win0_11.index t = ![t.val / 8, t.val % 8, 0] :=
  (by decide +kernel : ∀ t : Fin grid0.N, _)

variable (m : (ℓ : Loc nD τ sig) → Buf (Elt Ideal) ℓ) (c : Dev nD)

/-- A read of the scratch's rows from row `n` on. -/
theorem scr_read (n : ℕ) (inb inb') (P : Vec Ideal S528x2048 .f32) (r : Fin 512) (w : Fin 2048) (h : n + r.val < 528) :
    (View.whole cc0_scratch0).readCov (Val := Elt Ideal) [⟨Rect.unit (s := S528x2048) ![0, 0] ![528, 2048] inb, P⟩]
      (Rect.unit (s := S528x2048) ![n, 0] ![512, 2048] inb').toLoadRect (ix2 r w) = P (ix2 ⟨n + r.val, h⟩ w) := by
  rw [View.readCov_eq_canon', View.canon_unit_zero (S := S528x2048) (by decide) _ _]
  exact congrArg P (funext fun a => Fin.ext (by fin_cases a <;> simp))

/-- A row of the block times column `j` of the weights. -/
def colOf (x4 : Vec Ideal S1024x5248 .bf16) (r : Fin 512) (j : Fin 5248) : EReal :=
  ∑ k, modOf x3 (fun e => x0 (ix3 0 r e)) k * x4 (ix2 k j)

/-- An index of a block by its row and its column. -/
theorem ix_wide (y : S1x512x1024.Idx) : y = ix3 0 (y 1) (y 2) :=
  funext fun a => by fin_cases a <;> first | rfl | exact Subsingleton.elim (α := Fin 1) _ _
theorem ix_conv (y : S1x512x2048.Idx) : y = ix3 0 (y 1) (y 2) :=
  funext fun a => by fin_cases a <;> first | rfl | exact Subsingleton.elim (α := Fin 1) _ _
theorem ix_narrow (y : S1x512x128.Idx) : y = ix3 0 (y 1) (y 2) :=
  funext fun a => by fin_cases a <;> first | rfl | exact Subsingleton.elim (α := Fin 1) _ _

/-- A block of 1024 columns of the weights from column `o` on, multiplied. -/
theorem wide_at (x4 : Vec Ideal S1024x5248 .bf16) (o : ℕ) (inb) (y : S1x512x1024.Idx) (h : o + (y 2).val < 5248) :
    k0_pay6 (k0_pay3 x3 x0) (View.ld x4 (Rect.unit (s := S1024x5248) ![0, o] ![1024, 1024] inb)) y = colOf x0 x3 x4 (y 1) ⟨o + (y 2).val, h⟩ := by
  refine (congrArg (k0_pay6 (k0_pay3 x3 x0) _) (ix_wide y)).trans ((pay6_at x0 x3 _ (y 1) (y 2)).trans
    (Finset.sum_congr rfl fun k _ => congrArg₂ (· * ·) rfl ?_))
  exact View.ld_unit_apply_of _ _ _ _ _ _ fun a => by fin_cases a <;> simp

theorem out7_at (t : Fin cfg0.N) (y : S1x512x1024.Idx) (h) : (outsAt0 m c t).1 y
    = colOf (iblk m c 0 t) (iblk m c 3 t) (iblk m c 4 t) (y 1) ⟨0 + (y 2).val, h⟩ := by
  unfold outsAt0
  frame_out
  exact (congrFun (pay4_eq _ _ _) y).trans (wide_at _ _ _ 0 _ y h)

theorem out9_at (t : Fin cfg0.N) (y : S1x512x1024.Idx) (h) : (outsAt0 m c t).2.2.1 y
    = colOf (iblk m c 0 t) (iblk m c 3 t) (iblk m c 4 t) (y 1) ⟨3072 + (y 2).val, h⟩ := by
  unfold outsAt0
  frame_out
  exact (congrFun (pay5_eq _ _ _) y).trans (wide_at _ _ _ 3072 _ y h)

theorem out10_at (t : Fin cfg0.N) (y : S1x512x1024.Idx) (h) : (outsAt0 m c t).2.2.2.1 y
    = colOf (iblk m c 0 t) (iblk m c 3 t) (iblk m c 4 t) (y 1) ⟨4096 + (y 2).val, h⟩ := by
  unfold outsAt0
  frame_out
  exact wide_at _ _ _ 4096 _ y h

theorem out11_at (t : Fin cfg0.N) (y : S1x512x128.Idx) (h) : (outsAt0 m c t).2.2.2.2 y
    = colOf (iblk m c 0 t) (iblk m c 3 t) (iblk m c 4 t) (y 1) ⟨5120 + (y 2).val, h⟩ := by
  unfold outsAt0
  frame_out
  refine (congrArg (k0_pay7 (k0_pay3 _ _) _) (ix_narrow y)).trans ((pay7_at _ _ _ (y 1) (y 2)).trans
    (Finset.sum_congr rfl fun k _ => congrArg₂ (· * ·) rfl ?_))
  exact View.ld_unit_apply_of _ _ _ _ _ _ fun a => by fin_cases a <;> simp

/-- Row `e` of the scratch, of the block and its neighbours, in column `w` of the convolution. -/
def scrAt (x4 : Vec Ideal S1024x5248 .bf16) (i : Fin 8) (e : Fin 528) (w : Fin 2048) : EReal :=
  if (8 ≤ e.val ∨ 0 < i.val) ∧ (e.val < 520 ∨ i.val < 7)
  then ∑ k, modOf x3 (extRow x0 x1 x2 e) k * x4 (ix2 k ⟨1024 + w.val, by omega⟩) else 0

theorem pay12_ld (x4 : Vec Ideal S1024x5248 .bf16) (i : Fin 8) (inb) (e : Fin 528) (w : Fin 2048) :
    k0_pay12 (BitVec.ofNat 32 i.val) (k0_pay8 (k0_pay2 x3)) (k0_pay9 (k0_pay2 x3)) (k0_pay10 x1 x0 x2) k0_pay11
      (View.ld x4 (Rect.unit (s := S1024x5248) ![0, 1024] ![1024, 2048] inb)) (ix2 e w) = scrAt x0 x1 x2 x3 x4 i e w := by
  rw [pay12_at]
  refine if_congr Iff.rfl (Finset.sum_congr rfl fun k _ => congrArg₂ (· * ·) rfl ?_) rfl
  exact View.ld_unit_apply_of _ _ _ _ _ _ fun a => by fin_cases a <;> simp

theorem scr_at (x4 : Vec Ideal S1024x5248 .bf16) (i : Fin 8) (n : ℕ) (inb inb' inb'') (r : Fin 512) (w : Fin 2048) (h : n + r.val < 528) :
    (View.whole cc0_scratch0).readCov (Val := Elt Ideal) [⟨Rect.unit (s := S528x2048) ![0, 0] ![528, 2048] inb,
        k0_pay12 (BitVec.ofNat 32 i.val) (k0_pay8 (k0_pay2 x3)) (k0_pay9 (k0_pay2 x3)) (k0_pay10 x1 x0 x2) k0_pay11
          (View.ld x4 (Rect.unit (s := S1024x5248) ![0, 1024] ![1024, 2048] inb''))⟩]
      (Rect.unit (s := S528x2048) ![n, 0] ![512, 2048] inb').toLoadRect (ix2 r w) = scrAt x0 x1 x2 x3 x4 i ⟨n + r.val, h⟩ w :=
  (scr_read n _ _ _ r w h).trans (pay12_ld x0 x1 x2 x3 x4 i _ _ w)

/-- A row of the convolution's weights. -/
theorem tap_ld (x5 : Vec Ideal S5x2048 .f32) (n : ℕ) (inb) (w : Fin 2048) (h : n < 5) :
    View.ld x5 (Rect.unit (s := S5x2048) ![n, 0] ![1, 2048] inb) (ix2 0 w) = x5 (ix2 ⟨n, h⟩ w) :=
  View.ld_unit_apply_of _ _ _ _ _ _ fun a => by fin_cases a <;> simp

theorem coord1 (t : Fin cfg0.N) : ((grid0.coords t) 1).val = t.val % 8 :=
  (by decide +kernel : ∀ t : Fin grid0.N, ((grid0.coords t) 1).val = t.val % 8) t

theorem out8_at (t : Fin cfg0.N) (y : S1x512x2048.Idx) : (outsAt0 m c t).2.1 y =
    (let S := fun n : Fin 5 => scrAt (iblk m c 0 t) (iblk m c 1 t) (iblk m c 2 t) (iblk m c 3 t) (iblk m c 4 t) ⟨t.val % 8, by omega⟩
      ⟨6 + n.val + (y 1).val, by have : (y 1).val < 512 := (y 1).isLt; omega⟩ (y 2)
     let C := fun n : Fin 5 => (iblk m c 5 t : Vec Ideal S5x2048 .f32) (ix2 n (y 2))
     let u := S 0 * C 0 + S 1 * C 1 + S 2 * C 2 + S 3 * C 3 + S 4 * C 4 + (iblk m c 6 t : Vec Ideal S1x2048 .f32) (ix2 0 (y 2))
     u * Ideal.logistic u) := by
  unfold outsAt0
  frame_out
  rw [coord1]
  idx_bounds y
  refine (congrArg _ (ix_conv y)).trans ((pay1_at _ _ _ _ _ _ _ _ _ _ _ (y 1) (y 2)).trans ?_)
  have e (n : ℕ) := fun inb inb' inb'' h => scr_at (iblk m c 0 t) (iblk m c 1 t) (iblk m c 2 t) (iblk m c 3 t) (iblk m c 4 t) ⟨t.val % 8, by omega⟩ n
    inb inb' inb'' (y 1) (y 2) h
  have f (n : ℕ) := fun inb h => tap_ld (iblk m c 5 t) n inb (y 2) h
  refine congrArg (fun u => u * Ideal.logistic u) ?_
  refine congrArg₂ (· + ·) (congrArg₂ (· + ·) (congrArg₂ (· + ·) (congrArg₂ (· + ·) (congrArg₂ (· + ·) ?_ ?_) ?_) ?_) ?_) rfl
  · exact congrArg₂ (· * ·) (e 6 _ _ _ _) (f 0 _ _)
  · exact congrArg₂ (· * ·) (e 7 _ _ _ _) (f 1 _ _)
  · exact congrArg₂ (· * ·) (e 8 _ _ _ _) (f 2 _ _)
  · exact congrArg₂ (· * ·) (e 9 _ _ _ _) (f 3 _ _)
  · exact congrArg₂ (· * ·) (e 10 _ _ _ _) (f 4 _ _)

/-- The weights as the call orders them: the 32 columns from 3072 on after the others, then zeros. -/
def evenW (W : S1x1024x5152.Idx → EReal) (k : Fin 1024) (j : Fin 5248) : EReal :=
  if h : j.val < 3072 then W (ix3 0 k ⟨j.val, by omega⟩)
  else if h : j.val - 3072 < 2048 then W (ix3 0 k ⟨3104 + (j.val - 3072), by omega⟩)
  else if h : j.val - 3072 - 2048 < 32 then W (ix3 0 k ⟨3072 + (j.val - 3072 - 2048), by omega⟩) else 0

/-- The weights without their leading axis. -/
def flatW (W : S1x1024x5152.Idx → EReal) : S1024x5152.Idx → EReal := shapeCast S1024x5152 W shapeCasts_S1x1024x5152_S1024x5152

theorem host1 : (V m c main_v1 : S1024x3072.Idx → EReal)
    = extractStridedSlice S1024x3072 ![0, 0] (flatW (m ((c : Thread nD τ).loc main_arg2))) slices_S1024x5152_S1024x3072_0_0 := by
  unfold_abbrev_sides
  after_results
  rfl
theorem host2 : (V m c main_v2 : S1024x2048.Idx → EReal)
    = extractStridedSlice S1024x2048 ![0, 3104] (flatW (m ((c : Thread nD τ).loc main_arg2))) slices_S1024x5152_S1024x2048_0_3104 := by
  unfold_abbrev_sides
  after_results
  rfl
theorem host3 : (V m c main_v3 : S1024x32.Idx → EReal)
    = extractStridedSlice S1024x32 ![0, 3072] (flatW (m ((c : Thread nD τ).loc main_arg2))) slices_S1024x5152_S1024x32_0_3072 := by
  unfold_abbrev_sides
  after_results
  rfl
theorem host4 : (V m c main_v4 : S1024x96.Idx → EReal) = fun _ => (0 : EReal) := by
  unfold_abbrev_sides
  after_results
  exact funext fun _ => Ideal.ofBits_zero_f32
theorem host6 : (V m c main_v6 : S1024x5248.Idx → EReal)
    = concatenate S1024x5248 1 [⟨S1024x3072, (V m c main_v1 : S1024x3072.Idx → EReal)⟩,
        ⟨S1024x2048, (V m c main_v2 : S1024x2048.Idx → EReal)⟩, ⟨S1024x32, (V m c main_v3 : S1024x32.Idx → EReal)⟩,
        ⟨S1024x96, (V m c main_v4 : S1024x96.Idx → EReal)⟩] concatenates_S1024x3072_S1024x2048_S1024x32_S1024x96_S1024x5248_d1 := by
  unfold_abbrev_sides
  after_results
  rfl

theorem w4_eq (k : Fin 1024) (j : Fin 5248) : (V m c main_v6 : S1024x5248.Idx → EReal) (ix2 k j)
    = evenW (m ((c : Thread nD τ).loc main_arg2)) k j := by
  rw [host6, host1, host2, host3, host4]
  unfold evenW
  generalize (m ((c : Thread nD τ).loc main_arg2) : S1x1024x5152.Idx → EReal) = W
  pointwise [flatW]

theorem w4 (t : Fin cfg0.N) (k : Fin 1024) (j : Fin 5248) : (iblk m c 4 t : Vec Ideal S1024x5248 .bf16) (ix2 k j)
    = evenW (m ((c : Thread nD τ).loc main_arg2)) k j := by
  rw [← w4_eq]
  exact congrArg (V m c main_v6) (by blk_ext! [idx t])

theorem w5 (t : Fin cfg0.N) (k : Fin 5) (j : Fin 2048) : (iblk m c 5 t : Vec Ideal S5x2048 .f32) (ix2 k j)
    = (m ((c : Thread nD τ).loc main_arg3) : S1x5x2048.Idx → EReal) (ix3 0 k j) := by
  blk_ext! [iblk, V, idx t]

theorem w6 (t : Fin cfg0.N) (j : Fin 2048) : (iblk m c 6 t : Vec Ideal S1x2048 .f32) (ix2 0 j)
    = (m ((c : Thread nD τ).loc main_arg4) : S1x2048.Idx → EReal) (ix2 0 j) := by
  blk_ext! [iblk, V, idx t]

/-! ## The arrays -/

/-- Row `(b, t)` of the input, modulated. -/
def rowAt (X : S8x4096x1024.Idx → EReal) (M : S8x1x3072.Idx → EReal) (b : Fin 8) (t : Fin 4096) : Fin 1024 → EReal :=
  modRow (fun e => X (ix3 b t e)) (fun e => M (ix3 b 0 ⟨e.val, by omega⟩)) (fun e => M (ix3 b 0 ⟨1024 + e.val, by omega⟩))

/-- That row times column `j` of the weights. -/
def colAt (X : S8x4096x1024.Idx → EReal) (M : S8x1x3072.Idx → EReal) (W : S1x1024x5152.Idx → EReal) (b : Fin 8) (t : Fin 4096)
    (j : Fin 5152) : EReal := ∑ k, rowAt X M b t k * W (ix3 0 k j)

/-- 1024 columns from column `o` on, one row per token. -/
def wide (o : ℕ) (h : o + 1024 ≤ 5152) (X : S8x4096x1024.Idx → EReal) (M : S8x1x3072.Idx → EReal) (W : S1x1024x5152.Idx → EReal) :
    S8x4096x1024.Idx → EReal :=
  fun j => colAt X M W (j 0) (j 1) ⟨o + (j 2).val, by have : (j 2).val < 1024 := (j 2).isLt; omega⟩

/-- The 32 columns from column 3072 on, then zeros. -/
def narrow (X : S8x4096x1024.Idx → EReal) (M : S8x1x3072.Idx → EReal) (W : S1x1024x5152.Idx → EReal) : S8x4096x128.Idx → EReal :=
  fun j => if h : (j 2).val < 32 then colAt X M W (j 0) (j 1) ⟨3072 + (j 2).val, by omega⟩ else 0

/-- Column `w` of the convolution's input two tokens before token `s`, zero beyond the ends. -/
def padAt (X : S8x4096x1024.Idx → EReal) (M : S8x1x3072.Idx → EReal) (W : S1x1024x5152.Idx → EReal) (b : Fin 8) (s : ℕ)
    (w : Fin 2048) : EReal :=
  if h : 2 ≤ s ∧ s - 2 < 4096 then colAt X M W b ⟨s - 2, h.2⟩ ⟨1024 + w.val, by omega⟩ else 0

/-- The convolution's sum at token `t` and column `w`. -/
def convAt (X : S8x4096x1024.Idx → EReal) (M : S8x1x3072.Idx → EReal) (W : S1x1024x5152.Idx → EReal) (C : S1x5x2048.Idx → EReal)
    (B : S1x2048.Idx → EReal) (b : Fin 8) (t : Fin 4096) (w : Fin 2048) : EReal :=
  padAt X M W b t.val w * C (ix3 0 0 w) + padAt X M W b (1 + t.val) w * C (ix3 0 1 w) + padAt X M W b (2 + t.val) w * C (ix3 0 2 w)
    + padAt X M W b (3 + t.val) w * C (ix3 0 3 w) + padAt X M W b (4 + t.val) w * C (ix3 0 4 w) + B (ix2 0 w)

/-- The convolution, through its silu. -/
def conv (X : S8x4096x1024.Idx → EReal) (M : S8x1x3072.Idx → EReal) (W : S1x1024x5152.Idx → EReal) (C : S1x5x2048.Idx → EReal)
    (B : S1x2048.Idx → EReal) : S8x4096x2048.Idx → EReal :=
  fun j => convAt X M W C B (j 0) (j 1) (j 2) * Ideal.logistic (convAt X M W C B (j 0) (j 1) (j 2))

/-- The arguments. -/
abbrev aX : S8x4096x1024.Idx → EReal := m ((c : Thread nD τ).loc main_arg0)
abbrev aM : S8x1x3072.Idx → EReal := m ((c : Thread nD τ).loc main_arg1)
abbrev aW : S1x1024x5152.Idx → EReal := m ((c : Thread nD τ).loc main_arg2)

/-- A modulated row of a block is the row of the whole arrays at the token's place. -/
theorem row_block (t : Fin cfg0.N) {R : Fin 1024 → EReal} {b : Fin 8} {s : Fin 4096} (hb : b.val = t.val / 8)
    (hR : ∀ e, R e = aX m c (ix3 b s e)) (k : Fin 1024) : modOf (iblk m c 3 t) R k = rowAt (aX m c) (aM m c) b s k := by
  refine modRow_congr hR (fun e => ?_) (fun e => ?_) k
  · blk_ext! [iblk, V, idx t]
  · blk_ext! [iblk, V, idx t]

theorem col_block (t : Fin cfg0.N) {r : Fin 512} {j : Fin 5248} {j' : Fin 5152} {b : Fin 8} {s : Fin 4096} (hb : b.val = t.val / 8)
    (hs : s.val = t.val % 8 * 512 + r.val) (hj : ∀ k, evenW (aW m c) k j = aW m c (ix3 0 k j')) :
    colOf (iblk m c 0 t) (iblk m c 3 t) (iblk m c 4 t) r j = colAt (aX m c) (aM m c) (aW m c) b s j' := by
  refine Finset.sum_congr rfl fun k _ => congrArg₂ (· * ·) (row_block m c t hb (fun e => ?_) k) ((w4 m c t k j).trans (hj k))
  blk_ext! [iblk, V, idx t]

theorem scr_block (t : Fin cfg0.N) {e : Fin 528} {w : Fin 2048} {b : Fin 8} {s : ℕ} (hb : b.val = t.val / 8)
    (hs : s + 6 = t.val % 8 * 512 + e.val) :
    scrAt (iblk m c 0 t) (iblk m c 1 t) (iblk m c 2 t) (iblk m c 3 t) (iblk m c 4 t) ⟨t.val % 8, by omega⟩ e w
      = padAt (aX m c) (aM m c) (aW m c) b s w := by
  unfold scrAt padAt
  by_cases h : (8 ≤ e.val ∨ 0 < t.val % 8) ∧ (e.val < 520 ∨ t.val % 8 < 7)
  · rw [if_pos h, dif_pos (by omega)]
    refine Finset.sum_congr rfl fun k _ => congrArg₂ (· * ·) (row_block m c t hb (fun d => ?_) k) ((w4 m c t k _).trans ?_)
    · unfold extRow
      split
      · blk_ext! [iblk, V, idx t]
      split
      · blk_ext! [iblk, V, idx t]
      · blk_ext! [iblk, V, idx t]
    · unfold evenW
      rw [dif_pos (by simp; omega)]
  · rw [if_neg h, dif_neg (by omega)]

theorem final7 : (dats m 0 c).arrAt 7 cfg0.N = wide 0 (by omega) (aX m c) (aM m c) (aW m c) := by
  refine (dats m 0 c).arrAt_eq_of_covers 7 _ (by decide +kernel) fun t hf y => ?_
  blk_simp
  rw [after0_7]
  idx_bounds y
  refine (out7_at m c t y (by omega)).trans (col_block m c t (by blk_simp [idx t]) (by blk_simp [idx t]) fun k => ?_)
  unfold evenW
  rw [dif_pos (by simp; omega)]
  exact congrArg (aW m c) (by blk_ext! [idx t])

theorem final9 : (dats m 0 c).arrAt 9 cfg0.N = wide 3104 (by omega) (aX m c) (aM m c) (aW m c) := by
  refine (dats m 0 c).arrAt_eq_of_covers 9 _ (by decide +kernel) fun t hf y => ?_
  blk_simp
  rw [after0_9]
  idx_bounds y
  refine (out9_at m c t y (by omega)).trans (col_block m c t (by blk_simp [idx t]) (by blk_simp [idx t]) fun k => ?_)
  unfold evenW
  rw [dif_neg (by simp), dif_pos (by simp; omega)]
  exact congrArg (aW m c) (by blk_ext! [idx t])

theorem final10 : (dats m 0 c).arrAt 10 cfg0.N = wide 4128 (by omega) (aX m c) (aM m c) (aW m c) := by
  refine (dats m 0 c).arrAt_eq_of_covers 10 _ (by decide +kernel) fun t hf y => ?_
  blk_simp
  rw [after0_10]
  idx_bounds y
  refine (out10_at m c t y (by omega)).trans (col_block m c t (by blk_simp [idx t]) (by blk_simp [idx t]) fun k => ?_)
  unfold evenW
  rw [dif_neg (by simp; omega), dif_pos (by simp; omega)]
  exact congrArg (aW m c) (by blk_ext! [idx t])

theorem final11 : (dats m 0 c).arrAt 11 cfg0.N = narrow (aX m c) (aM m c) (aW m c) := by
  refine (dats m 0 c).arrAt_eq_of_covers 11 _ (by decide +kernel) fun t hf y => ?_
  blk_simp
  rw [after0_11]
  idx_bounds y
  refine (out11_at m c t y (by omega)).trans ?_
  unfold narrow
  by_cases h : (y 2).val < 32
  · rw [dif_pos (by blk_simp [idx t]; omega)]
    refine col_block m c t (by blk_simp [idx t]) (by blk_simp [idx t]) fun k => ?_
    unfold evenW
    rw [dif_neg (by simp; omega), dif_neg (by simp; omega), dif_pos (by simp; omega)]
    exact congrArg (aW m c) (by blk_ext! [idx t])
  · rw [dif_neg (by blk_simp [idx t]; omega)]
    refine Finset.sum_eq_zero fun k _ => ?_
    rw [w4]
    unfold evenW
    rw [dif_neg (by simp; omega), dif_neg (by simp; omega), dif_neg (by simp; omega), mul_zero]

/-- The convolution's sum in a block. -/
theorem conv_block (t : Fin cfg0.N) (r : Fin 512) {w w' : Fin 2048} {b : Fin 8} {s : Fin 4096} (hb : b.val = t.val / 8)
    (hs : s.val = t.val % 8 * 512 + r.val) (hw : w.val = w'.val) (h : ∀ n : Fin 5, 6 + n.val + r.val < 528) :
    (let S := fun n : Fin 5 => scrAt (iblk m c 0 t) (iblk m c 1 t) (iblk m c 2 t) (iblk m c 3 t) (iblk m c 4 t) ⟨t.val % 8, by omega⟩
      ⟨6 + n.val + r.val, h n⟩ w
     let C := fun n : Fin 5 => (iblk m c 5 t : Vec Ideal S5x2048 .f32) (ix2 n w)
     S 0 * C 0 + S 1 * C 1 + S 2 * C 2 + S 3 * C 3 + S 4 * C 4 + (iblk m c 6 t : Vec Ideal S1x2048 .f32) (ix2 0 w))
      = convAt (aX m c) (aM m c) (aW m c) (m ((c : Thread nD τ).loc main_arg3)) (m ((c : Thread nD τ).loc main_arg4)) b s w' := by
  obtain rfl := Fin.ext hw
  refine congrArg₂ (· + ·) (congrArg₂ (· + ·) (congrArg₂ (· + ·) (congrArg₂ (· + ·) (congrArg₂ (· + ·) ?_ ?_) ?_) ?_) ?_) (w6 m c t w)
  all_goals exact congrArg₂ (· * ·) (scr_block m c t hb (by simp; omega)) (w5 m c t _ _)

theorem final8 : (dats m 0 c).arrAt 8 cfg0.N = conv (aX m c) (aM m c) (aW m c) (m ((c : Thread nD τ).loc main_arg3))
    (m ((c : Thread nD τ).loc main_arg4)) := by
  refine (dats m 0 c).arrAt_eq_of_covers 8 _ (by decide +kernel) fun t hf y => ?_
  blk_simp
  rw [after0_8]
  idx_bounds y
  refine (out8_at m c t y).trans ?_
  exact congrArg (fun u => u * Ideal.logistic u) (conv_block m c t (y 1) (by blk_simp [idx t]) (by blk_simp [idx t]) (by blk_simp [idx t]) _)

end Cert.Kernel4Ideal.Val

end
-- ==== Proof.EvenRef.lean ====
/- The reference's projections and convolution read at an index, and their equality with what the call leaves. -/
module

public import proofs.«01_k».proof.Defs
public import proofs.«01_k».proof.Proof.Even
public import proofs.«01_k».proof.Proof.Gen.Reference4Ideal.Read
public import proofs.«01_k».proof.Proof.Gen.Reference4Ideal.Run
public import Idealize.ShloMosaic.Lib.KernelVsHost
public import Idealize.ShloMosaic.Lib.Quiescent

@[expose] public section

set_option maxRecDepth 16384

noncomputable section

namespace Cert.Reference4Ideal.Read

open Cert.Reference4Ideal Cert.Reference4Ideal.Gen Idealize.ShloMosaic Idealize.ShloMosaic.TcCoe Idealize.SL.Sem
open Cert.Layer
open Cert.Kernel4Ideal.Val (rowAt colAt wide narrow padAt convAt conv)

variable (X : S8x4096x1024.Idx → EReal) (M : S8x1x3072.Idx → EReal) (W : S1x1024x5152.Idx → EReal) (C : S1x5x2048.Idx → EReal)
  (B : S1x2048.Idx → EReal)

theorem v12_at (b : Fin 8) (t : Fin 4096) (w : Fin 1024) :
    val_main_v12 (F := Ideal) X (ix3 b t w) = normRow (fun e => X (ix3 b t e)) w := by
  rw [val_main_v12_apply, val_main_v11_apply, val_main_v10_apply, val_main_v9_apply, val_main_v7_apply, val_main_v5_apply,
    val_main_v4_apply, val_main_v6_apply, val_main_v8_apply]
  unfold normRow
  refine congrArg₂ (· * ·) rfl (congrArg Ideal.rsqrt (congrArg₂ (· + ·) (congrArg₂ Ideal.div ?_ rfl) rfl))
  refine (congrArg₂ (· + ·) Ideal.ofBits_zero_f32 (Finset.sum_congr rfl fun k _ => ?_)).trans (zero_add _)
  rw [val_main_v3_apply]
  have e : X (idx_main_v4 (idx_main_v5 (idx_main_v11 (ix3 b t w))) k) = X (ix3 b t k) :=
    congrArg X (funext fun a => by fin_cases a <;> rfl)
  exact congrArg₂ (· * ·) e e

theorem v18_at (b : Fin 8) (t : Fin 4096) (w : Fin 1024) : val_main_v18 (F := Ideal) X M (ix3 b t w) = rowAt X M b t w := by
  rw [val_main_v18_apply, val_main_v16_apply, v12_at, val_main_v15_apply, val_main_v14_apply, val_main_v13_apply, val_main_v1_apply,
    val_main_v17_apply, val_main_v0_apply]
  refine congrArg₂ (· + ·) (congrArg₂ (· * ·) rfl (congrArg₂ (· + ·) rfl (congrArg M (funext fun a => Fin.ext ?_))))
    (congrArg M (funext fun a => Fin.ext ?_))
  · fin_cases a <;> simp
  · fin_cases a <;> simp

theorem v20_at (b : Fin 8) (t : Fin 4096) (j : Fin 5152) : val_main_v20 (F := Ideal) X M W (ix3 b t j) = colAt X M W b t j := by
  rw [val_main_v20_apply]
  refine Finset.sum_congr rfl fun k _ => congrArg₂ (· * ·) ?_ ?_
  · exact (congrArg (val_main_v18 (F := Ideal) X M) (show lidx_main_v20 (ix3 b t j) k = ix3 b t k from funext fun a => by fin_cases a <;> rfl)).trans
      (v18_at X M b t k)
  · rw [val_main_v19_apply]
    refine congrArg W (funext fun a => Fin.ext ?_)
    fin_cases a <;> simp <;> omega

/-- A column of the product at an index spelt another way. -/
theorem col_of (i : S8x4096x5152.Idx) (b : Fin 8) (t : Fin 4096) (j : Fin 5152) (h0 : (i 0).val = b.val) (h1 : (i 1).val = t.val)
    (h2 : (i 2).val = j.val) : val_main_v20 (F := Ideal) X M W i = colAt X M W b t j :=
  (congrArg (val_main_v20 (F := Ideal) X M W) (show i = ix3 b t j from
    funext fun a => Fin.ext (by fin_cases a <;> assumption))).trans (v20_at X M W b t j)

theorem v21_at : val_main_v21 (F := Ideal) X M W = wide 0 (by omega) X M W := by
  funext j
  rw [val_main_v21_apply]
  exact col_of X M W _ _ _ _ (by simp) (by simp) (by simp)

theorem v24_at : val_main_v24 (F := Ideal) X M W = wide 3104 (by omega) X M W := by
  funext j
  rw [val_main_v24_apply]
  exact col_of X M W _ _ _ _ (by simp) (by simp) (by simp)

theorem v25_at : val_main_v25 (F := Ideal) X M W = wide 4128 (by omega) X M W := by
  funext j
  rw [val_main_v25_apply]
  exact col_of X M W _ _ _ _ (by simp) (by simp) (by simp)

/-- The padding's value. -/
theorem zero_at (i : S_.Idx) : sitofp (F := Ideal) .f32 (constantI S_ 32 0#32) i = 0 := sitofp_zero

/-- The padded product at an index spelt another way. -/
theorem v26_of (i : S8x4100x2048.Idx) (b : Fin 8) (s : ℕ) (w : Fin 2048) (h0 : (i 0).val = b.val) (h1 : (i 1).val = s)
    (h2 : (i 2).val = w.val) : val_main_v26 (F := Ideal) X M W i = padAt X M W b s w := by
  unfold padAt val_main_v26
  by_cases h : 2 ≤ s ∧ s - 2 < 4096
  · rw [dif_pos h]
    refine (pad_apply_of_inside _ _ _ _ _ _ _ _ (ix3 b ⟨s - 2, h.2⟩ w) fun a => ?_).trans ?_
    · fin_cases a <;> simp <;> omega
    · rw [val_main_v22_apply]
      exact col_of X M W _ _ _ _ (by simp) (by simp) (by simp)
  · rw [dif_neg h]
    refine (pad_apply_of_not_inside _ _ _ _ _ _ _ _ 1 fun k => ?_).trans (zero_at _)
    simp at k
    omega

/-- A column of the third slice. -/
theorem v23_at (b : Fin 8) (t : Fin 4096) (w : Fin 32) :
    val_main_v23 (F := Ideal) X M W (ix3 b t w) = colAt X M W b t ⟨3072 + w.val, by omega⟩ := by
  rw [val_main_v23_apply]
  exact col_of X M W _ _ _ _ (by simp) (by simp) (by simp)

theorem v69_at : val_main_v69 (F := Ideal) X M W = narrow X M W := by
  funext i
  unfold narrow val_main_v69
  by_cases h : (i 2).val < 32
  · rw [dif_pos h]
    refine (pad_apply_of_inside _ _ _ _ _ _ _ _ (ix3 (i 0) (i 1) ⟨(i 2).val, h⟩) fun a => ?_).trans (v23_at X M W (i 0) (i 1) ⟨(i 2).val, h⟩)
    fin_cases a <;> simp
  · rw [dif_neg h]
    refine (pad_apply_of_not_inside _ _ _ _ _ _ _ _ 2 fun k => ?_).trans (zero_at _)
    simp at k
    omega

theorem v67_at (b : Fin 8) (t : Fin 4096) (w : Fin 2048) : val_main_v67 (F := Ideal) X M W C B (ix3 b t w) = convAt X M W C B b t w := by
  rw [val_main_v67_apply, val_main_v63_apply, val_main_v56_apply, val_main_v49_apply, val_main_v42_apply, val_main_v35_apply,
    val_main_v34_apply, val_main_v33_apply, val_main_v41_apply, val_main_v48_apply, val_main_v55_apply, val_main_v62_apply,
    val_main_v28_apply, val_main_v36_apply, val_main_v43_apply, val_main_v50_apply, val_main_v57_apply,
    val_main_v32_apply, val_main_v31_apply, val_main_v30_apply, val_main_v29_apply, val_main_v27_apply,
    val_main_v40_apply, val_main_v39_apply, val_main_v38_apply, val_main_v37_apply, val_main_v27_apply,
    val_main_v47_apply, val_main_v46_apply, val_main_v45_apply, val_main_v44_apply, val_main_v27_apply,
    val_main_v54_apply, val_main_v53_apply, val_main_v52_apply, val_main_v51_apply, val_main_v27_apply,
    val_main_v61_apply, val_main_v60_apply, val_main_v59_apply, val_main_v58_apply, val_main_v27_apply,
    val_main_v66_apply, val_main_v65_apply, val_main_v64_apply,
    v26_of X M W _ b t.val w (by simp) (by simp) (by simp), v26_of X M W _ b (1 + t.val) w (by simp) (by simp) (by simp),
    v26_of X M W _ b (2 + t.val) w (by simp) (by simp) (by simp), v26_of X M W _ b (3 + t.val) w (by simp) (by simp) (by simp),
    v26_of X M W _ b (4 + t.val) w (by simp) (by simp) (by simp)]
  unfold convAt
  refine congrArg₂ (· + ·) (congrArg₂ (· + ·) (congrArg₂ (· + ·) (congrArg₂ (· + ·) (congrArg₂ (· + ·) ?_ ?_) ?_) ?_) ?_) ?_
  · refine (congrArg₂ (· + ·) Ideal.ofBits_zero_f32 (congrArg₂ (· * ·) rfl (congrArg C (funext fun a => Fin.ext ?_)))).trans (zero_add _)
    fin_cases a <;> simp <;> omega
  · refine congrArg₂ (· * ·) rfl (congrArg C (funext fun a => Fin.ext ?_))
    fin_cases a <;> simp <;> omega
  · refine congrArg₂ (· * ·) rfl (congrArg C (funext fun a => Fin.ext ?_))
    fin_cases a <;> simp <;> omega
  · refine congrArg₂ (· * ·) rfl (congrArg C (funext fun a => Fin.ext ?_))
    fin_cases a <;> simp <;> omega
  · refine congrArg₂ (· * ·) rfl (congrArg C (funext fun a => Fin.ext ?_))
    fin_cases a <;> simp <;> omega
  · refine congrArg B (funext fun a => Fin.ext ?_)
    fin_cases a <;> simp <;> omega

theorem v68_at : val_main_v68 (F := Ideal) X M W C B = conv X M W C B := by
  funext j
  have e : j = ix3 (j 0) (j 1) (j 2) := funext fun a => by fin_cases a <;> rfl
  have h : val_main_v67 (F := Ideal) X M W C B j = convAt X M W C B (j 0) (j 1) (j 2) :=
    (congrArg (val_main_v67 (F := Ideal) X M W C B) e).trans (v67_at X M W C B (j 0) (j 1) (j 2))
  rw [val_main_v68_apply, val_main_call1_v5_apply, val_main_call1_v4_apply, val_main_call1_v3_apply, val_main_call1_v2_apply,
    val_main_call1_v1_apply, val_main_call1_v0_apply, h]
  show convAt X M W C B (j 0) (j 1) (j 2) * Ideal.div (Ideal.ofBits .f32 0x3F800000#32)
    (Ideal.ofBits .f32 0x3F800000#32 + Ideal.exp (-convAt X M W C B (j 0) (j 1) (j 2))) = _
  rw [Ideal.ofBits_one_f32]
  rfl

end Cert.Reference4Ideal.Read

namespace Cert.EvenStep

open Idealize.ShloMosaic Idealize.ShloMosaic.TcCoe Idealize.SL.Sem

theorem frame_reference : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

open Cert.Reference4Ideal.Read Cert.Kernel4Ideal.Val in
theorem algebraic : Cert.algebraic_Kernel4Ideal_Reference4Ideal := by
  intro m ρ m' ρ' _ hagree
  refine ⟨_, _, _, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨a0, a1, a2, a3, a4⟩ := hagree c
  obtain ⟨h0, h1, h2, h3, h4, ha⟩ := h c
  refine ⟨h0.trans ?_, h1.trans ?_, h2.trans ?_, h3.trans ?_, h4.trans ?_, ha⟩
  · rw [val_main_v21_eq, a0, a1, a2]; exact (v21_at _ _ _).trans (final7 m c).symm
  · rw [val_main_v68_eq, a0, a1, a2, a3, a4]; exact (v68_at _ _ _ _ _).trans (final8 m c).symm
  · rw [val_main_v24_eq, a0, a1, a2]; exact (v24_at _ _ _).trans (final9 m c).symm
  · rw [val_main_v25_eq, a0, a1, a2]; exact (v25_at _ _ _).trans (final10 m c).symm
  · rw [val_main_v69_eq, a0, a1, a2]; exact (v69_at _ _ _).trans (final11 m c).symm

end Cert.EvenStep

end
-- ==== Proof.Last.lean ====
/- The last call of the layer: the product of the two attention branches with the output weights, the gated residual and
   the final norm, one row at a time. -/
module

public import proofs.«01_k».proof.Proof.Gen.Kernel3Ideal.Value
public import proofs.«01_k».proof.Proof.Rows
public import Idealize.ShloMosaic.Lib.Pointwise
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody
public import Idealize.ShloMosaic.Lib.Claim

@[expose] public section

set_option maxRecDepth 16384

noncomputable section

namespace Cert.Kernel3Ideal.Val

open Cert.Kernel3Ideal Cert.Kernel3Ideal.Gen Cert.Kernel3Ideal.Value Idealize.ShloMosaic Idealize.ShloMosaic.TcCoe Idealize.SL.Sem
open Cert.Layer (normRow)

/-- A row of the residual stream plus the gated product of the two branches' rows with the two halves of the weights. -/
def stepRow (oc od x g : Fin 1024 → EReal) (A B : Fin 1024 → Fin 1024 → EReal) (w : Fin 1024) : EReal :=
  x w + g w * ((∑ k, oc k * A k w) + ∑ k, od k * B k w)

theorem pay_at (v0 : Vec Ideal S1x512x1024 .bf16) (v2 : Vec Ideal S1024x1024 .bf16) (v5 : Vec Ideal S1x512x1024 .bf16)
    (v7 : Vec Ideal S1024x1024 .bf16) (v11 : Vec Ideal S1x512x1024 .f32) (v13 : Vec Ideal S1x1x3072 .f32) (v29 : Vec Ideal S1x1024 .f32)
    (r : Fin 512) (w : Fin 1024) :
    k0_pay2 v0 v2 v5 v7 v11 v13 v29 (ix2 r w)
      = normRow (stepRow (fun k => v0 (ix3 0 r k)) (fun k => v5 (ix3 0 r k)) (fun k => v11 (ix3 0 r k))
          (fun k => v13 (ix3 0 0 ⟨2048 + k.val, by omega⟩)) (fun k w => v2 (ix2 k w)) (fun k w => v7 (ix2 k w))) w * v29 (ix2 0 w) := by
  unfold normRow stepRow
  pointwise [k0_pay2]

/-- The block indices of the windows at point `t = b · 8 + i`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0]
    ∧ win0_4.index t = ![0, 0] ∧ win0_5.index t = ![0, 0] ∧ win0_6.index t = ![t.val / 8, t.val % 8, 0] :=
  (by decide +kernel : ∀ t : Fin grid0.N, _)

/-- What the call leaves in row `(b, t)` at lane `w`. -/
def resultAt (OC OD X : S8x4096x1024.Idx → EReal) (M : S8x1x3072.Idx → EReal) (W : S1x2048x1024.Idx → EReal) (G : S1024.Idx → EReal)
    (b : Fin 8) (t : Fin 4096) (w : Fin 1024) : EReal :=
  normRow (stepRow (fun k => OC (ix3 b t k)) (fun k => OD (ix3 b t k)) (fun k => X (ix3 b t k))
    (fun k => M (ix3 b 0 ⟨2048 + k.val, by omega⟩)) (fun k w => W (ix3 0 ⟨k.val, by omega⟩ w))
    (fun k w => W (ix3 0 ⟨1024 + k.val, by omega⟩ w))) w * G (ix1 w)

/-- The result array of the call. -/
def result (OC OD X : S8x4096x1024.Idx → EReal) (M : S8x1x3072.Idx → EReal) (W : S1x2048x1024.Idx → EReal) (G : S1024.Idx → EReal) :
    S8x4096x1024.Idx → EReal := fun j => resultAt OC OD X M W G (j 0) (j 1) (j 2)

theorem row_congr {a a' b b' x x' g g' : Fin 1024 → EReal} {A A' B B' : Fin 1024 → Fin 1024 → EReal} {w w' : Fin 1024} {s s' : EReal}
    (ha : ∀ k, a k = a' k) (hb : ∀ k, b k = b' k) (hx : ∀ k, x k = x' k) (hg : ∀ k, g k = g' k) (hA : ∀ k e, A k e = A' k e)
    (hB : ∀ k e, B k e = B' k e) (hw : w = w') (hs : s = s') :
    normRow (stepRow a b x g A B) w * s = normRow (stepRow a' b' x' g' A' B') w' * s' := by
  obtain rfl := funext ha; obtain rfl := funext hb; obtain rfl := funext hx; obtain rfl := funext hg
  obtain rfl := funext fun k => funext (hA k); obtain rfl := funext fun k => funext (hB k); obtain rfl := hw; obtain rfl := hs
  rfl

/-- What a grid point leaves in its block of rows, of the blocks it reads. -/
theorem out_at (x0 x1 : Vec Ideal S1x512x1024 .bf16) (x2 : Vec Ideal S1x512x1024 .f32) (x3 : Vec Ideal S1x1x3072 .f32)
    (x4 : Vec Ideal S2048x1024 .bf16) (x5 : Vec Ideal S1x1024 .f32) (y : S1x512x1024.Idx) :
    out0_6 x0 x1 x2 x3 x4 x5 y
      = normRow (stepRow (fun k => x0 (ix3 0 (y 1) k)) (fun k => x1 (ix3 0 (y 1) k)) (fun k => x2 (ix3 0 (y 1) k))
          (fun k => x3 (ix3 0 0 ⟨2048 + k.val, by omega⟩)) (fun k w => x4 (ix2 ⟨k.val, by omega⟩ w))
          (fun k w => x4 (ix2 ⟨1024 + k.val, by omega⟩ w))) (y 2) * x5 (ix2 0 (y 2)) := by
  unfold out0_6
  rw [canon6_eq]
  unfold E6 r0_0 r0_1 r0_2 r0_3 r0_4
  refine (congrArg (k0_pay2 _ _ _ _ _ _ _) (show ix6_0 y = ix2 (y 1) (y 2) from funext fun a => by fin_cases a <;> rfl)).trans
    ((pay_at _ _ _ _ _ _ _ (y 1) (y 2)).trans ?_)
  refine row_congr (fun k => ?_) (fun k => ?_) (fun k => ?_) (fun k => ?_) (fun k e => ?_) (fun k e => ?_) rfl ?_
  · exact congrArg x0 (funext fun a => Fin.ext (by fin_cases a <;> first | exact (Nat.zero_add _).trans (Nat.one_mul _) | exact congrArg (_ + ·) (Nat.one_mul _)))
  · exact congrArg x1 (funext fun a => Fin.ext (by fin_cases a <;> first | exact (Nat.zero_add _).trans (Nat.one_mul _) | exact congrArg (_ + ·) (Nat.one_mul _)))
  · exact congrArg x2 (funext fun a => Fin.ext (by fin_cases a <;> first | exact (Nat.zero_add _).trans (Nat.one_mul _) | exact congrArg (_ + ·) (Nat.one_mul _)))
  · exact congrArg x3 (funext fun a => Fin.ext (by fin_cases a <;> first | exact (Nat.zero_add _).trans (Nat.one_mul _) | exact congrArg (_ + ·) (Nat.one_mul _)))
  · exact congrArg x4 (funext fun a => Fin.ext (by fin_cases a <;> first | exact (Nat.zero_add _).trans (Nat.one_mul _) | exact congrArg (_ + ·) (Nat.one_mul _)))
  · exact congrArg x4 (funext fun a => Fin.ext (by fin_cases a <;> first | exact (Nat.zero_add _).trans (Nat.one_mul _) | exact congrArg (_ + ·) (Nat.one_mul _)))
  · exact congrArg x5 (funext fun a => Fin.ext (by fin_cases a <;> first | exact (Nat.zero_add _).trans (Nat.one_mul _) | exact congrArg (_ + ·) (Nat.one_mul _)))

variable (m : (ℓ : Loc nD τ sig) → Buf (Elt Ideal) ℓ)

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN : t.val < 64 := lt_of_lt_of_eq t.isLt N_0
  refine (out_at _ _ _ _ _ _ y).trans ?_
  unfold result resultAt
  refine row_congr (fun k => ?_) (fun k => ?_) (fun k => ?_) (fun k => ?_) (fun k e => ?_) (fun k e => ?_) ?_ ?_
  · blk_ext! [iblk, V, idx t]
  · blk_ext! [iblk, V, idx t]
  · blk_ext! [iblk, V, idx t]
  · blk_ext! [iblk, V, idx t]
  · blk_ext! [iblk, V, idx t]
  · blk_ext! [iblk, V, idx t]
  · exact Fin.ext (by blk_simp [idx t])
  · blk_ext! [iblk, V, idx t]

end Cert.Kernel3Ideal.Val

end
-- ==== Proof.LastPrompt.lean ====
/- The same last step for the context tokens: 16 batches of one block of 256 rows, and one modulation vector for all. -/
module

public import proofs.«01_k».proof.Proof.Gen.Kernel5Ideal.Value
public import proofs.«01_k».proof.Defs
public import proofs.«01_k».proof.Proof.Last
public import proofs.«01_k».proof.Proof.Gen.Reference5Ideal.Read
public import proofs.«01_k».proof.Proof.Gen.Reference5Ideal.Run
public import Idealize.ShloMosaic.Lib.Quiescent
public import Idealize.ShloMosaic.Lib.Pointwise
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody
public import Idealize.ShloMosaic.Lib.Claim

@[expose] public section

set_option maxRecDepth 16384

noncomputable section

namespace Cert.Kernel5Ideal.Val

open Cert.Kernel5Ideal Cert.Kernel5Ideal.Gen Cert.Kernel5Ideal.Value Idealize.ShloMosaic Idealize.ShloMosaic.TcCoe Idealize.SL.Sem
open Cert.Layer (normRow)
open Cert.Kernel3Ideal.Val (stepRow row_congr)

theorem pay_at (v0 : Vec Ideal S1x256x1024 .bf16) (v2 : Vec Ideal S1024x1024 .bf16) (v5 : Vec Ideal S1x256x1024 .bf16)
    (v7 : Vec Ideal S1024x1024 .bf16) (v11 : Vec Ideal S1x256x1024 .f32) (v13 : Vec Ideal S1x1x3072 .f32) (v29 : Vec Ideal S1x1024 .f32)
    (r : Fin 256) (w : Fin 1024) :
    k0_pay2 v0 v2 v5 v7 v11 v13 v29 (ix2 r w)
      = normRow (stepRow (fun k => v0 (ix3 0 r k)) (fun k => v5 (ix3 0 r k)) (fun k => v11 (ix3 0 r k))
          (fun k => v13 (ix3 0 0 ⟨2048 + k.val, by omega⟩)) (fun k w => v2 (ix2 k w)) (fun k w => v7 (ix2 k w))) w * v29 (ix2 0 w) := by
  unfold normRow stepRow
  pointwise [k0_pay2]

/-- The block indices of the windows at point `t`, the batch. -/
theorem idx : ∀ t : Fin cfg0.N, win0_0.index t = ![t.val, 0, 0] ∧ win0_1.index t = ![t.val, 0, 0]
    ∧ win0_2.index t = ![t.val, 0, 0] ∧ win0_3.index t = ![0, 0, 0]
    ∧ win0_4.index t = ![0, 0] ∧ win0_5.index t = ![0, 0] ∧ win0_6.index t = ![t.val, 0, 0] :=
  (by decide +kernel : ∀ t : Fin grid0.N, _)

/-- What the call leaves in row `(b, t)` at lane `w`. -/
def resultAt (OC OD X : S16x256x1024.Idx → EReal) (M : S1x1x3072.Idx → EReal) (W : S1x2048x1024.Idx → EReal) (G : S1024.Idx → EReal)
    (b : Fin 16) (t : Fin 256) (w : Fin 1024) : EReal :=
  normRow (stepRow (fun k => OC (ix3 b t k)) (fun k => OD (ix3 b t k)) (fun k => X (ix3 b t k))
    (fun k => M (ix3 0 0 ⟨2048 + k.val, by omega⟩)) (fun k w => W (ix3 0 ⟨k.val, by omega⟩ w))
    (fun k w => W (ix3 0 ⟨1024 + k.val, by omega⟩ w))) w * G (ix1 w)

/-- The result array of the call. -/
def result (OC OD X : S16x256x1024.Idx → EReal) (M : S1x1x3072.Idx → EReal) (W : S1x2048x1024.Idx → EReal) (G : S1024.Idx → EReal) :
    S16x256x1024.Idx → EReal := fun j => resultAt OC OD X M W G (j 0) (j 1) (j 2)

/-- What a grid point leaves in its block of rows, of the blocks it reads. -/
theorem out_at (x0 x1 : Vec Ideal S1x256x1024 .bf16) (x2 : Vec Ideal S1x256x1024 .f32) (x3 : Vec Ideal S1x1x3072 .f32)
    (x4 : Vec Ideal S2048x1024 .bf16) (x5 : Vec Ideal S1x1024 .f32) (y : S1x256x1024.Idx) :
    out0_6 x0 x1 x2 x3 x4 x5 y
      = normRow (stepRow (fun k => x0 (ix3 0 (y 1) k)) (fun k => x1 (ix3 0 (y 1) k)) (fun k => x2 (ix3 0 (y 1) k))
          (fun k => x3 (ix3 0 0 ⟨2048 + k.val, by omega⟩)) (fun k w => x4 (ix2 ⟨k.val, by omega⟩ w))
          (fun k w => x4 (ix2 ⟨1024 + k.val, by omega⟩ w))) (y 2) * x5 (ix2 0 (y 2)) := by
  unfold out0_6
  rw [canon6_eq]
  unfold E6 r0_0 r0_1 r0_2 r0_3 r0_4
  refine (congrArg (k0_pay2 _ _ _ _ _ _ _) (show ix6_0 y = ix2 (y 1) (y 2) from funext fun a => by fin_cases a <;> rfl)).trans
    ((pay_at _ _ _ _ _ _ _ (y 1) (y 2)).trans ?_)
  refine row_congr (fun k => ?_) (fun k => ?_) (fun k => ?_) (fun k => ?_) (fun k e => ?_) (fun k e => ?_) rfl ?_
  · exact congrArg x0 (funext fun a => Fin.ext (by fin_cases a <;> first | exact (Nat.zero_add _).trans (Nat.one_mul _) | exact congrArg (_ + ·) (Nat.one_mul _)))
  · exact congrArg x1 (funext fun a => Fin.ext (by fin_cases a <;> first | exact (Nat.zero_add _).trans (Nat.one_mul _) | exact congrArg (_ + ·) (Nat.one_mul _)))
  · exact congrArg x2 (funext fun a => Fin.ext (by fin_cases a <;> first | exact (Nat.zero_add _).trans (Nat.one_mul _) | exact congrArg (_ + ·) (Nat.one_mul _)))
  · exact congrArg x3 (funext fun a => Fin.ext (by fin_cases a <;> first | exact (Nat.zero_add _).trans (Nat.one_mul _) | exact congrArg (_ + ·) (Nat.one_mul _)))
  · exact congrArg x4 (funext fun a => Fin.ext (by fin_cases a <;> first | exact (Nat.zero_add _).trans (Nat.one_mul _) | exact congrArg (_ + ·) (Nat.one_mul _)))
  · exact congrArg x4 (funext fun a => Fin.ext (by fin_cases a <;> first | exact (Nat.zero_add _).trans (Nat.one_mul _) | exact congrArg (_ + ·) (Nat.one_mul _)))
  · exact congrArg x5 (funext fun a => Fin.ext (by fin_cases a <;> first | exact (Nat.zero_add _).trans (Nat.one_mul _) | exact congrArg (_ + ·) (Nat.one_mul _)))

variable (m : (ℓ : Loc nD τ sig) → Buf (Elt Ideal) ℓ)

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN : t.val < 16 := lt_of_lt_of_eq t.isLt N_0
  refine (out_at _ _ _ _ _ _ y).trans ?_
  unfold result resultAt
  refine row_congr (fun k => ?_) (fun k => ?_) (fun k => ?_) (fun k => ?_) (fun k e => ?_) (fun k e => ?_) ?_ ?_
  · blk_ext! [iblk, V, idx t]
  · blk_ext! [iblk, V, idx t]
  · blk_ext! [iblk, V, idx t]
  · blk_ext! [iblk, V, idx t]
  · blk_ext! [iblk, V, idx t]
  · blk_ext! [iblk, V, idx t]
  · exact Fin.ext (by blk_simp [idx t])
  · blk_ext! [iblk, V, idx t]

end Cert.Kernel5Ideal.Val

namespace Cert.Reference5Ideal.Read

open Cert.Reference5Ideal Cert.Reference5Ideal.Gen Idealize.ShloMosaic Idealize.ShloMosaic.TcCoe Idealize.SL.Sem
open Cert.Layer (normRow)
open Cert.Kernel5Ideal.Val (resultAt result)
open Cert.Kernel3Ideal.Val (stepRow)

variable (OC OD X : S16x256x1024.Idx → EReal) (M : S1x1x3072.Idx → EReal) (W : S1x2048x1024.Idx → EReal) (G : S1024.Idx → EReal)

theorem v5_lo (b : Fin 16) (t : Fin 256) (k : Fin 1024) :
    val_main_v5 (F := Ideal) OC OD (ix3 b t ⟨k.val, by omega⟩) = OC (ix3 b t k) := by
  unfold val_main_v5
  pointwise []
  rfl

theorem v5_hi (b : Fin 16) (t : Fin 256) (k : Fin 1024) :
    val_main_v5 (F := Ideal) OC OD (ix3 b t ⟨1024 + k.val, by omega⟩) = OD (ix3 b t k) := by
  unfold val_main_v5
  pointwise []
  rfl

theorem v6_at (k : Fin 2048) (w : Fin 1024) : val_main_v6 (F := Ideal) W (ix2 k w) = W (ix3 0 k w) := by
  rw [val_main_v6_apply]
  refine congrArg W (funext fun a => Fin.ext ?_)
  fin_cases a <;> simp <;> omega

/-- The product over the two branches' 2048 columns is the sum of the products over each one's 1024. -/
theorem v7_at (b : Fin 16) (t : Fin 256) (w : Fin 1024) : val_main_v7 (F := Ideal) OC OD W (ix3 b t w)
    = (∑ k : Fin 1024, OC (ix3 b t k) * W (ix3 0 ⟨k.val, by omega⟩ w)) + ∑ k : Fin 1024, OD (ix3 b t k) * W (ix3 0 ⟨1024 + k.val, by omega⟩ w) := by
  rw [val_main_v7_apply, show (∑ k : Fin 2048, _) = _ from Fin.sum_univ_add (a := 1024) (b := 1024) _]
  refine congrArg₂ (· + ·) (Finset.sum_congr rfl fun k _ => congrArg₂ (· * ·) ?_ ?_) (Finset.sum_congr rfl fun k _ => congrArg₂ (· * ·) ?_ ?_)
  · exact (congrArg (val_main_v5 (F := Ideal) OC OD) (show lidx_main_v7 (ix3 b t w) _ = ix3 b t _ from funext fun a => by fin_cases a <;> rfl)).trans (v5_lo OC OD b t k)
  · exact (congrArg (val_main_v6 (F := Ideal) W) (show ridx_main_v7 (ix3 b t w) _ = ix2 _ w from funext fun a => by fin_cases a <;> rfl)).trans (v6_at W _ w)
  · exact (congrArg (val_main_v5 (F := Ideal) OC OD) (show lidx_main_v7 (ix3 b t w) _ = ix3 b t _ from funext fun a => by fin_cases a <;> rfl)).trans (v5_hi OC OD b t k)
  · exact (congrArg (val_main_v6 (F := Ideal) W) (show ridx_main_v7 (ix3 b t w) _ = ix2 _ w from funext fun a => by fin_cases a <;> rfl)).trans (v6_at W _ w)

/-- The residual row before the norm. -/
def stepAt (b : Fin 16) (t : Fin 256) : Fin 1024 → EReal :=
  stepRow (fun k => OC (ix3 b t k)) (fun k => OD (ix3 b t k)) (fun k => X (ix3 b t k))
    (fun k => M (ix3 0 0 ⟨2048 + k.val, by omega⟩)) (fun k w => W (ix3 0 ⟨k.val, by omega⟩ w))
    (fun k w => W (ix3 0 ⟨1024 + k.val, by omega⟩ w))

theorem v10_at (b : Fin 16) (t : Fin 256) (w : Fin 1024) :
    val_main_v10 (F := Ideal) OC OD X M W (ix3 b t w) = stepAt OC OD X M W b t w := by
  rw [val_main_v10_apply, val_main_v9_apply, v7_at, val_main_v8_apply, val_main_v2_apply]
  refine congrArg₂ (· + ·) rfl (congrArg₂ (· * ·) (congrArg M (funext fun a => Fin.ext ?_)) rfl)
  fin_cases a <;> simp <;> omega

theorem v20_at (b : Fin 16) (t : Fin 256) (w : Fin 1024) :
    val_main_v20 (F := Ideal) OC OD X M W (ix3 b t w) = normRow (stepAt OC OD X M W b t) w := by
  rw [val_main_v20_apply, v10_at, val_main_v19_apply, val_main_v18_apply, val_main_v17_apply, val_main_v15_apply, val_main_v13_apply,
    val_main_v12_apply, val_main_v14_apply, val_main_v16_apply]
  unfold normRow
  refine congrArg₂ (· * ·) rfl (congrArg Ideal.rsqrt (congrArg₂ (· + ·) (congrArg₂ Ideal.div ?_ rfl) rfl))
  refine (congrArg₂ (· + ·) Ideal.ofBits_zero_f32 (Finset.sum_congr rfl fun k _ => ?_)).trans (zero_add _)
  rw [val_main_v11_apply]
  have e := (congrArg (val_main_v10 (F := Ideal) OC OD X M W)
    (show idx_main_v12 (idx_main_v13 (idx_main_v19 (ix3 b t w))) k = ix3 b t k from funext fun a => by fin_cases a <;> rfl)).trans
    (v10_at OC OD X M W b t k)
  exact congrArg₂ (· * ·) e e

theorem v23_at : val_main_v23 (F := Ideal) OC OD X M W G = result OC OD X M W G := by
  funext j
  obtain ⟨b, t, w, rfl⟩ : ∃ b t w, j = ix3 b t w := ⟨j 0, j 1, j 2, funext fun a => by fin_cases a <;> rfl⟩
  rw [val_main_v23_apply, v20_at, val_main_v22_apply, val_main_v21_apply]
  refine congrArg₂ (· * ·) rfl (congrArg G (funext fun a => Fin.ext ?_))
  fin_cases a
  rfl

end Cert.Reference5Ideal.Read

namespace Cert.LastStepPrompt

open Idealize.ShloMosaic Idealize.ShloMosaic.TcCoe Idealize.SL.Sem

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨a0, a1, a2, a3, a4, a5⟩ := hagree c
  rw [Cert.Reference5Ideal.Read.val_main_v23_eq, a0, a1, a2, a3, a4, a5]
  exact (Cert.Reference5Ideal.Read.v23_at _ _ _ _ _ _).trans (Cert.Kernel5Ideal.Val.final m c).symm

end Cert.LastStepPrompt

end
-- ==== Proof.LastRef.lean ====
/- The reference's last step read at an index, and its equality with what the call leaves. -/
module

public import proofs.«01_k».proof.Defs
public import proofs.«01_k».proof.Proof.Last
public import proofs.«01_k».proof.Proof.Gen.Reference3Ideal.Read
public import proofs.«01_k».proof.Proof.Gen.Reference3Ideal.Run
public import Idealize.ShloMosaic.Lib.Quiescent

@[expose] public section

set_option maxRecDepth 16384

noncomputable section

namespace Cert.Reference3Ideal.Read

open Cert.Reference3Ideal Cert.Reference3Ideal.Gen Idealize.ShloMosaic Idealize.ShloMosaic.TcCoe Idealize.SL.Sem
open Cert.Layer (normRow)
open Cert.Kernel3Ideal.Val (stepRow resultAt result)

variable (OC OD X : S8x4096x1024.Idx → EReal) (M : S8x1x3072.Idx → EReal) (W : S1x2048x1024.Idx → EReal) (G : S1024.Idx → EReal)

theorem v5_lo (b : Fin 8) (t : Fin 4096) (k : Fin 1024) :
    val_main_v5 (F := Ideal) OC OD (ix3 b t ⟨k.val, by omega⟩) = OC (ix3 b t k) := by
  unfold val_main_v5
  pointwise []
  rfl

theorem v5_hi (b : Fin 8) (t : Fin 4096) (k : Fin 1024) :
    val_main_v5 (F := Ideal) OC OD (ix3 b t ⟨1024 + k.val, by omega⟩) = OD (ix3 b t k) := by
  unfold val_main_v5
  pointwise []
  rfl

theorem v6_at (k : Fin 2048) (w : Fin 1024) : val_main_v6 (F := Ideal) W (ix2 k w) = W (ix3 0 k w) := by
  rw [val_main_v6_apply]
  refine congrArg W (funext fun a => Fin.ext ?_)
  fin_cases a <;> simp <;> omega

/-- The product over the two branches' 2048 columns is the sum of the products over each one's 1024. -/
theorem v7_at (b : Fin 8) (t : Fin 4096) (w : Fin 1024) : val_main_v7 (F := Ideal) OC OD W (ix3 b t w)
    = (∑ k : Fin 1024, OC (ix3 b t k) * W (ix3 0 ⟨k.val, by omega⟩ w)) + ∑ k : Fin 1024, OD (ix3 b t k) * W (ix3 0 ⟨1024 + k.val, by omega⟩ w) := by
  rw [val_main_v7_apply, show (∑ k : Fin 2048, _) = _ from Fin.sum_univ_add (a := 1024) (b := 1024) _]
  refine congrArg₂ (· + ·) (Finset.sum_congr rfl fun k _ => congrArg₂ (· * ·) ?_ ?_) (Finset.sum_congr rfl fun k _ => congrArg₂ (· * ·) ?_ ?_)
  · exact (congrArg (val_main_v5 (F := Ideal) OC OD) (show lidx_main_v7 (ix3 b t w) _ = ix3 b t _ from funext fun a => by fin_cases a <;> rfl)).trans (v5_lo OC OD b t k)
  · exact (congrArg (val_main_v6 (F := Ideal) W) (show ridx_main_v7 (ix3 b t w) _ = ix2 _ w from funext fun a => by fin_cases a <;> rfl)).trans (v6_at W _ w)
  · exact (congrArg (val_main_v5 (F := Ideal) OC OD) (show lidx_main_v7 (ix3 b t w) _ = ix3 b t _ from funext fun a => by fin_cases a <;> rfl)).trans (v5_hi OC OD b t k)
  · exact (congrArg (val_main_v6 (F := Ideal) W) (show ridx_main_v7 (ix3 b t w) _ = ix2 _ w from funext fun a => by fin_cases a <;> rfl)).trans (v6_at W _ w)

/-- The residual row before the norm. -/
def stepAt (b : Fin 8) (t : Fin 4096) : Fin 1024 → EReal :=
  stepRow (fun k => OC (ix3 b t k)) (fun k => OD (ix3 b t k)) (fun k => X (ix3 b t k))
    (fun k => M (ix3 b 0 ⟨2048 + k.val, by omega⟩)) (fun k w => W (ix3 0 ⟨k.val, by omega⟩ w))
    (fun k w => W (ix3 0 ⟨1024 + k.val, by omega⟩ w))

theorem v10_at (b : Fin 8) (t : Fin 4096) (w : Fin 1024) :
    val_main_v10 (F := Ideal) OC OD X M W (ix3 b t w) = stepAt OC OD X M W b t w := by
  rw [val_main_v10_apply, val_main_v9_apply, v7_at, val_main_v8_apply, val_main_v2_apply]
  refine congrArg₂ (· + ·) rfl (congrArg₂ (· * ·) (congrArg M (funext fun a => Fin.ext ?_)) rfl)
  fin_cases a <;> simp <;> omega

theorem v20_at (b : Fin 8) (t : Fin 4096) (w : Fin 1024) :
    val_main_v20 (F := Ideal) OC OD X M W (ix3 b t w) = normRow (stepAt OC OD X M W b t) w := by
  rw [val_main_v20_apply, v10_at, val_main_v19_apply, val_main_v18_apply, val_main_v17_apply, val_main_v15_apply, val_main_v13_apply,
    val_main_v12_apply, val_main_v14_apply, val_main_v16_apply]
  unfold normRow
  refine congrArg₂ (· * ·) rfl (congrArg Ideal.rsqrt (congrArg₂ (· + ·) (congrArg₂ Ideal.div ?_ rfl) rfl))
  refine (congrArg₂ (· + ·) Ideal.ofBits_zero_f32 (Finset.sum_congr rfl fun k _ => ?_)).trans (zero_add _)
  rw [val_main_v11_apply]
  have e := (congrArg (val_main_v10 (F := Ideal) OC OD X M W)
    (show idx_main_v12 (idx_main_v13 (idx_main_v19 (ix3 b t w))) k = ix3 b t k from funext fun a => by fin_cases a <;> rfl)).trans
    (v10_at OC OD X M W b t k)
  exact congrArg₂ (· * ·) e e

theorem v23_at : val_main_v23 (F := Ideal) OC OD X M W G = result OC OD X M W G := by
  funext j
  obtain ⟨b, t, w, rfl⟩ : ∃ b t w, j = ix3 b t w := ⟨j 0, j 1, j 2, funext fun a => by fin_cases a <;> rfl⟩
  rw [val_main_v23_apply, v20_at, val_main_v22_apply, val_main_v21_apply]
  refine congrArg₂ (· * ·) rfl (congrArg G (funext fun a => Fin.ext ?_))
  fin_cases a
  rfl

end Cert.Reference3Ideal.Read

namespace Cert.LastStep

open Idealize.ShloMosaic Idealize.ShloMosaic.TcCoe Idealize.SL.Sem

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4, a5⟩ := hagree c
  rw [Cert.Reference3Ideal.Read.val_main_v23_eq, a0, a1, a2, a3, a4, a5]
  exact (Cert.Reference3Ideal.Read.v23_at _ _ _ _ _ _).trans (Cert.Kernel3Ideal.Val.final m c).symm

end Cert.LastStep

end
-- ==== Proof.Proj.lean ====
/- The context call of the odd layer's projections: every result column is a row of the modulated input times a column of
   the weights. -/
module

public import proofs.«01_k».proof.Proof.Gen.Kernel2Ideal.Value
public import proofs.«01_k».proof.Proof.Rows
public import Idealize.ShloMosaic.Lib.Pointwise
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody
public import Idealize.ShloMosaic.Lib.Claim

@[expose] public section

set_option maxRecDepth 16384

noncomputable section

namespace Cert.Kernel2Ideal.Val

open Cert.Kernel2Ideal Cert.Kernel2Ideal.Gen Cert.Kernel2Ideal.Value Idealize.ShloMosaic Idealize.ShloMosaic.TcCoe Idealize.SL.Sem
open Cert.Layer

/-! ## One block -/

/-- Row `r` of a block of the input, modulated. -/
def rowOf (x0 : Vec Ideal S1x256x1024 .f32) (x1 : Vec Ideal S1x1x3072 .f32) (r : Fin 256) : Fin 1024 → EReal :=
  modRow (fun e => x0 (ix3 0 r e)) (fun e => x1 (ix3 0 0 ⟨e.val, by omega⟩)) (fun e => x1 (ix3 0 0 ⟨1024 + e.val, by omega⟩))

/-- That row times column `j` of the weights. -/
def colOf (x0 : Vec Ideal S1x256x1024 .f32) (x1 : Vec Ideal S1x1x3072 .f32) (x2 : Vec Ideal S1024x6656 .bf16) (r : Fin 256) (j : Fin 6656) :
    EReal := ∑ k, rowOf x0 x1 r k * x2 (ix2 k j)

variable (x0 : Vec Ideal S1x256x1024 .f32) (x1 : Vec Ideal S1x1x3072 .f32) (x2 : Vec Ideal S1024x6656 .bf16)

theorem pay4_at (r : Fin 256) (k : Fin 1024) : k0_pay4 x0 x1 (ix2 r k) = rowOf x0 x1 r k := by
  unfold rowOf modRow normRow
  pointwise [k0_pay4]

theorem ld0 : View.ld x0 r0_0 = x0 := View.ld_unit_zero (S := S1x256x1024) (by decide) _ _
theorem ld1 : View.ld x1 r0_1 = x1 := View.ld_unit_zero (S := S1x1x3072) (by decide) _ _

/-- A block of 1024 columns of the weights from column `o` on. -/
theorem wide_ld (o : ℕ) (inb) (k w : Fin 1024) (h : o + w.val < 6656) :
    View.ld x2 (Rect.unit (s := S1024x6656) ![0, o] S1024x1024.size inb) (ix2 k w) = x2 (ix2 k ⟨o + w.val, h⟩) :=
  View.ld_unit_apply_of _ _ _ _ _ _ fun a => by fin_cases a <;> simp

/-- A block of 256 columns of the weights from column `o` on. -/
theorem narrow_ld (o : ℕ) (inb) (k : Fin 1024) (w : Fin 256) (h : o + w.val < 6656) :
    View.ld x2 (Rect.unit (s := S1024x6656) ![0, o] S1024x256.size inb) (ix2 k w) = x2 (ix2 k ⟨o + w.val, h⟩) :=
  View.ld_unit_apply_of _ _ _ _ _ _ fun a => by fin_cases a <;> simp

theorem pay6_at (v : Vec Ideal S1024x1024 .bf16) (r : Fin 256) (w : Fin 1024) :
    k0_pay6 x0 x1 v (ix2 r w) = ∑ k, rowOf x0 x1 r k * v (ix2 k w) := by
  simp only [← pay4_at]
  unfold k0_pay6
  generalize k0_pay4 x0 x1 = h
  pointwise []

theorem pay7_eq (v : Vec Ideal S1024x1024 .bf16) : k0_pay7 x0 x1 v = k0_pay6 x0 x1 v := rfl

theorem pay28_at (v : Vec Ideal S1024x256 .bf16) (r w : Fin 256) :
    k0_pay28 (k0_pay4 x0 x1) v (ix2 r w) = ∑ k, rowOf x0 x1 r k * v (ix2 k w) := by
  simp only [← pay4_at]
  generalize k0_pay4 x0 x1 = h
  pointwise [k0_pay28]

theorem pay30_eq (v : Vec Ideal S1024x256 .bf16) : k0_pay30 (k0_pay4 x0 x1) (k0_pay29 v) = k0_pay28 (k0_pay4 x0 x1) v := rfl

/-- A block of 1024 result columns as it is stored. -/
theorem pay5_at (v : Vec Ideal S1024x1024 .bf16) (y : S1x256x1024.Idx) :
    k0_pay5 x0 x1 v y = k0_pay6 x0 x1 v (ix2 (y 1) (y 2)) := by
  show shapeCast S1x256x1024 (k0_pay6 x0 x1 v) _ y = _
  generalize k0_pay6 x0 x1 v = h
  pointwise []

theorem pay26_eq (v : Vec Ideal S1024x1024 .bf16) : k0_pay26 (k0_pay4 x0 x1) v = k0_pay5 x0 x1 v := rfl
theorem pay27_eq (v : Vec Ideal S1024x1024 .bf16) : k0_pay27 (k0_pay4 x0 x1) v = k0_pay5 x0 x1 v := rfl
theorem pay3_eq (v : Vec Ideal S1024x1024 .bf16) : k0_pay3 (k0_pay4 x0 x1) v = k0_pay5 x0 x1 v := rfl

/-- A block whose one store is the product with the 1024 columns from column `o` on. -/
theorem wide_at (o : ℕ) (inb) (y : S1x256x1024.Idx) (h : o + (y 2).val < 6656) :
    (View.canon (Val := Elt Ideal) [⟨r0_0, k0_pay5 x0 x1 (View.ld x2 (Rect.unit (s := S1024x6656) ![0, o] S1024x1024.size inb))⟩] :
      Vec Ideal S1x256x1024 .f32) y = colOf x0 x1 x2 (y 1) ⟨o + (y 2).val, h⟩ := by
  idx_bounds y
  have e : (View.canon (Val := Elt Ideal) [⟨r0_0, k0_pay5 x0 x1 (View.ld x2 (Rect.unit (s := S1024x6656) ![0, o] S1024x1024.size inb))⟩] :
      Vec Ideal S1x256x1024 .f32) y = k0_pay5 x0 x1 (View.ld x2 (Rect.unit (s := S1024x6656) ![0, o] S1024x1024.size inb)) y :=
    congrFun (View.canon_unit_zero (S := S1x256x1024) (by decide) _ _) y
  rw [e, pay5_at]
  refine (pay6_at _ _ _ (y 1) (y 2)).trans (Finset.sum_congr rfl fun k _ => congrArg₂ (· * ·) rfl ?_)
  exact wide_ld x2 o inb k (y 2) _

theorem out3_at (y : S1x256x1024.Idx) (h) : out0_3 x0 x1 x2 y = colOf x0 x1 x2 (y 1) ⟨0 + (y 2).val, h⟩ := by
  unfold out0_3; rw [ld0, ld1]; exact wide_at x0 x1 x2 0 _ y h

theorem out6_at (y : S1x256x1024.Idx) (h) : out0_6 x0 x1 x2 y = colOf x0 x1 x2 (y 1) ⟨3072 + (y 2).val, h⟩ := by
  unfold out0_6 k0_pay38; rw [ld0, ld1, pay26_eq]; exact wide_at x0 x1 x2 3072 _ y h

theorem out7_at (y : S1x256x1024.Idx) (h) : out0_7 x0 x1 x2 y = colOf x0 x1 x2 (y 1) ⟨4096 + (y 2).val, h⟩ := by
  unfold out0_7 k0_pay38; rw [ld0, ld1, pay27_eq]; exact wide_at x0 x1 x2 4096 _ y h

theorem out10_at (y : S1x256x1024.Idx) (h) : out0_10 x0 x1 x2 y = colOf x0 x1 x2 (y 1) ⟨5632 + (y 2).val, h⟩ := by
  unfold out0_10 k0_pay38; rw [ld0, ld1, pay3_eq]; exact wide_at x0 x1 x2 5632 _ y h

theorem out4_at (y : S1x8x256x128.Idx) (h) : out0_4 x0 x1 x2 y = colOf x0 x1 x2 (y 2) ⟨1024 + ((y 1).val * 128 + (y 3).val), h⟩ := by
  unfold out0_4 k0_pay39
  rw [ld0, ld1, canon4_eq]
  have h1 : (y 1).val < 8 := (y 1).isLt
  have h3 : (y 3).val < 128 := (y 3).isLt
  refine (congrArg (k0_pay6 x0 x1 _) (show ix4_0 y = ix2 (y 2) ⟨(y 1).val * 128 + (y 3).val, by omega⟩ from
    funext fun a => by fin_cases a <;> rfl)).trans ((pay6_at x0 x1 _ (y 2) _).trans (Finset.sum_congr rfl fun k _ => congrArg₂ (· * ·) rfl ?_))
  exact wide_ld x2 1024 _ k _ _

theorem out5_at (y : S1x8x256x128.Idx) (h) : out0_5 x0 x1 x2 y = colOf x0 x1 x2 (y 2) ⟨2048 + ((y 1).val * 128 + (y 3).val), h⟩ := by
  unfold out0_5 k0_pay40
  rw [ld0, ld1, canon5_eq]
  have h1 : (y 1).val < 8 := (y 1).isLt
  have h3 : (y 3).val < 128 := (y 3).isLt
  refine (congrArg (k0_pay6 x0 x1 _) (show ix5_0 y = ix2 (y 2) ⟨(y 1).val * 128 + (y 3).val, by omega⟩ from
    funext fun a => by fin_cases a <;> rfl)).trans ((pay6_at x0 x1 _ (y 2) _).trans (Finset.sum_congr rfl fun k _ => congrArg₂ (· * ·) rfl ?_))
  exact wide_ld x2 2048 _ k _ _

theorem out8_at (y : S1x4x256x64.Idx) (h) : out0_8 x0 x1 x2 y = colOf x0 x1 x2 (y 2) ⟨5120 + ((y 1).val * 64 + (y 3).val), h⟩ := by
  unfold out0_8 k0_pay41 k0_pay38
  rw [ld0, ld1, canon8_eq]
  have h1 : (y 1).val < 4 := (y 1).isLt
  have h3 : (y 3).val < 64 := (y 3).isLt
  refine (congrArg (k0_pay28 (k0_pay4 x0 x1) _) (show ix8_0 y = ix2 (y 2) ⟨(y 1).val * 64 + (y 3).val, by omega⟩ from
    funext fun a => by fin_cases a <;> rfl)).trans ((pay28_at x0 x1 _ (y 2) _).trans (Finset.sum_congr rfl fun k _ => congrArg₂ (· * ·) rfl ?_))
  exact narrow_ld x2 5120 _ k _ _

theorem out9_at (y : S1x4x256x64.Idx) (h) : out0_9 x0 x1 x2 y = colOf x0 x1 x2 (y 2) ⟨5376 + ((y 1).val * 64 + (y 3).val), h⟩ := by
  unfold out0_9 k0_pay42 k0_pay38
  rw [ld0, ld1, canon9_eq]
  have h1 : (y 1).val < 4 := (y 1).isLt
  have h3 : (y 3).val < 64 := (y 3).isLt
  refine (congrArg (k0_pay28 (k0_pay4 x0 x1) _) (show ix9_0 y = ix2 (y 2) ⟨(y 1).val * 64 + (y 3).val, by omega⟩ from
    funext fun a => by fin_cases a <;> rfl)).trans ((pay28_at x0 x1 _ (y 2) _).trans (Finset.sum_congr rfl fun k _ => congrArg₂ (· * ·) rfl ?_))
  exact narrow_ld x2 5376 _ k _ _

/-! ## The arrays -/

/-- The block indices of the windows at point `t`. -/
theorem idx : ∀ t : Fin cfg0.N, win0_0.index t = ![t.val, 0, 0] ∧ win0_1.index t = ![0, 0, 0] ∧ win0_2.index t = ![0, 0]
    ∧ win0_3.index t = ![t.val, 0, 0] ∧ win0_4.index t = ![t.val, 0, 0, 0] ∧ win0_5.index t = ![t.val, 0, 0, 0]
    ∧ win0_6.index t = ![t.val, 0, 0] ∧ win0_7.index t = ![t.val, 0, 0] ∧ win0_8.index t = ![t.val, 0, 0, 0]
    ∧ win0_9.index t = ![t.val, 0, 0, 0] ∧ win0_10.index t = ![t.val, 0, 0] :=
  (by decide +kernel : ∀ t : Fin grid0.N, _)

/-- Row `(b, t)` of the input, modulated. -/
def rowAt (X : S16x256x1024.Idx → EReal) (M : S1x1x3072.Idx → EReal) (b : Fin 16) (t : Fin 256) : Fin 1024 → EReal :=
  modRow (fun e => X (ix3 b t e)) (fun e => M (ix3 0 0 ⟨e.val, by omega⟩)) (fun e => M (ix3 0 0 ⟨1024 + e.val, by omega⟩))

/-- That row times column `j` of the weights. -/
def colAt (X : S16x256x1024.Idx → EReal) (M : S1x1x3072.Idx → EReal) (W : S1x1024x6656.Idx → EReal) (b : Fin 16) (t : Fin 256)
    (j : Fin 6656) : EReal := ∑ k, rowAt X M b t k * W (ix3 0 k j)

/-- 1024 columns from column `o` on, one row per token. -/
def wide (o : ℕ) (h : o + 1024 ≤ 6656) (X : S16x256x1024.Idx → EReal) (M : S1x1x3072.Idx → EReal) (W : S1x1024x6656.Idx → EReal) :
    S16x256x1024.Idx → EReal :=
  fun j => colAt X M W (j 0) (j 1) ⟨o + (j 2).val, by have : (j 2).val < 1024 := (j 2).isLt; omega⟩

/-- 1024 columns from column `o` on, split into eight heads. -/
def heads (o : ℕ) (h : o + 1024 ≤ 6656) (X : S16x256x1024.Idx → EReal) (M : S1x1x3072.Idx → EReal) (W : S1x1024x6656.Idx → EReal) :
    S16x8x256x128.Idx → EReal :=
  fun j => colAt X M W (j 0) (j 2) ⟨o + ((j 1).val * 128 + (j 3).val), by
    have : (j 1).val < 8 := (j 1).isLt
    have : (j 3).val < 128 := (j 3).isLt
    omega⟩

/-- 256 columns from column `o` on, split into four heads. -/
def groups (o : ℕ) (h : o + 256 ≤ 6656) (X : S16x256x1024.Idx → EReal) (M : S1x1x3072.Idx → EReal) (W : S1x1024x6656.Idx → EReal) :
    S16x4x256x64.Idx → EReal :=
  fun j => colAt X M W (j 0) (j 2) ⟨o + ((j 1).val * 64 + (j 3).val), by
    have : (j 1).val < 4 := (j 1).isLt
    have : (j 3).val < 64 := (j 3).isLt
    omega⟩

variable (m : (ℓ : Loc nD τ sig) → Buf (Elt Ideal) ℓ) (c : Dev nD)

/-- A column of a block is the column of the whole arrays at the token's place. -/
theorem col_block (t : Fin cfg0.N) {r r' : Fin 256} {j j' : Fin 6656} {b : Fin 16} (hb : b.val = t.val) (hr : r.val = r'.val)
    (hj : j.val = j'.val) :
    colOf (iblk m c 0 t) (iblk m c 1 t) (iblk m c 2 t) r j
      = colAt (m ((c : Thread nD τ).loc main_arg0)) (m ((c : Thread nD τ).loc main_arg1)) (m ((c : Thread nD τ).loc main_arg2)) b r' j' := by
  obtain rfl := Fin.ext hr
  obtain rfl := Fin.ext hj
  refine Finset.sum_congr rfl fun k _ => congrArg₂ (· * ·) (modRow_congr (fun e => ?_) (fun e => ?_) (fun e => ?_) k) ?_
  · blk_ext! [iblk, V, idx t]
  · blk_ext! [iblk, V, idx t]
  · blk_ext! [iblk, V, idx t]
  · blk_ext! [iblk, V, idx t]

theorem final3 : (dats m 0 c).arrAt 3 cfg0.N
    = wide 0 (by omega) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_bounds y
  exact (out3_at _ _ _ y (by omega)).trans (col_block m c t (by blk_simp [idx t]) (by blk_simp [idx t]) (by blk_simp [idx t]))

theorem final4 : (dats m 0 c).arrAt 4 cfg0.N
    = heads 1024 (by omega) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_bounds y
  exact (out4_at _ _ _ y (by omega)).trans (col_block m c t (by blk_simp [idx t]) (by blk_simp [idx t]) (by blk_simp [idx t]))

theorem final5 : (dats m 0 c).arrAt 5 cfg0.N
    = heads 2048 (by omega) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_bounds y
  exact (out5_at _ _ _ y (by omega)).trans (col_block m c t (by blk_simp [idx t]) (by blk_simp [idx t]) (by blk_simp [idx t]))

theorem final6 : (dats m 0 c).arrAt 6 cfg0.N
    = wide 3072 (by omega) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_bounds y
  exact (out6_at _ _ _ y (by omega)).trans (col_block m c t (by blk_simp [idx t]) (by blk_simp [idx t]) (by blk_simp [idx t]))

theorem final7 : (dats m 0 c).arrAt 7 cfg0.N
    = wide 4096 (by omega) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_bounds y
  exact (out7_at _ _ _ y (by omega)).trans (col_block m c t (by blk_simp [idx t]) (by blk_simp [idx t]) (by blk_simp [idx t]))

theorem final8 : (dats m 0 c).arrAt 8 cfg0.N
    = groups 5120 (by omega) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  idx_bounds y
  exact (out8_at _ _ _ y (by omega)).trans (col_block m c t (by blk_simp [idx t]) (by blk_simp [idx t]) (by blk_simp [idx t]))

theorem final9 : (dats m 0 c).arrAt 9 cfg0.N
    = groups 5376 (by omega) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_bounds y
  exact (out9_at _ _ _ y (by omega)).trans (col_block m c t (by blk_simp [idx t]) (by blk_simp [idx t]) (by blk_simp [idx t]))

theorem final10 : (dats m 0 c).arrAt 10 cfg0.N
    = wide 5632 (by omega) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_bounds y
  exact (out10_at _ _ _ y (by omega)).trans (col_block m c t (by blk_simp [idx t]) (by blk_simp [idx t]) (by blk_simp [idx t]))

end Cert.Kernel2Ideal.Val

end
-- ==== Proof.ProjRef.lean ====
/- The reference's projections read at an index, and their equality with what the call leaves. -/
module

public import proofs.«01_k».proof.Defs
public import proofs.«01_k».proof.Proof.Proj
public import proofs.«01_k».proof.Proof.Gen.Reference2Ideal.Read
public import proofs.«01_k».proof.Proof.Gen.Reference2Ideal.Run
public import Idealize.ShloMosaic.Lib.Quiescent

@[expose] public section

set_option maxRecDepth 16384

noncomputable section

namespace Cert.Reference2Ideal.Read

open Cert.Reference2Ideal Cert.Reference2Ideal.Gen Idealize.ShloMosaic Idealize.ShloMosaic.TcCoe Idealize.SL.Sem
open Cert.Layer
open Cert.Kernel2Ideal.Val (rowAt colAt wide heads groups)

variable (X : S16x256x1024.Idx → EReal) (M : S1x1x3072.Idx → EReal) (W : S1x1024x6656.Idx → EReal)

theorem v12_at (b : Fin 16) (t : Fin 256) (w : Fin 1024) :
    val_main_v12 (F := Ideal) X (ix3 b t w) = normRow (fun e => X (ix3 b t e)) w := by
  rw [val_main_v12_apply, val_main_v11_apply, val_main_v10_apply, val_main_v9_apply, val_main_v7_apply, val_main_v5_apply,
    val_main_v4_apply, val_main_v6_apply, val_main_v8_apply]
  unfold normRow
  refine congrArg₂ (· * ·) rfl (congrArg Ideal.rsqrt (congrArg₂ (· + ·) (congrArg₂ Ideal.div ?_ rfl) rfl))
  refine (congrArg₂ (· + ·) Ideal.ofBits_zero_f32 (Finset.sum_congr rfl fun k _ => ?_)).trans (zero_add _)
  rw [val_main_v3_apply]
  have e : X (idx_main_v4 (idx_main_v5 (idx_main_v11 (ix3 b t w))) k) = X (ix3 b t k) :=
    congrArg X (funext fun a => by fin_cases a <;> rfl)
  exact congrArg₂ (· * ·) e e

theorem v18_at (b : Fin 16) (t : Fin 256) (w : Fin 1024) : val_main_v18 (F := Ideal) X M (ix3 b t w) = rowAt X M b t w := by
  rw [val_main_v18_apply, val_main_v16_apply, v12_at, val_main_v15_apply, val_main_v14_apply, val_main_v13_apply, val_main_v1_apply,
    val_main_v17_apply, val_main_v0_apply]
  refine congrArg₂ (· + ·) (congrArg₂ (· * ·) rfl (congrArg₂ (· + ·) rfl (congrArg M (funext fun a => Fin.ext ?_))))
    (congrArg M (funext fun a => Fin.ext ?_))
  · fin_cases a <;> simp <;> omega
  · fin_cases a <;> simp <;> omega

theorem v20_at (b : Fin 16) (t : Fin 256) (j : Fin 6656) : val_main_v20 (F := Ideal) X M W (ix3 b t j) = colAt X M W b t j := by
  rw [val_main_v20_apply]
  refine Finset.sum_congr rfl fun k _ => congrArg₂ (· * ·) ?_ ?_
  · exact (congrArg (val_main_v18 (F := Ideal) X M) (show lidx_main_v20 (ix3 b t j) k = ix3 b t k from funext fun a => by fin_cases a <;> rfl)).trans
      (v18_at X M b t k)
  · rw [val_main_v19_apply]
    refine congrArg W (funext fun a => Fin.ext ?_)
    fin_cases a <;> simp <;> omega

/-- A column of the product at an index spelt another way. -/
theorem col_of (i : S16x256x6656.Idx) (b : Fin 16) (t : Fin 256) (j : Fin 6656) (h0 : (i 0).val = b.val) (h1 : (i 1).val = t.val)
    (h2 : (i 2).val = j.val) : val_main_v20 (F := Ideal) X M W i = colAt X M W b t j :=
  (congrArg (val_main_v20 (F := Ideal) X M W) (show i = ix3 b t j from
    funext fun a => Fin.ext (by fin_cases a <;> assumption))).trans (v20_at X M W b t j)

theorem v21_at : val_main_v21 (F := Ideal) X M W = wide 0 (by omega) X M W := by
  funext j
  rw [val_main_v21_apply]
  exact col_of X M W _ _ _ _ (by simp) (by simp) (by simp)

theorem v24_at : val_main_v24 (F := Ideal) X M W = wide 3072 (by omega) X M W := by
  funext j
  rw [val_main_v24_apply]
  exact col_of X M W _ _ _ _ (by simp) (by simp) (by simp)

theorem v25_at : val_main_v25 (F := Ideal) X M W = wide 4096 (by omega) X M W := by
  funext j
  rw [val_main_v25_apply]
  exact col_of X M W _ _ _ _ (by simp) (by simp) (by simp)

theorem v28_at : val_main_v28 (F := Ideal) X M W = wide 5632 (by omega) X M W := by
  funext j
  rw [val_main_v28_apply]
  exact col_of X M W _ _ _ _ (by simp) (by simp) (by simp)

theorem v32_at : val_main_v32 (F := Ideal) X M W = heads 2048 (by omega) X M W := by
  funext j
  rw [val_main_v32_apply, val_main_v31_apply, val_main_v23_apply]
  idx_bounds j
  exact col_of X M W _ _ _ _ (by simp; omega) (by simp; omega) (by simp; omega)

theorem v34_at : val_main_v34 (F := Ideal) X M W = groups 5120 (by omega) X M W := by
  funext j
  rw [val_main_v34_apply, val_main_v33_apply, val_main_v26_apply]
  idx_bounds j
  exact col_of X M W _ _ _ _ (by simp; omega) (by simp; omega) (by simp; omega)

theorem v36_at : val_main_v36 (F := Ideal) X M W = groups 5376 (by omega) X M W := by
  funext j
  rw [val_main_v36_apply, val_main_v35_apply, val_main_v27_apply]
  idx_bounds j
  exact col_of X M W _ _ _ _ (by simp; omega) (by simp; omega) (by simp; omega)

theorem v30_at (b : Fin 16) (h : Fin 8) (p : Fin 2) (t : Fin 256) (d : Fin 64) :
    val_main_v30 (F := Ideal) X M W (ix5 b h p t d) = colAt X M W b t ⟨1024 + (h.val * 128 + (p.val * 64 + d.val)), by omega⟩ := by
  rw [val_main_v30_apply, val_main_v29_apply, val_main_v22_apply]
  exact col_of X M W _ _ _ _ (by simp; omega) (by simp; omega) (by simp; omega)

theorem v38_at : val_main_v38 (F := Ideal) X M W = heads 1024 (by omega) X M W := by
  funext j
  rw [val_main_v38_apply, val_main_v37_apply]
  idx_bounds j
  refine (congrArg (val_main_v30 (F := Ideal) X M W) (show idx_main_v37 (idx_main_v38 j) = ix5 (j 0) (j 1) ⟨(j 3).val / 64, by omega⟩ (j 2)
    ⟨(j 3).val % 64, by omega⟩ from funext fun a => Fin.ext (by fin_cases a <;> simp <;> omega))).trans ((v30_at X M W _ _ _ _ _).trans ?_)
  exact congrArg (colAt X M W (j 0) (j 2)) (Fin.ext (by simp; omega))

end Cert.Reference2Ideal.Read

namespace Cert.Projections

open Idealize.ShloMosaic Idealize.ShloMosaic.TcCoe Idealize.SL.Sem

theorem frame_reference : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

open Cert.Reference2Ideal.Read Cert.Kernel2Ideal.Val in
theorem algebraic : Cert.algebraic_Kernel2Ideal_Reference2Ideal := by
  intro m ρ m' ρ' _ hagree
  refine ⟨_, _, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨a0, a1, a2⟩ := hagree c
  obtain ⟨h0, h1, h2, h3, h4, h5, h6, h7, ha⟩ := h c
  refine ⟨h0.trans ?_, h1.trans ?_, h2.trans ?_, h3.trans ?_, h4.trans ?_, h5.trans ?_, h6.trans ?_, h7.trans ?_, ha⟩
  · rw [val_main_v21_eq, a0, a1, a2]; exact (v21_at _ _ _).trans (final3 m c).symm
  · rw [val_main_v38_eq, a0, a1, a2]; exact (v38_at _ _ _).trans (final4 m c).symm
  · rw [val_main_v32_eq, a0, a1, a2]; exact (v32_at _ _ _).trans (final5 m c).symm
  · rw [val_main_v24_eq, a0, a1, a2]; exact (v24_at _ _ _).trans (final6 m c).symm
  · rw [val_main_v25_eq, a0, a1, a2]; exact (v25_at _ _ _).trans (final7 m c).symm
  · rw [val_main_v34_eq, a0, a1, a2]; exact (v34_at _ _ _).trans (final8 m c).symm
  · rw [val_main_v36_eq, a0, a1, a2]; exact (v36_at _ _ _).trans (final9 m c).symm
  · rw [val_main_v28_eq, a0, a1, a2]; exact (v28_at _ _ _).trans (final10 m c).symm

end Cert.Projections

end
-- ==== Proof.Scan.lean ====
/- The context tokens' backward scan: what its two points leave in the carried state, and the state it stores. -/
module

public import proofs.«01_k».proof.Proof.Gen.Kernel7Ideal.Value
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.FrameBody

@[expose] public section

set_option maxRecDepth 16384

noncomputable section

namespace Cert.Kernel7Ideal.Val

open Cert.Kernel7Ideal Cert.Kernel7Ideal.Gen Cert.Kernel7Ideal.Value Idealize.ShloMosaic Idealize.ShloMosaic.TcCoe Idealize.SL.Sem

/-! ## A chunk's step sizes and decays -/

/-- The softplus of a number. -/
def sp (x : EReal) : EReal := max x 0 + Ideal.log1p (Ideal.exp (0 - FloatOps.absf (F := Ideal) (φ := .f32) x))

/-- The running sum of a chunk's decays from row `l` to its last row. -/
def tailSum (dt : Fin 128 → EReal) (a : EReal) (l : Fin 128) : EReal := ∑ s : Fin 128, if l ≤ s then dt s * a else 0

/-- A row's weight: its step size, decayed to the chunk's first row. -/
def weight (dt : Fin 128 → EReal) (a : EReal) (l : Fin 128) : EReal := dt l * Ideal.exp (tailSum dt a 0 - tailSum dt a l)

/-- One chunk's step of an entry of the state: the entry decayed by the chunk's whole decay, and the chunk's weighted products. -/
def stepOf (dt : Fin 128 → EReal) (a : EReal) (h : EReal) (B x : Fin 128 → EReal) : EReal :=
  h * Ideal.exp (tailSum dt a 0) + ∑ l : Fin 128, B l * (x l * weight dt a l)

/-- Head `16 + j / 64`'s column. -/
abbrev hcol (j : Fin 1024) : Fin 128 := ⟨16 + j.val / 64, by omega⟩

/-- The chunk's step sizes for the head of column `j`. -/
def dtB (x1 : Vec Ideal S1x128x128 .f32) (p : Vec Ideal S8x128 .f32) (k : Fin 128) (l : Fin 128) : EReal := sp (x1 (ix3 0 l k) + p (ix2 0 k))

/-- The head's decay rate. -/
def rateB (p : Vec Ideal S8x128 .f32) (k : Fin 128) : EReal := 0 - Ideal.exp (p (ix2 1 k))

/-- The state after a chunk. -/
def stepB (x0 : Vec Ideal S1x128x1536 .f32) (x1 : Vec Ideal S1x128x128 .f32) (p : Vec Ideal S8x128 .f32) (H : Vec Ideal S128x1024 .f32) :
    Vec Ideal S128x1024 .f32 := fun y =>
  stepOf (dtB x1 p (hcol (y 1))) (rateB p (hcol (y 1))) (H y)
    (fun l => x0 (ix3 0 l ⟨1024 + 128 * ((y 1).val / 256) + (y 0).val, by
      have h0 : (y 0).val < 128 := (y 0).isLt
      have h1 : (y 1).val < 1024 := (y 1).isLt
      omega⟩)) (fun l => x0 (ix3 0 l ⟨(y 1).val, by have h1 : (y 1).val < 1024 := (y 1).isLt; omega⟩))

theorem pay29_at (x : Vec Ideal S1x128x1536 .f32) (l : Fin 128) (j : Fin 1536) : k0_pay29 x (ix2 l j) = x (ix3 0 l j) := by
  pointwise [k0_pay29]

theorem pay30_at (v5 : Vec Ideal S1x128x128 .f32) (v7 : Vec Ideal S1x128 .f32) (l k : Fin 128) :
    k0_pay30 v5 v7 (ix2 l k) = sp (v5 (ix3 0 l k) + v7 (ix2 0 k)) := by
  pointwise [k0_pay30]
  rfl

theorem sge_word {a b : ℕ} (ha : a < 2 ^ 31) (hb : b < 2 ^ 31) :
    IntOp.cmpi .sge (BitVec.ofNat 32 a) (BitVec.ofNat 32 b) = BitVec.ofBool (decide (b ≤ a)) :=
  WordCmp.cmpi_sge_ofNat ha hb

theorem pay31_at (v5 : Vec Ideal S1x128x128 .f32) (v7 v19 : Vec Ideal S1x128 .f32) (l k : Fin 128) :
    k0_pay31 v5 v7 v19 (ix2 l k) = tailSum (fun s => sp (v5 (ix3 0 s k) + v7 (ix2 0 k))) (0 - Ideal.exp (v19 (ix2 0 k))) l := by
  unfold k0_pay31
  have hD := pay30_at v5 v7
  generalize k0_pay30 v5 v7 = D at hD
  pointwise []
  refine Finset.sum_congr rfl fun s _ => ?_
  rw [hD, sge_word (by omega) (by omega)]
  by_cases h : l ≤ s
  · rw [if_pos h, show decide (l.val ≤ s.val) = true from decide_eq_true h]
    refine (congrArg (· * _) ?_).trans (one_mul _)
    show (((1 : ℤ) : ℝ) : EReal) = 1
    norm_num
  · rw [if_neg h, show decide (l.val ≤ s.val) = false from decide_eq_false h]
    refine (congrArg (· * _) ?_).trans (zero_mul _)
    show (((0 : ℤ) : ℝ) : EReal) = 0
    norm_num

theorem pay32_at (v5 : Vec Ideal S1x128x128 .f32) (v7 v19 : Vec Ideal S1x128 .f32) (l k : Fin 128) :
    k0_pay32 v5 v7 v19 (ix2 l k) = weight (fun s => sp (v5 (ix3 0 s k) + v7 (ix2 0 k))) (0 - Ideal.exp (v19 (ix2 0 k))) l := by
  unfold k0_pay32
  have hD := pay30_at v5 v7
  have hE := pay31_at v5 v7 v19
  generalize k0_pay30 v5 v7 = D at hD
  generalize k0_pay31 v5 v7 v19 = E at hE
  pointwise []
  rw [hD, hE, hE]
  rfl

theorem pay33_at (v5 : Vec Ideal S1x128x128 .f32) (v7 v19 : Vec Ideal S1x128 .f32) (k : Fin 128) :
    k0_pay33 v5 v7 v19 (ix2 0 k) = Ideal.exp (tailSum (fun s => sp (v5 (ix3 0 s k) + v7 (ix2 0 k))) (0 - Ideal.exp (v19 (ix2 0 k))) 0) := by
  unfold k0_pay33
  have hE := pay31_at v5 v7 v19
  generalize k0_pay31 v5 v7 v19 = E at hE
  pointwise []
  rw [hE]

/-- A column's head, as the kernel computes it: the quotient by 64 rounded down, and 16. -/
def headWord (x : BitVec 32) : BitVec 32 :=
  IntOp.addi (16#32)
    (Scalar.select
      (IntOp.andi
        (IntOp.cmpi CmpIPredicate.ne
          (IntOp.subi (BitVec.setWidth 32 (IntOp.cmpi CmpIPredicate.sgt x 0#32))
            (BitVec.setWidth 32 (IntOp.cmpi CmpIPredicate.slt x 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector x 64#32) 0#32))
      (IntOp.subi (IntOp.divsi ArithUnit.vector x 64#32) 1#32)
      (IntOp.divsi ArithUnit.vector x 64#32))

theorem headWord_eq : ∀ j : Fin 1024, headWord (BitVec.ofNat 32 j.val) = BitVec.ofNat 32 (16 + j.val / 64) := by decide +kernel

theorem pay34_at (v : FVec Ideal S1x128 .f32) (j : Fin 1024) :
    k0_pay34 v (iota .tc S128x1024 32 [0] iota_S128x1024_d0_w32) (iota .tc S128x1024 32 [1] iota_S128x1024_d1_w32) (ix2 0 j) = v (ix2 0 (hcol j)) := by
  pointwise [k0_pay34]
  refine (Finset.sum_congr rfl fun k _ => congrArg (fun w => v (ix2 0 k) * FloatOps.sitofp (F := Ideal) FTy.f32
    (BitVec.setWidth 32 (IntOp.cmpi CmpIPredicate.eq (BitVec.ofNat 32 k.val) w))) (headWord_eq j)).trans ?_
  refine (Finset.sum_eq_single (hcol j) (fun k _ hk => ?_) (fun h => absurd (Finset.mem_univ _) h)).trans ?_
  · rw [WordCmp.cmpi_eq_ofNat (by omega) (by omega), show decide (k.val = 16 + j.val / 64) = false from decide_eq_false fun h => hk (Fin.ext h)]
    refine (congrArg (_ * ·) ?_).trans (mul_zero _)
    show (((0 : ℤ) : ℝ) : EReal) = 0
    norm_num
  · rw [WordCmp.cmpi_eq_ofNat (by omega) (by omega), show decide ((hcol j).val = 16 + j.val / 64) = true from decide_eq_true rfl]
    refine (congrArg (_ * ·) ?_).trans (mul_one _)
    show (((1 : ℤ) : ℝ) : EReal) = 1
    norm_num

theorem pick {n : ℕ} (hn : n < 2 ^ 31) (x y : EReal) :
    Scalar.select (IntOp.cmpi .slt (BitVec.ofNat 32 n) 64#32) x y = if n < 64 then x else y := by
  unfold Scalar.select
  rw [WordCmp.cmpi_slt_ofNat hn (by omega)]
  by_cases h : n < 64
  · simp [h]
  · simp [h]

/-- A column beside its head's weight: two blocks of 128 columns, each of two heads. -/
theorem cols_eq (v4 : FVec Ideal S128x1536 .f32) (v36 : FVec Ideal S128x128 .f32) (l : Fin 128) (e o : ℕ) (he : e < 256) (hd : o % 64 = 0)
    (c : e < 128 → Fin 1536) (c' : ¬e < 128 → Fin 1536) (j : Fin 1536) (q r q' r' k : Fin 128) (hc : ∀ h, (c h).val = o + e) (hc' : ∀ h, (c' h).val = o + 128 + (e - 128)) (hj : j.val = o + e)
    (hq : q.val = 16 + o / 64) (hr : r.val = 17 + o / 64) (hq' : q'.val = 18 + o / 64) (hr' : r'.val = 19 + o / 64) (hk : k.val = 16 + (o + e) / 64) :
    (if h : e < 128 then v4 (ix2 l (c h)) * Scalar.select (IntOp.cmpi .slt (BitVec.ofNat 32 e) 64#32) (v36 (ix2 l q)) (v36 (ix2 l r))
      else v4 (ix2 l (c' h)) * Scalar.select (IntOp.cmpi .slt (BitVec.ofNat 32 (e - 128)) 64#32) (v36 (ix2 l q')) (v36 (ix2 l r')))
      = v4 (ix2 l j) * v36 (ix2 l k) := by
  rw [pick (by omega), pick (by omega)]
  split_ifs with h
  · rw [show c h = j from Fin.ext (by rw [hc, hj]), show q = k from Fin.ext (by omega)]
  · rw [show c h = j from Fin.ext (by rw [hc, hj]), show r = k from Fin.ext (by omega)]
  · rw [show c' h = j from Fin.ext (by rw [hc', hj]; omega), show q' = k from Fin.ext (by omega)]
  · rw [show c' h = j from Fin.ext (by rw [hc', hj]; omega), show r' = k from Fin.ext (by omega)]

/-- A group's step, of its rows and columns. -/
def grpOf (v4 : FVec Ideal S128x1536 .f32) (v36 : FVec Ideal S128x128 .f32) (v73 : FVec Ideal S1x1024 .f32) (z : EReal) (o : ℕ) (ho : o ≤ 768)
    (n : Fin 128) (e : Fin 256) : EReal :=
  z * v73 (ix2 0 ⟨o + e.val, by omega⟩) + ∑ l : Fin 128, v4 (ix2 l ⟨1024 + 128 * ((o + e.val) / 256) + n.val, by omega⟩)
    * (v4 (ix2 l ⟨o + e.val, by omega⟩) * v36 (ix2 l ⟨16 + (o + e.val) / 64, by omega⟩))

variable (v4 : FVec Ideal S128x1536 .f32) (v36 : FVec Ideal S128x128 .f32) (v73 : FVec Ideal S1x1024 .f32) (z : Vec Ideal S128x256 .f32)
  (n : Fin 128) (e : Fin 256)

theorem grp0 : k0_pay40 v4 v36 v73 k0_pay35 (k0_pay37 v4) (k0_pay38 v36) (k0_pay39 v36) z (ix2 n e) = grpOf v4 v36 v73 (z (ix2 n e)) 0 (by omega) n e := by
  pointwise [k0_pay40, k0_pay35, k0_pay37, k0_pay38, k0_pay39]
  refine congrArg₂ (· + ·) (congrArg (fun j => _ * v73 (ix2 0 j)) (Fin.ext (by simp))) (Finset.sum_congr rfl fun l _ =>
    congrArg₂ (· * ·) (congrArg (fun j => v4 (ix2 l j)) (Fin.ext (by dsimp only; omega))) ?_)
  refine cols_eq v4 v36 l e.val 0 e.isLt rfl _ _ _ _ _ _ _ _ ?_ ?_ ?_ ?_ ?_ ?_ ?_ ?_ <;> intros <;> (try dsimp only) <;> first | rfl | omega | (simp; try omega)

theorem grp1 : k0_pay43 v73 (k0_pay41 v4 v36 k0_pay35) (k0_pay42 v4) z (ix2 n e) = grpOf v4 v36 v73 (z (ix2 n e)) 256 (by omega) n e := by
  pointwise [k0_pay43, k0_pay35, k0_pay41, k0_pay42]
  refine congrArg₂ (· + ·) rfl (Finset.sum_congr rfl fun l _ =>
    congrArg₂ (· * ·) (congrArg (fun j => v4 (ix2 l j)) (Fin.ext (by dsimp only; omega))) ?_)
  refine cols_eq v4 v36 l e.val 256 e.isLt rfl _ _ _ _ _ _ _ _ ?_ ?_ ?_ ?_ ?_ ?_ ?_ ?_ <;> intros <;> (try dsimp only) <;> first | rfl | omega | (simp; try omega)

theorem grp2 : k0_pay44 v4 v36 v73 k0_pay35 z (ix2 n e) = grpOf v4 v36 v73 (z (ix2 n e)) 512 (by omega) n e := by
  pointwise [k0_pay44, k0_pay35]
  refine congrArg₂ (· + ·) rfl (Finset.sum_congr rfl fun l _ =>
    congrArg₂ (· * ·) (congrArg (fun j => v4 (ix2 l j)) (Fin.ext (by dsimp only; omega))) ?_)
  refine cols_eq v4 v36 l e.val 512 e.isLt rfl _ _ _ _ _ _ _ _ ?_ ?_ ?_ ?_ ?_ ?_ ?_ ?_ <;> intros <;> (try dsimp only) <;> first | rfl | omega | (simp; try omega)

theorem grp3 : k0_pay1 v4 v36 v73 k0_pay35 (k0_pay45 v4) (k0_pay46 v36) (k0_pay47 v36) z (ix2 n e)
    = grpOf v4 v36 v73 (z (ix2 n e)) 768 (by omega) n e := by
  pointwise [k0_pay1, k0_pay35, k0_pay45, k0_pay46, k0_pay47]
  refine congrArg₂ (· + ·) rfl (Finset.sum_congr rfl fun l _ =>
    congrArg₂ (· * ·) (congrArg (fun j => v4 (ix2 l j)) (Fin.ext (by dsimp only; omega))) ?_)
  refine cols_eq v4 v36 l e.val 768 e.isLt rfl _ _ _ _ _ _ _ _ ?_ ?_ ?_ ?_ ?_ ?_ ?_ ?_ <;> intros <;> (try dsimp only) <;> first | rfl | omega | (simp; try omega)

variable (x0 : Vec Ideal S1x128x1536 .f32) (x1 : Vec Ideal S1x128x128 .f32) (p : Vec Ideal S8x128 .f32) (H : Vec Ideal S128x1024 .f32)

/-- The bias row of the parameters, as the kernel loads it. -/
abbrev row0 : Vec Ideal S1x128 .f32 := View.ld p (Rect.unit ![0, 0] ![1, 128] inb_S8x128_S1x128_0_0)

/-- The decay row of the parameters, as the kernel loads it. -/
abbrev row1 : Vec Ideal S1x128 .f32 := View.ld p (Rect.unit ![1, 0] ![1, 128] inb_S8x128_S1x128_1_0)

theorem row0_at (k : Fin 128) : row0 p (ix2 0 k) = p (ix2 0 k) :=
  View.ld_unit_apply_of p ![0, 0] ![1, 128] _ (ix2 0 k) (ix2 0 k) fun a => by fin_cases a <;> simp

theorem row1_at (k : Fin 128) : row1 p (ix2 0 k) = p (ix2 1 k) :=
  View.ld_unit_apply_of p ![1, 0] ![1, 128] _ (ix2 0 k) (ix2 1 k) fun a => by fin_cases a <;> simp

/-- The columns' decays over the chunk, as the kernel spreads them. -/
abbrev decays : FVec Ideal S1x1024 .f32 :=
  k0_pay34 (k0_pay33 x1 (row0 p) (row1 p)) (iota .tc S128x1024 32 [0] iota_S128x1024_d0_w32) (iota .tc S128x1024 32 [1] iota_S128x1024_d1_w32)

/-- A group's step is the state's, at its columns. -/
theorem grp_step (o : ℕ) (ho : o ≤ 768) (n : Fin 128) (e : Fin 256) (z : EReal) (hz : z = H (ix2 n ⟨o + e.val, by omega⟩)) :
    grpOf (k0_pay29 x0) (k0_pay32 x1 (row0 p) (row1 p)) (decays x1 p) z o ho n e = stepB x0 x1 p H (ix2 n ⟨o + e.val, by omega⟩) := by
  have r0 := row0_at p
  have r1 := row1_at p
  unfold grpOf decays
  generalize row0 p = R0 at *
  generalize row1 p = R1 at *
  rw [pay34_at, pay33_at, hz]
  simp only [pay29_at, pay32_at, r0, r1]
  rfl

/-- The carried state, of its four groups' stores over anything stored before. -/
theorem tiles (G : Vec Ideal S128x1024 .f32) (p0 p1 p2 p3 : Vec Ideal S128x256 .f32) (L : List (View.Piece (Elt Ideal) S128x1024 .f32))
    (h0 : ∀ (n : Fin 128) (e : Fin 256), p0 (ix2 n e) = G (ix2 n ⟨0 + e.val, by omega⟩))
    (h1 : ∀ (n : Fin 128) (e : Fin 256), p1 (ix2 n e) = G (ix2 n ⟨256 + e.val, by omega⟩))
    (h2 : ∀ (n : Fin 128) (e : Fin 256), p2 (ix2 n e) = G (ix2 n ⟨512 + e.val, by omega⟩))
    (h3 : ∀ (n : Fin 128) (e : Fin 256), p3 (ix2 n e) = G (ix2 n ⟨768 + e.val, by omega⟩)) :
    View.canon (⟨Rect.unit ![0, 768] ![128, 256] inb_S128x1024_S128x256_0_768, p3⟩ :: ⟨Rect.unit ![0, 512] ![128, 256] inb_S128x1024_S128x256_0_512, p2⟩
      :: ⟨Rect.unit ![0, 256] ![128, 256] inb_S128x1024_S128x256_0_256, p1⟩ :: ⟨Rect.unit ![0, 0] ![128, 256] inb_S128x1024_S128x256_0_0, p0⟩ :: L) = G := by
  funext y
  have e (o : ℕ) (inb) (x : Shape.Idx ⟨2, ![128, 256]⟩) (h : o + (x 1).val < 1024) :
      (Rect.unit (s := S128x1024) ![0, o] ![128, 256] inb).emb x = ix2 (x 0) ⟨o + (x 1).val, h⟩ := by
    funext a
    refine Fin.ext ((Rect.idx_unit_val _ _ inb x a).trans ?_)
    fin_cases a <;> simp
  have hx (x : Shape.Idx ⟨2, ![128, 256]⟩) : x = ix2 (x 0) (x 1) := by funext a; fin_cases a <;> rfl
  have hl (x : Shape.Idx ⟨2, ![128, 256]⟩) : (x 1).val < 256 := (x 1).isLt
  refine View.canon_append_of_piecesOf G L [⟨Rect.unit ![0, 768] ![128, 256] inb_S128x1024_S128x256_0_768, p3⟩, ⟨Rect.unit ![0, 512] ![128, 256] inb_S128x1024_S128x256_0_512, p2⟩,
    ⟨Rect.unit ![0, 256] ![128, 256] inb_S128x1024_S128x256_0_256, p1⟩, ⟨Rect.unit ![0, 0] ![128, 256] inb_S128x1024_S128x256_0_0, p0⟩]
    ⟨fun x => ?_, fun x => ?_, fun x => ?_, fun x => ?_, trivial⟩ y ?_
  · exact (congrArg p3 (hx x)).trans ((h3 (x 0) (x 1)).trans (congrArg G (e 768 inb_S128x1024_S128x256_0_768 x _).symm))
  · exact (congrArg p2 (hx x)).trans ((h2 (x 0) (x 1)).trans (congrArg G (e 512 inb_S128x1024_S128x256_0_512 x _).symm))
  · exact (congrArg p1 (hx x)).trans ((h1 (x 0) (x 1)).trans (congrArg G (e 256 inb_S128x1024_S128x256_0_256 x _).symm))
  · exact (congrArg p0 (hx x)).trans ((h0 (x 0) (x 1)).trans (congrArg G (e 0 inb_S128x1024_S128x256_0_0 x _).symm))
  · exact View.cover_of_tiledL (s := S128x1024) _ S128x256.size (by sl_kernel_rfl) y

variable (m : (ℓ : Loc nD τ sig) → Buf (Elt Ideal) ℓ) (c : Dev nD) (t : Fin cfg0.N)

theorem ld_at (o : ℕ) (inb) (n : Fin 128) (e : Fin 256) (h : o + e.val < 1024) :
    View.ld H (Rect.unit (s := S128x1024) ![0, o] ![128, 256] inb) (ix2 n e) = H (ix2 n ⟨o + e.val, h⟩) :=
  View.ld_unit_apply_of H ![0, o] ![128, 256] inb (ix2 n e) (ix2 n ⟨o + e.val, h⟩) fun a => by fin_cases a <;> simp

theorem fill_at (o : ℕ) (inb) (n : Fin 128) (e : Fin 256) (h : o + e.val < 1024) :
    View.ld (Val := Elt Ideal) (e' := .f32) (k0_pay28 (F := Ideal)) (Rect.unit (s := S128x1024) ![0, o] ![128, 256] inb) (ix2 n e) = 0 := by
  refine (ld_at _ o inb n e h).trans ?_
  pointwise [k0_pay28]

theorem off0 : ∀ a : Fin S128x1024.rank, (![0, 0] : Fin 2 → ℕ) a = 0 := fun a => by fin_cases a <;> rfl

/-- Before the first point, the state of zeros. -/
theorem scrA (h0 : t.val % 2 = 0) : (outsAt0 m c t.val t.isLt).2.2 = stepB (X0_0 m c t) (iblk m c 1 t) (iblk m c 2 t) (fun _ => 0) := by
  rw [outsAt0_A m c t h0 (by omega)]
  frame_out
  refine tiles _ _ _ _ _ _ (fun n e => ?_) (fun n e => ?_) (fun n e => ?_) (fun n e => ?_)
  · refine (grp0 ..).trans (grp_step _ _ _ (fun _ => 0) 0 _ n e _ ((congrFun ?_ _).trans (fill_at 0 inb_S128x1024_S128x256_0_0 n e (by omega))))
    exact View.readCov_fill _ _ _ _ _ off0
  · refine (grp1 ..).trans (grp_step _ _ _ (fun _ => 0) 256 _ n e _ ((congrFun ?_ _).trans (fill_at 256 inb_S128x1024_S128x256_0_256 n e (by omega))))
    exact (View.readCov_skip _ _ _ _ _ (by rfl)).trans (View.readCov_fill _ _ _ _ _ off0)
  · refine (grp2 ..).trans (grp_step _ _ _ (fun _ => 0) 512 _ n e _ ((congrFun ?_ _).trans (fill_at 512 inb_S128x1024_S128x256_0_512 n e (by omega))))
    exact (View.readCov_skip _ _ _ _ _ (by rfl)).trans ((View.readCov_skip _ _ _ _ _ (by rfl)).trans (View.readCov_fill _ _ _ _ _ off0))
  · refine (grp3 ..).trans (grp_step _ _ _ (fun _ => 0) 768 _ n e _ ((congrFun ?_ _).trans (fill_at 768 inb_S128x1024_S128x256_0_768 n e (by omega))))
    exact (View.readCov_skip _ _ _ _ _ (by rfl)).trans ((View.readCov_skip _ _ _ _ _ (by rfl)).trans ((View.readCov_skip _ _ _ _ _ (by rfl)).trans (View.readCov_fill _ _ _ _ _ off0)))

theorem scrB (h1 : t.val % 2 = 1) : (outsAt0 m c t.val t.isLt).2.2
    = stepB (X0_0 m c t) (iblk m c 1 t) (iblk m c 2 t) (outsAt0 m c (t.val - 1) (Nat.lt_of_le_of_lt (Nat.sub_le _ _) t.isLt)).2.2 := by
  rw [outsAt0_B m c t (by omega) h1]
  frame_out
  simp only [read_unread_whole]
  refine tiles _ _ _ _ _ _ (fun n e => ?_) (fun n e => ?_) (fun n e => ?_) (fun n e => ?_)
  · exact (grp0 ..).trans (grp_step _ _ _ _ 0 _ n e _ (ld_at _ 0 _ n e _))
  · exact (grp1 ..).trans (grp_step _ _ _ _ 256 _ n e _ (ld_at _ 256 _ n e _))
  · exact (grp2 ..).trans (grp_step _ _ _ _ 512 _ n e _ (ld_at _ 512 _ n e _))
  · exact (grp3 ..).trans (grp_step _ _ _ _ 768 _ n e _ (ld_at _ 768 _ n e _))

/-- A load of the carried state after its four groups' stores. -/
theorem tiles_read (G : Vec Ideal S128x1024 .f32) (p0 p1 p2 p3 : Vec Ideal S128x256 .f32) (B : LoadRect S128x1024)
    (h0 : ∀ (n : Fin 128) (e : Fin 256), p0 (ix2 n e) = G (ix2 n ⟨0 + e.val, by omega⟩))
    (h1 : ∀ (n : Fin 128) (e : Fin 256), p1 (ix2 n e) = G (ix2 n ⟨256 + e.val, by omega⟩))
    (h2 : ∀ (n : Fin 128) (e : Fin 256), p2 (ix2 n e) = G (ix2 n ⟨512 + e.val, by omega⟩))
    (h3 : ∀ (n : Fin 128) (e : Fin 256), p3 (ix2 n e) = G (ix2 n ⟨768 + e.val, by omega⟩)) :
    (View.whole cc0_scratch0).readCov (Val := Elt Ideal) [⟨Rect.unit ![0, 768] ![128, 256] inb_S128x1024_S128x256_0_768, p3⟩, ⟨Rect.unit ![0, 512] ![128, 256] inb_S128x1024_S128x256_0_512, p2⟩,
      ⟨Rect.unit ![0, 256] ![128, 256] inb_S128x1024_S128x256_0_256, p1⟩, ⟨Rect.unit ![0, 0] ![128, 256] inb_S128x1024_S128x256_0_0, p0⟩] B = fun j => G (B.idx j) := by
  funext j
  exact (congrFun (View.readCov_eq_canon' _ _ B) j).trans (congrFun (tiles G p0 p1 p2 p3 [] h0 h1 h2 h3) (B.idx j))

theorem outB (h1 : t.val % 2 = 1) (y : S1x16x64x128.Idx) : (outsAt0 m c t.val t.isLt).2.1 y
    = stepB (X0_0 m c t) (iblk m c 1 t) (iblk m c 2 t) (outsAt0 m c (t.val - 1) (Nat.lt_of_le_of_lt (Nat.sub_le _ _) t.isLt)).2.2
      (ix2 (y 3) ⟨64 * (y 1).val + (y 2).val, by have h1 : (y 1).val < 16 := (y 1).isLt; have h2 : (y 2).val < 64 := (y 2).isLt; omega⟩) := by
  rw [outsAt0_B m c t (by omega) h1]
  frame_out
  simp only [read_unread_whole]
  canon_tiles x h
  all_goals
    rw [tiles_read (stepB (X0_0 m c t) (iblk m c 1 t) (iblk m c 2 t) (outsAt0 m c (t.val - 1) (Nat.lt_of_le_of_lt (Nat.sub_le _ _) t.isLt)).2.2) _ _ _ _ _
      (fun n e => (grp0 ..).trans (grp_step _ _ _ _ 0 _ n e _ (ld_at _ 0 _ n e _)))
      (fun n e => (grp1 ..).trans (grp_step _ _ _ _ 256 _ n e _ (ld_at _ 256 _ n e _)))
      (fun n e => (grp2 ..).trans (grp_step _ _ _ _ 512 _ n e _ (ld_at _ 512 _ n e _)))
      (fun n e => (grp3 ..).trans (grp_step _ _ _ _ 768 _ n e _ (ld_at _ 768 _ n e _)))]
    generalize stepB _ _ _ _ = G
    idx_bounds x
    pointwise [k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27]
    refine congrArg G (funext fun a => Fin.ext ?_)
    fin_cases a <;> simp <;> omega

/-! ## The state that the call returns -/

theorem idx : ∀ t : Fin cfg0.N, win0_0.index t = ![t.val / 2, 1 - t.val % 2, 0] ∧ win0_1.index t = ![t.val / 2, 1 - t.val % 2, 0]
    ∧ win0_2.index t = ![0, 0] ∧ win0_4.index t = ![t.val / 2, 0, 0, 0] :=
  (by decide +kernel : ∀ t : Fin grid0.N, win0_0.index t = ![t.val / 2, 1 - t.val % 2, 0] ∧ win0_1.index t = ![t.val / 2, 1 - t.val % 2, 0]
    ∧ win0_2.index t = ![0, 0] ∧ win0_4.index t = ![t.val / 2, 0, 0, 0])

/-- A row of the parameters: the two directions' values and zeros. -/
def prmRow (w : S1x2x16.Idx → EReal) : S1x128.Idx → EReal :=
  broadcastInDim S1x128 ![1] bcast_S128_S1x128_1 (concatenate S128 0
    [⟨S32, shapeCast S32 (shapeCast S2x16 w shapeCasts_S1x2x16_S2x16) shapeCasts_S2x16_S32⟩,
     ⟨S96, broadcastInDim S96 ![] bcast_S_S96 (constant (F := Ideal) S_ .f32 0x00000000#32)⟩] concatenates_S32_S96_S128_d0)

theorem prmRow_at (w : S1x2x16.Idx → EReal) (h : Fin 16) : prmRow w (ix2 0 ⟨16 + h.val, by omega⟩) = w (ix3 0 1 h) := by
  have e : shapeCast S32 (shapeCast S2x16 w shapeCasts_S1x2x16_S2x16) shapeCasts_S2x16_S32 (ix1 ⟨16 + h.val, by omega⟩) = w (ix3 0 1 h) :=
    (shapeCast_apply _ _ (ix1 ⟨16 + h.val, by omega⟩) (ix2 1 h) (by
      rw [Shape.rowMajor_val_two, Shape.rowMajor_val_one]
      show 1 * 16 + h.val = 16 + h.val
      omega)).trans (shapeCast_apply _ _ (ix2 1 h) (ix3 0 1 h) (by
      rw [Shape.rowMajor_val_three, Shape.rowMajor_val_two]
      show (0 * 2 + 1) * 16 + h.val = 1 * 16 + h.val
      omega))
  unfold prmRow
  generalize shapeCast S32 _ _ = v at e ⊢
  rw [← e]
  pointwise []
  exact dif_pos (by omega)

theorem host10 : (V m c main_v10 : S8x128.Idx → EReal) = concatenate S8x128 0
    [⟨S1x128, prmRow (m ((c : Thread nD τ).loc main_arg3) : S1x2x16.Idx → EReal)⟩, ⟨S1x128, prmRow (m ((c : Thread nD τ).loc main_arg2) : S1x2x16.Idx → EReal)⟩,
     ⟨S6x128, broadcastInDim S6x128 ![] bcast_S_S6x128 (constant (F := Ideal) S_ .f32 0x00000000#32)⟩] concatenates_S1x128_S1x128_S6x128_S8x128_d0 := by
  unfold_abbrev_sides
  after_results
  rfl

theorem rows_at (k : Fin 128) : (V m c main_v10 : S8x128.Idx → EReal) (ix2 0 k) = prmRow (m ((c : Thread nD τ).loc main_arg3)) (ix2 0 k)
    ∧ (V m c main_v10 : S8x128.Idx → EReal) (ix2 1 k) = prmRow (m ((c : Thread nD τ).loc main_arg2)) (ix2 0 k) := by
  rw [host10]
  generalize prmRow (m ((c : Thread nD τ).loc main_arg3)) = a
  generalize prmRow (m ((c : Thread nD τ).loc main_arg2)) = b
  constructor
  · pointwise []
  · pointwise []

theorem X_at (l : Fin 128) (j : Fin 1536) {b : Fin 16} {s : Fin 256} {k : Fin 2048} (hb : b.val = t.val / 2) (hs : s.val = 128 * (1 - t.val % 2) + l.val)
    (hk : k.val = j.val) : X0_0 m c t (ix3 0 l j) = (m ((c : Thread nD τ).loc main_arg0) : S16x256x2048.Idx → EReal) (ix3 b s k) := by
  unfold X0_0 Pipeline.Window.fill
  rw [dif_pos (moved0_0 t _)]
  blk_ext! [iblk, V, idx t]

theorem dt_at (l k : Fin 128) {b : Fin 16} {s : Fin 256} (hb : b.val = t.val / 2) (hs : s.val = 128 * (1 - t.val % 2) + l.val) :
    (iblk m c 1 t : Vec Ideal S1x128x128 .f32) (ix3 0 l k) = (m ((c : Thread nD τ).loc main_arg1) : S16x256x128.Idx → EReal) (ix3 b s k) := by
  blk_ext! [iblk, V, idx t]

theorem bias_at (h : Fin 16) (k : Fin 128) (hk : k.val = 16 + h.val) : (iblk m c 2 t : Vec Ideal S8x128 .f32) (ix2 0 k)
    = (m ((c : Thread nD τ).loc main_arg3) : S1x2x16.Idx → EReal) (ix3 0 1 h) := by
  refine Eq.trans ?_ ((rows_at m c k).1.trans ((congrArg _ (congrArg (ix2 0) (Fin.ext hk))).trans (prmRow_at _ h)))
  exact congrArg (V m c main_v10) (by blk_ext! [idx t])

theorem alog_at (h : Fin 16) (k : Fin 128) (hk : k.val = 16 + h.val) : (iblk m c 2 t : Vec Ideal S8x128 .f32) (ix2 1 k)
    = (m ((c : Thread nD τ).loc main_arg2) : S1x2x16.Idx → EReal) (ix3 0 1 h) := by
  refine Eq.trans ?_ ((rows_at m c k).2.trans ((congrArg _ (congrArg (ix2 0) (Fin.ext hk))).trans (prmRow_at _ h)))
  exact congrArg (V m c main_v10) (by blk_ext! [idx t])

/-- A chunk's step of head `h`'s state. -/
def chunkOf (act : S16x256x2048.Idx → EReal) (dt : S16x256x128.Idx → EReal) (al bi : S1x2x16.Idx → EReal) (b : Fin 16) (q : Fin 2) (h : Fin 16) (p : Fin 64)
    (n : Fin 128) (z : EReal) : EReal :=
  stepOf (fun l => sp (dt (ix3 b ⟨128 * q.val + l.val, by omega⟩ ⟨16 + h.val, by omega⟩) + bi (ix3 0 1 h))) (0 - Ideal.exp (al (ix3 0 1 h))) z
    (fun l => act (ix3 b ⟨128 * q.val + l.val, by omega⟩ ⟨1024 + 128 * (h.val / 4) + n.val, by omega⟩))
    (fun l => act (ix3 b ⟨128 * q.val + l.val, by omega⟩ ⟨64 * h.val + p.val, by omega⟩))

/-- The final state: zeros, the last chunk's step and the first chunk's. -/
def result (act : S16x256x2048.Idx → EReal) (dt : S16x256x128.Idx → EReal) (al bi : S1x2x16.Idx → EReal) : S16x16x64x128.Idx → EReal := fun y =>
  chunkOf act dt al bi (y 0) 0 (y 1) (y 2) (y 3) (chunkOf act dt al bi (y 0) 1 (y 1) (y 2) (y 3) 0)

theorem step_chunk (H : Vec Ideal S128x1024 .f32) {b : Fin 16} {q : Fin 2} {h : Fin 16} {p : Fin 64} {n : Fin 128} {j : Fin 1024} {z : EReal}
    (hb : b.val = t.val / 2) (hq : q.val = 1 - t.val % 2) (hj : j.val = 64 * h.val + p.val) (hz : H (ix2 n j) = z) :
    stepB (X0_0 m c t) (iblk m c 1 t) (iblk m c 2 t) H (ix2 n j)
      = chunkOf (m ((c : Thread nD τ).loc main_arg0)) (m ((c : Thread nD τ).loc main_arg1)) (m ((c : Thread nD τ).loc main_arg2))
          (m ((c : Thread nD τ).loc main_arg3)) b q h p n z := by
  unfold stepB chunkOf dtB rateB
  have hk : (hcol j).val = 16 + h.val := by show 16 + j.val / 64 = _; omega
  have hc : hcol j = ⟨16 + h.val, by omega⟩ := Fin.ext hk
  have e (f f' g g' B B' : Fin 128 → EReal) (a a' y y' : EReal) (h1 : ∀ l, f l = f' l) (h2 : a = a') (h3 : y = y') (h4 : ∀ l, B l = B' l) (h5 : ∀ l, g l = g' l) :
      stepOf f a y B g = stepOf f' a' y' B' g' := by
    rw [funext h1, h2, h3, funext h4, funext h5]
  refine e _ _ _ _ _ _ _ _ _ _ (fun l => congrArg sp (congrArg₂ (· + ·) ((congrArg (fun k => (iblk m c 1 t : Vec Ideal S1x128x128 .f32) (ix3 0 l k)) hc).trans (dt_at m c t l _ hb ?_)) (bias_at m c t h _ hk)))
    (congrArg (fun x => 0 - Ideal.exp x) (alog_at m c t h _ hk)) hz (fun l => X_at m c t l _ hb ?_ ?_) (fun l => X_at m c t l _ hb ?_ ?_)
  · show 128 * q.val + l.val = _; rw [hq]
  · show 128 * q.val + l.val = _; rw [hq]
  · show 1024 + 128 * (h.val / 4) + n.val = 1024 + 128 * (j.val / 256) + n.val; omega
  · show 128 * q.val + l.val = _; rw [hq]
  · exact hj.symm

theorem final4 : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have h1 := (flush0_4 t).mp hf
  have ht : t.val < 32 := lt_of_lt_of_eq t.isLt N_0
  blk_simp
  rw [after0_4]
  refine (outB m c t h1 _).trans ?_
  have ht' : t.val - 1 < cfg0.N := Nat.lt_of_le_of_lt (Nat.sub_le _ _) t.isLt
  have hp : (outsAt0 m c (t.val - 1) ht').2.2 = _ := scrA m c ⟨t.val - 1, ht'⟩ (show (t.val - 1) % 2 = 0 by omega)
  rw [hp]
  unfold result
  refine (step_chunk m c t (q := 0) (h := y 1) (p := y 2) (n := y 3) (b := ⟨t.val / 2, by omega⟩) _ rfl (by show 0 = _; omega) rfl
    (step_chunk m c ⟨t.val - 1, ht'⟩ (q := 1) (h := y 1) (p := y 2) (n := y 3) (b := ⟨t.val / 2, by omega⟩) _ (by show t.val / 2 = (t.val - 1) / 2; omega)
      (by show 1 = 1 - (t.val - 1) % 2; omega) rfl rfl)).trans ?_
  have e0 : (win0_4.blk t).view.emb y 0 = (⟨t.val / 2, by omega⟩ : Fin 16) := Fin.ext (by blk_simp [idx t])
  have e1 : (win0_4.blk t).view.emb y 1 = y 1 := Fin.ext (by blk_simp [idx t])
  have e2 : (win0_4.blk t).view.emb y 2 = y 2 := Fin.ext (by blk_simp [idx t])
  have e3 : (win0_4.blk t).view.emb y 3 = y 3 := Fin.ext (by blk_simp [idx t])
  rw [e0, e1, e2, e3]

end Cert.Kernel7Ideal.Val

end
-- ==== Proof.ScanRef.lean ====
/- The reference's backward scan of the context tokens read at an index, and its equality with what the call stores. -/
module

public import proofs.«01_k».proof.Defs
public import proofs.«01_k».proof.Proof.Claims
public import proofs.«01_k».proof.Proof.Scan
public import proofs.«01_k».proof.Proof.EvenOutRef
public import proofs.«01_k».proof.Proof.Gen.Reference7Ideal.Read
public import proofs.«01_k».proof.Proof.Gen.Reference7Ideal.Run
public import Idealize.ShloMosaic.Lib.KernelVsHost
public import Idealize.ShloMosaic.Lib.Quiescent

@[expose] public section

set_option maxRecDepth 16384

noncomputable section

namespace Cert.Reference7Ideal.Read

open Cert.Reference7Ideal Cert.Reference7Ideal.Gen Idealize.ShloMosaic Idealize.ShloMosaic.TcCoe Idealize.SL.Sem
open Cert.Pool (pre)
open Cert.Reference6Ideal.Read (window_foldl)
open Cert.Kernel7Ideal.Val (sp tailSum weight stepOf chunkOf result)

/-! ## The cumulative sum -/

theorem numel5 (N : ℕ) : (⟨5, ![1, 1, N, 1, 1]⟩ : Shape).numel = N := by
  show ∏ a : Fin 5, (![1, 1, N, 1, 1] : Fin 5 → ℕ) a = N
  simp [Fin.prod_univ_five]

theorem symm5 {N : ℕ} (n : Fin (⟨5, ![1, 1, N, 1, 1]⟩ : Shape).numel) :
    (⟨5, ![1, 1, N, 1, 1]⟩ : Shape).rowMajor.symm n = ix5 (0 : Fin 1) (0 : Fin 1) (n.cast (numel5 N)) (0 : Fin 1) (0 : Fin 1) :=
  ((⟨5, ![1, 1, N, 1, 1]⟩ : Shape).rowMajor.symm_apply_eq).2 (Fin.ext (by
    rw [Shape.rowMajor_val_five]
    show n.val = (((0 * 1 + 0) * N + n.val) * 1 + 0) * 1 + 0
    omega))

/-- The running sum along a chunk's rows. -/
theorem cumsum5 {N M : ℕ} (hN : M + 1 = N) (x : (⟨5, ![16, 2, N, 4, 4]⟩ : Shape).Idx → EReal) (b : Fin 16) (q : Fin 2) (t : Fin N) (g r : Fin 4)
    (y : ℕ → EReal) (hx : ∀ s : Fin N, x (ix5 b q s g r) = y s.val) (init : S_.Idx → EReal) (hi : ∀ i, init i = 0)
    (h : (⟨5, ![16, 2, N, 4, 4]⟩ : Shape).ReduceWindows (![1, 1, N, 1, 1] : Fin 5 → Nat) ![1, 1, 1, 1, 1] ![0, 0, M, 0, 0] ![0, 0, 0, 0, 0]
      ⟨5, ![16, 2, N, 4, 4]⟩) (hu) :
    Host.reduceWindowAdd (F := Ideal) (φ := .f32) ![1, 1, N, 1, 1] ![1, 1, 1, 1, 1] ![0, 0, M, 0, 0] ![0, 0, 0, 0, 0] x init h hu
      (ix5 b q t g r) = pre y (t.val + 1) := by
  have ht := t.isLt
  refine Eq.trans ?_ (window_foldl (M := M) y (by omega) ((numel5 N).trans hN.symm))
  show Ideal.hostReduceWindowAdd _ _ _ _ h x (init _) (ix5 b q t g r) = _
  unfold Ideal.hostReduceWindowAdd Host.reduceWindow
  rw [hi]
  refine congrArg (fun f => List.foldl f (0 : EReal) _) (funext fun e => funext fun n => congrArg (e + ·) ?_)
  have h0 : ((⟨5, ![1, 1, N, 1, 1]⟩ : Shape).rowMajor.symm n 0).val = 0 := by rw [symm5]; rfl
  have h1 : ((⟨5, ![1, 1, N, 1, 1]⟩ : Shape).rowMajor.symm n 1).val = 0 := by rw [symm5]; rfl
  have h2 : ((⟨5, ![1, 1, N, 1, 1]⟩ : Shape).rowMajor.symm n 2).val = n.val := by rw [symm5]; rfl
  have h3 : ((⟨5, ![1, 1, N, 1, 1]⟩ : Shape).rowMajor.symm n 3).val = 0 := by rw [symm5]; rfl
  have h4 : ((⟨5, ![1, 1, N, 1, 1]⟩ : Shape).rowMajor.symm n 4).val = 0 := by rw [symm5]; rfl
  have hn : n.val < N := (n.cast (numel5 N)).isLt
  dsimp only
  split
  · next hin =>
    have e := hin 2
    change M ≤ t.val * 1 + ((⟨5, ![1, 1, N, 1, 1]⟩ : Shape).rowMajor.symm n 2).val ∧ _ at e
    rw [h2] at e
    rw [if_pos (by omega)]
    refine (congrArg x (funext fun a => Fin.ext ?_)).trans (hx ⟨t.val + n.val - M, by omega⟩)
    match a with
    | ⟨0, _⟩ =>
      show b.val * 1 + ((⟨5, ![1, 1, N, 1, 1]⟩ : Shape).rowMajor.symm n 0).val - 0 = b.val
      rw [h0]; omega
    | ⟨1, _⟩ =>
      show q.val * 1 + ((⟨5, ![1, 1, N, 1, 1]⟩ : Shape).rowMajor.symm n 1).val - 0 = q.val
      rw [h1]; omega
    | ⟨2, _⟩ =>
      show t.val * 1 + ((⟨5, ![1, 1, N, 1, 1]⟩ : Shape).rowMajor.symm n 2).val - M = t.val + n.val - M
      rw [h2]; omega
    | ⟨3, _⟩ =>
      show g.val * 1 + ((⟨5, ![1, 1, N, 1, 1]⟩ : Shape).rowMajor.symm n 3).val - 0 = g.val
      rw [h3]; omega
    | ⟨4, _⟩ =>
      show r.val * 1 + ((⟨5, ![1, 1, N, 1, 1]⟩ : Shape).rowMajor.symm n 4).val - 0 = r.val
      rw [h4]; omega
  · next hin =>
    rw [if_neg fun hle => hin fun a => by
      match a with
      | ⟨0, _⟩ =>
        show 0 ≤ b.val * 1 + ((⟨5, ![1, 1, N, 1, 1]⟩ : Shape).rowMajor.symm n 0).val
          ∧ b.val * 1 + ((⟨5, ![1, 1, N, 1, 1]⟩ : Shape).rowMajor.symm n 0).val - 0 < 16
        rw [h0]; omega
      | ⟨1, _⟩ =>
        show 0 ≤ q.val * 1 + ((⟨5, ![1, 1, N, 1, 1]⟩ : Shape).rowMajor.symm n 1).val
          ∧ q.val * 1 + ((⟨5, ![1, 1, N, 1, 1]⟩ : Shape).rowMajor.symm n 1).val - 0 < 2
        rw [h1]; omega
      | ⟨2, _⟩ =>
        show M ≤ t.val * 1 + ((⟨5, ![1, 1, N, 1, 1]⟩ : Shape).rowMajor.symm n 2).val
          ∧ t.val * 1 + ((⟨5, ![1, 1, N, 1, 1]⟩ : Shape).rowMajor.symm n 2).val - M < N
        rw [h2]; omega
      | ⟨3, _⟩ =>
        show 0 ≤ g.val * 1 + ((⟨5, ![1, 1, N, 1, 1]⟩ : Shape).rowMajor.symm n 3).val
          ∧ g.val * 1 + ((⟨5, ![1, 1, N, 1, 1]⟩ : Shape).rowMajor.symm n 3).val - 0 < 4
        rw [h3]; omega
      | ⟨4, _⟩ =>
        show 0 ≤ r.val * 1 + ((⟨5, ![1, 1, N, 1, 1]⟩ : Shape).rowMajor.symm n 4).val
          ∧ r.val * 1 + ((⟨5, ![1, 1, N, 1, 1]⟩ : Shape).rowMajor.symm n 4).val - 0 < 4
        rw [h4]; omega]

/-- A running sum over the rows in the other order is the sum of a chunk's tail. -/
theorem pre_tail (d : Fin 128 → EReal) (a : EReal) (l : Fin 128) :
    pre (fun s => if h : s < 128 then d (⟨s, h⟩ : Fin 128).rev * a else 0) (l.val + 1) = tailSum d a l.rev := by
  unfold tailSum pre
  rw [← Equiv.sum_comp Fin.revPerm]
  simp only [Fin.revPerm_apply, Fin.rev_le_rev]
  rw [Finset.sum_fin_eq_sum_range]
  refine (Finset.sum_congr rfl fun s hs => ?_).trans (Finset.sum_subset (fun s hs => Finset.mem_range.2 ?_) fun s hs hn => ?_)
  · have hl : s < l.val + 1 := Finset.mem_range.1 hs
    have h : s < 128 := by omega
    rw [dif_pos h, dif_pos h, if_pos (Fin.le_def.2 (show s ≤ l.val by omega))]
  · have := Finset.mem_range.1 hs; omega
  · rw [dif_pos (Finset.mem_range.1 hs), if_neg]
    intro hle
    exact hn (Finset.mem_range.2 (Nat.lt_succ_of_le (Fin.le_def.1 hle)))

/-! ## The operands -/

/-- Head `h`'s group. -/
abbrev gq (h : Fin 16) : Fin 4 := ⟨h.val / 4, by omega⟩
/-- Head `h`'s place in its group. -/
abbrev gr (h : Fin 16) : Fin 4 := ⟨h.val % 4, by omega⟩
/-- Row `l` of chunk `q`. -/
abbrev row (q : Fin 2) (l : Fin 128) : Fin 256 := ⟨128 * q.val + l.val, by omega⟩

theorem row_rev (q : Fin 2) (l : Fin 128) : (row q l).rev = row q.rev l.rev :=
  Fin.ext (by rw [Fin.val_rev]; show 256 - (128 * q.val + l.val + 1) = 128 * q.rev.val + l.rev.val; rw [Fin.val_rev, Fin.val_rev]; omega)

variable (x0 : S16x256x2048.Idx → EReal) (x1 : S16x256x128.Idx → EReal) (x2 x3 : S1x2x16.Idx → EReal)

theorem v3_at (b : Fin 16) (t : Fin 256) (h : Fin 16) (p : Fin 64) :
    val_main_v3 (F := Ideal) x0 (ix5 b t (gq h) (gr h) p) = x0 (ix3 b t ⟨64 * h.val + p.val, by omega⟩) := by
  rw [val_main_v3_apply, val_main_v0_apply]
  refine congrArg x0 (funext fun a => Fin.ext ?_)
  fin_cases a <;> simp <;> omega

theorem v4_at (b : Fin 16) (t : Fin 256) (h : Fin 16) (n : Fin 128) :
    val_main_v4 (F := Ideal) x0 (ix4 b t (gq h) n) = x0 (ix3 b t ⟨1024 + 128 * (h.val / 4) + n.val, by omega⟩) := by
  rw [val_main_v4_apply, val_main_v1_apply]
  refine congrArg x0 (funext fun a => Fin.ext ?_)
  fin_cases a <;> simp <;> omega

theorem v6_at (b : Fin 16) (t : Fin 256) (h : Fin 16) :
    val_main_v6 (F := Ideal) x1 (ix5 b t 1 (gq h) (gr h)) = x1 (ix3 b t ⟨16 + h.val, by omega⟩) := by
  rw [val_main_v6_apply, val_main_v5_apply]
  refine congrArg x1 (funext fun a => Fin.ext ?_)
  fin_cases a <;> simp <;> omega

theorem v10_at (b : Fin 16) (t : Fin 256) (h : Fin 16) :
    val_main_v10 (F := Ideal) x3 (ix5 b t 1 (gq h) (gr h)) = x3 (ix3 0 1 h) := by
  rw [val_main_v10_apply, val_main_v9_apply, val_main_v8_apply, val_main_v7_apply]
  refine congrArg x3 (funext fun a => Fin.ext ?_)
  fin_cases a <;> simp <;> omega

theorem softplus_at (i : S16x256x2x4x4.Idx) : val_main_v12 (F := Ideal) x1 x3 i = sp (val_main_v11 (F := Ideal) x1 x3 i) := by
  have hz : ∀ j, val_main_call0_cst (F := Ideal) j = (0 : EReal) := fun _ => Ideal.ofBits_zero_f32
  have h4 : val_main_call0_v4 (F := Ideal) x1 x3 i = 0#1 := by
    rw [val_main_call0_v4_apply]
    show BitVec.ofBool (decide (_ ≠ _)) = 0#1
    simp
  have h3 : val_main_call0_v3 (F := Ideal) x1 x3 i = val_main_v11 (F := Ideal) x1 x3 i := by
    rw [val_main_call0_v3_apply, val_main_call0_v2_apply, hz]
    show _ - (0 : EReal) = _
    rw [sub_eq_add_neg, neg_zero, add_zero]
  rw [val_main_v12_apply, h4, val_main_call0_v11_apply, val_main_call0_v1_apply, val_main_call0_v0_apply, hz, val_main_call0_v10_apply,
    val_main_call0_v9_apply, val_main_call0_v8_apply, val_main_call0_v7_apply, h3]
  show max _ (0 : EReal) + Ideal.log1p (Ideal.exp (-FloatOps.absf (F := Ideal) (φ := .f32) (val_main_v11 (F := Ideal) x1 x3 i))) = _
  unfold sp
  rw [sub_eq_add_neg, zero_add]

/-- Head `h`'s step sizes along chunk `q`. -/
abbrev dtC (b : Fin 16) (q : Fin 2) (h : Fin 16) (l : Fin 128) : EReal :=
  sp (x1 (ix3 b (row q l) ⟨16 + h.val, by omega⟩) + x3 (ix3 0 1 h))

/-- Head `h`'s rate. -/
abbrev rate (h : Fin 16) : EReal := 0 - Ideal.exp (x2 (ix3 0 1 h))

theorem v19_at (b : Fin 16) (t : Fin 256) (h : Fin 16) :
    val_main_v19 (F := Ideal) x1 x3 (ix4 b t (gq h) (gr h)) = sp (x1 (ix3 b t ⟨16 + h.val, by omega⟩) + x3 (ix3 0 1 h)) := by
  rw [val_main_v19_apply, val_main_v18_apply, softplus_at]
  refine congrArg sp ((congrArg (val_main_v11 (F := Ideal) x1 x3) (?_ : _ = ix5 b t 1 (gq h) (gr h))).trans ?_)
  · funext a; apply Fin.ext
    fin_cases a <;> simp <;> omega
  · rw [val_main_v11_apply, v6_at, v10_at]; rfl

theorem v20_at (b : Fin 16) (q : Fin 2) (l : Fin 128) (h : Fin 16) :
    val_main_v20 (F := Ideal) x1 x3 (ix4 b (row q l) (gq h) (gr h)) = dtC x1 x3 b q.rev h l.rev := by
  refine (congrArg (val_main_v19 (F := Ideal) x1 x3) (?_ : _ = ix4 b (row q.rev l.rev) (gq h) (gr h))).trans (v19_at x1 x3 b _ h)
  rw [← row_rev]
  funext a; fin_cases a <;> rfl

theorem v17_at (b : Fin 16) (q : Fin 2) (l : Fin 128) (h : Fin 16) (p : Fin 64) :
    val_main_v17 (F := Ideal) x0 (ix5 b (row q l) (gq h) (gr h) p) = x0 (ix3 b (row q.rev l.rev) ⟨64 * h.val + p.val, by omega⟩) := by
  refine (congrArg (val_main_v3 (F := Ideal) x0) (?_ : _ = ix5 b (row q.rev l.rev) (gq h) (gr h) p)).trans (v3_at x0 b _ h p)
  rw [← row_rev]
  funext a; fin_cases a <;> rfl

theorem v21_at (b : Fin 16) (q : Fin 2) (l : Fin 128) (h : Fin 16) (n : Fin 128) :
    val_main_v21 (F := Ideal) x0 (ix4 b (row q l) (gq h) n) = x0 (ix3 b (row q.rev l.rev) ⟨1024 + 128 * (h.val / 4) + n.val, by omega⟩) := by
  refine (congrArg (val_main_v4 (F := Ideal) x0) (?_ : _ = ix4 b (row q.rev l.rev) (gq h) n)).trans (v4_at x0 b _ h n)
  rw [← row_rev]
  funext a; fin_cases a <;> rfl

theorem v25_at (b : Fin 16) (t : Fin 256) (h : Fin 16) : val_main_v25 (F := Ideal) x2 (ix4 b t (gq h) (gr h)) = rate x2 h := by
  rw [val_main_v25_apply, val_main_v24_apply, val_main_v23_apply, val_main_v22_apply, val_main_v16_apply, val_main_v15_apply, val_main_v14_apply,
    val_main_v13_apply]
  show -Ideal.exp _ = 0 - _
  rw [sub_eq_add_neg, zero_add]
  refine congrArg (fun i => -Ideal.exp (x2 i)) (funext fun a => Fin.ext ?_)
  fin_cases a <;> simp <;> omega

theorem v27_at (b : Fin 16) (q : Fin 2) (l : Fin 128) (h : Fin 16) :
    val_main_v27 (F := Ideal) x1 x2 x3 (ix5 b q l (gq h) (gr h)) = dtC x1 x3 b q.rev h l.rev * rate x2 h := by
  rw [val_main_v27_apply]
  refine (congrArg (val_main_v26 (F := Ideal) x1 x2 x3) (?_ : _ = ix4 b (row q l) (gq h) (gr h))).trans ?_
  · funext a; apply Fin.ext
    fin_cases a <;> simp <;> omega
  · rw [val_main_v26_apply, v20_at, v25_at]; rfl

theorem v33_at (b : Fin 16) (q : Fin 2) (l : Fin 128) (h : Fin 16) :
    val_main_v33 (F := Ideal) x1 x2 x3 (ix5 b q l (gq h) (gr h)) = tailSum (dtC x1 x3 b q.rev h) (rate x2 h) l.rev := by
  refine Eq.trans ?_ (pre_tail (dtC x1 x3 b q.rev h) (rate x2 h) l)
  exact cumsum5 (N := 128) (M := 127) rfl _ b q l (gq h) (gr h) _ (fun s => by
    rw [v27_at, dif_pos s.isLt]) _ (fun i => by
    rw [val_main_call4_call0_v0_apply]; exact Ideal.ofBits_zero_f32) _ _

theorem v31_at (b : Fin 16) (q : Fin 2) (l : Fin 128) (h : Fin 16) (p : Fin 64) :
    val_main_v31 (F := Ideal) x0 x1 x3 (ix6 b q l (gq h) (gr h) p)
      = x0 (ix3 b (row q.rev l.rev) ⟨64 * h.val + p.val, by omega⟩) * dtC x1 x3 b q.rev h l.rev := by
  refine (shapeCast_apply (val_main_v30 (F := Ideal) x0 x1 x3) _ _ (ix5 b (row q l) (gq h) (gr h) p) (by
    rw [Shape.rowMajor_val_five, Shape.rowMajor_val_six]
    show (((b.val * 256 + (128 * q.val + l.val)) * 4 + (h.val / 4)) * 4 + h.val % 4) * 64 + p.val
      = ((((b.val * 2 + q.val) * 128 + l.val) * 4 + (h.val / 4)) * 4 + h.val % 4) * 64 + p.val
    omega)).trans ?_
  rw [val_main_v30_apply, v17_at, val_main_v29_apply, val_main_v28_apply,
    show idx_main_v28 (idx_main_v29 (ix5 b (row q l) (gq h) (gr h) p)) = ix4 b (row q l) (gq h) (gr h) from funext fun a => by fin_cases a <;> rfl,
    v20_at]
  rfl

theorem v32_at (b : Fin 16) (q : Fin 2) (l : Fin 128) (h : Fin 16) (n : Fin 128) :
    val_main_v32 (F := Ideal) x0 (ix5 b q l (gq h) n) = x0 (ix3 b (row q.rev l.rev) ⟨1024 + 128 * (h.val / 4) + n.val, by omega⟩) := by
  rw [val_main_v32_apply]
  refine (congrArg (val_main_v21 (F := Ideal) x0) (?_ : _ = ix4 b (row q l) (gq h) n)).trans (v21_at x0 b q l h n)
  funext a; apply Fin.ext
  fin_cases a <;> simp <;> omega

theorem v39_at (b : Fin 16) (q : Fin 2) (l : Fin 128) (h : Fin 16) (p : Fin 64) :
    val_main_v39 (F := Ideal) x1 x2 x3 (ix6 b q l (gq h) (gr h) p)
      = Ideal.exp (tailSum (dtC x1 x3 b q.rev h) (rate x2 h) 0 - tailSum (dtC x1 x3 b q.rev h) (rate x2 h) l.rev) := by
  rw [val_main_v39_apply, val_main_v38_apply, val_main_v37_apply, val_main_v36_apply, val_main_v35_apply, val_main_v34_apply,
    show idx_main_v38 (idx_main_v39 (ix6 b q l (gq h) (gr h) p)) = ix5 b q l (gq h) (gr h) from funext fun a => by fin_cases a <;> rfl,
    show idx_main_v34 (idx_main_v35 (ix5 b q l (gq h) (gr h))) = ix5 b q (127 : Fin 128) (gq h) (gr h) from funext fun a => by fin_cases a <;> rfl,
    v33_at, v33_at]
  rfl

theorem v44_at (b : Fin 16) (q : Fin 2) (h : Fin 16) :
    val_main_v44 (F := Ideal) x1 x2 x3 (ix4 b q (gq h) (gr h)) = Ideal.exp (tailSum (dtC x1 x3 b q.rev h) (rate x2 h) 0) := by
  rw [val_main_v44_apply, val_main_v43_apply, val_main_v42_apply]
  refine congrArg Ideal.exp ((congrArg (val_main_v33 (F := Ideal) x1 x2 x3) (?_ : _ = ix5 b q (127 : Fin 128) (gq h) (gr h))).trans (v33_at x1 x2 x3 b q 127 h))
  funext a; apply Fin.ext
  fin_cases a <;> simp <;> omega

theorem v41_at (b : Fin 16) (q : Fin 2) (h : Fin 16) (p : Fin 64) (n : Fin 128) :
    val_main_v41 (F := Ideal) x0 x1 x2 x3 (ix6 b q (gq h) (gr h) p n)
      = ∑ l : Fin 128, x0 (ix3 b (row q.rev l) ⟨1024 + 128 * (h.val / 4) + n.val, by omega⟩)
          * (x0 (ix3 b (row q.rev l) ⟨64 * h.val + p.val, by omega⟩) * weight (dtC x1 x3 b q.rev h) (rate x2 h) l) := by
  rw [val_main_v41_apply, ← Equiv.sum_comp Fin.revPerm]
  refine Finset.sum_congr rfl fun l _ => ?_
  rw [Fin.revPerm_apply,
    show lidx_main_v41 (ix6 b q (gq h) (gr h) p n) l.rev = ix6 b q l.rev (gq h) (gr h) p from funext fun a => by fin_cases a <;> rfl,
    show ridx_main_v41 (ix6 b q (gq h) (gr h) p n) l.rev = ix5 b q l.rev (gq h) n from funext fun a => by fin_cases a <;> rfl,
    val_main_v40_apply, v39_at, v31_at, v32_at, Fin.rev_rev]
  unfold weight
  rw [mul_comm (G := EReal)]
  exact congrArg _ ((mul_comm (G := EReal) _ _).trans (mul_assoc _ _ _))

/-! ## The two chunks' steps -/

theorem v49_at (b : Fin 16) (h : Fin 16) (p : Fin 64) (n : Fin 128) :
    val_main_v49 (F := Ideal) x1 x2 x3 (ix5 b (gq h) (gr h) p n) = Ideal.exp (tailSum (dtC x1 x3 b 1 h) (rate x2 h) 0) := by
  rw [val_main_v49_apply, val_main_v48_apply, val_main_v47_apply, val_main_v46_apply]
  refine (congrArg (val_main_v44 (F := Ideal) x1 x2 x3) (?_ : _ = ix4 b 0 (gq h) (gr h))).trans (v44_at x1 x2 x3 b 0 h)
  funext a; apply Fin.ext
  fin_cases a <;> simp <;> omega

theorem v57_at (b : Fin 16) (h : Fin 16) (p : Fin 64) (n : Fin 128) :
    val_main_v57 (F := Ideal) x1 x2 x3 (ix5 b (gq h) (gr h) p n) = Ideal.exp (tailSum (dtC x1 x3 b 0 h) (rate x2 h) 0) := by
  rw [val_main_v57_apply, val_main_v56_apply, val_main_v55_apply, val_main_v54_apply]
  refine (congrArg (val_main_v44 (F := Ideal) x1 x2 x3) (?_ : _ = ix4 b 1 (gq h) (gr h))).trans (v44_at x1 x2 x3 b 1 h)
  funext a; apply Fin.ext
  fin_cases a <;> simp <;> omega

theorem drop_axis (x : S16x1x4x4x64x128.Idx → EReal) (hs) (b : Fin 16) (g r : Fin 4) (p : Fin 64) (n : Fin 128) :
    shapeCast S16x4x4x64x128 x hs (ix5 b g r p n) = x (ix6 b 0 g r p n) :=
  shapeCast_apply x hs _ (ix6 b (0 : Fin 1) g r p n) (by
    rw [Shape.rowMajor_val_five, Shape.rowMajor_val_six]
    show ((((b.val * 1 + 0) * 4 + g.val) * 4 + r.val) * 64 + p.val) * 128 + n.val = (((b.val * 4 + g.val) * 4 + r.val) * 64 + p.val) * 128 + n.val
    omega)

theorem v52_at (b : Fin 16) (h : Fin 16) (p : Fin 64) (n : Fin 128) :
    val_main_v52 (F := Ideal) x0 x1 x2 x3 (ix5 b (gq h) (gr h) p n) = val_main_v41 (F := Ideal) x0 x1 x2 x3 (ix6 b 0 (gq h) (gr h) p n) := by
  refine (drop_axis (val_main_v51 (F := Ideal) x0 x1 x2 x3) _ b (gq h) (gr h) p n).trans ?_
  rw [val_main_v51_apply]
  exact congrArg _ (funext fun a => by fin_cases a <;> rfl)

theorem v60_at (b : Fin 16) (h : Fin 16) (p : Fin 64) (n : Fin 128) :
    val_main_v60 (F := Ideal) x0 x1 x2 x3 (ix5 b (gq h) (gr h) p n) = val_main_v41 (F := Ideal) x0 x1 x2 x3 (ix6 b 1 (gq h) (gr h) p n) := by
  refine (drop_axis (val_main_v59 (F := Ideal) x0 x1 x2 x3) _ b (gq h) (gr h) p n).trans ?_
  rw [val_main_v59_apply]
  exact congrArg _ (funext fun a => by fin_cases a <;> rfl)

theorem v61_at (b : Fin 16) (h : Fin 16) (p : Fin 64) (n : Fin 128) :
    val_main_v61 (F := Ideal) x0 x1 x2 x3 (ix5 b (gq h) (gr h) p n)
      = chunkOf x0 x1 x2 x3 b 0 h p n (chunkOf x0 x1 x2 x3 b 1 h p n 0) := by
  rw [val_main_v61_apply, val_main_v58_apply, val_main_v53_apply, val_main_v50_apply, val_main_v45_apply, val_main_cst_apply, v49_at, v57_at,
    v52_at, v60_at, v41_at, v41_at,
    show (FloatOps.ofBits (F := Ideal) .f32 0x00000000#32 : EReal) = 0 from Ideal.ofBits_zero_f32]
  rfl

theorem v62_at : val_main_v62 (F := Ideal) x0 x1 x2 x3 = result x0 x1 x2 x3 := by
  funext y
  rw [val_main_v62_apply]
  refine (congrArg (val_main_v61 (F := Ideal) x0 x1 x2 x3) (?_ : _ = ix5 (y 0) (gq (y 1)) (gr (y 1)) (y 2) (y 3))).trans (v61_at x0 x1 x2 x3 _ _ _ _)
  have h0 : (y 0).val < 16 := (y 0).isLt
  have h1 : (y 1).val < 16 := (y 1).isLt
  have h2 : (y 2).val < 64 := (y 2).isLt
  have h3 : (y 3).val < 128 := (y 3).isLt
  funext a; apply Fin.ext
  fin_cases a <;> simp <;> omega

end Cert.Reference7Ideal.Read

namespace Cert.ScanStep

open Idealize.ShloMosaic Idealize.ShloMosaic.TcCoe Idealize.SL.Sem
open Cert.Reference7Ideal.Gen Cert.Reference7Ideal.Read

theorem frame_reference : Cert.quiescent_Reference7Ideal :=
  fun m ρ _ => (θ_run Cert.Reference7Ideal.defs _ _).mono (fun r h => ⟨fun c => (h c).2, sem_eq_zero_of_no_sems (by decide) r.2⟩)
    (Cert.Reference7Ideal.Value.run (F := Ideal) m ρ)

/-- The backward scan's call stores the reference's final states. -/
theorem algebraic : Cert.algebraic_Kernel7Ideal_Reference7Ideal := by
  intro m ρ m' ρ' _ hagree
  refine ⟨_, (θ_run Cert.Kernel7Ideal.defs _ _).mono (fun _ h c => (h c).2) (Cert.Kernel7Ideal.Value.run_blocks (F := Ideal) m ρ), ?_⟩
  refine (θ_run Cert.Reference7Ideal.defs _ _).mono (fun _ h c => ⟨(h c).1.trans ?_, (h c).2⟩)
    (Cert.Reference7Ideal.Value.run (F := Ideal) m' ρ')
  obtain ⟨a0, a1, a2, a3⟩ := hagree c
  rw [val_main_v62_eq, a0, a1, a2, a3]
  exact (v62_at _ _ _ _).trans (Cert.Kernel7Ideal.Val.final4 m c).symm

end Cert.ScanStep

end
-- ==== Proof.lean ====
/- The proof of the certificate's claim: the witnesses of the programs' stated facts, then the claims, each proved in its
   own module. -/
module

public import proofs.«01_k».proof.Proof.Claims
public import proofs.«01_k».proof.Proof.EvenOutRef
public import proofs.«01_k».proof.Proof.EvenRef
public import proofs.«01_k».proof.Proof.LastPrompt
public import proofs.«01_k».proof.Proof.LastRef
public import proofs.«01_k».proof.Proof.ProjRef
public import proofs.«01_k».proof.Proof.ScanRef
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference2Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.Gen.facts, Cert.Pre_finite6.Gen.facts,
    fun m ρ _ => Cert.Kernel.Gen.frame m ρ, fun m ρ _ => Cert.KernelIdeal.Gen.frame m ρ, fun m ρ _ => Cert.KernelIdeal.Gen.frame m ρ,
    Cert.DiffAttn.frame_reference, fun m ρ _ => Cert.DiffAttn.frame_reference m ρ trivial,
    fun m ρ _ => Cert.Kernel2.Gen.frame m ρ, fun m ρ _ => Cert.Kernel2Ideal.Gen.frame m ρ, Cert.Projections.frame_reference,
    fun m ρ _ => Cert.Kernel3.Gen.frame m ρ, fun m ρ _ => Cert.Kernel3Ideal.Gen.frame m ρ, Cert.LastStep.frame_reference,
    fun m ρ _ => Cert.Kernel4.Gen.frame m ρ, fun m ρ _ => Cert.Kernel4Ideal.Gen.frame m ρ, Cert.EvenStep.frame_reference,
    fun m ρ _ => Cert.Kernel5.Gen.frame m ρ, fun m ρ _ => Cert.Kernel5Ideal.Gen.frame m ρ, Cert.LastStepPrompt.frame_reference,
    fun m ρ _ => Cert.Kernel6.Gen.frame m ρ, fun m ρ _ => Cert.Kernel6Ideal.Gen.frame m ρ, fun m ρ _ => Cert.Kernel6Ideal.Gen.frame m ρ,
    Cert.EvenOutStep.frame_reference, fun m ρ _ => Cert.EvenOutStep.frame_reference m ρ trivial,
    fun m ρ _ => Cert.Kernel7.Gen.frame m ρ, fun m ρ _ => Cert.Kernel7Ideal.Gen.frame m ρ, Cert.ScanStep.frame_reference,
    Cert.DiffAttn.preserves, Cert.DiffAttn.algebraic, trivial, Cert.Projections.algebraic, trivial, Cert.LastStep.algebraic,
    trivial, Cert.EvenStep.algebraic, trivial, Cert.LastStepPrompt.algebraic, trivial, Cert.EvenOutStep.algebraic,
    trivial, Cert.ScanStep.algebraic⟩

end Cert.Proof

end
